-- ==== Defs.lean ====
def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def Pre_Sample (m : (ℓ : Loc Cert.Sample.nD Cert.Sample.τ Cert.Sample.sig) → Buf (Elt Bits) ℓ) : Prop :=
  True

def Pre_SampleIdeal (m : (ℓ : Loc Cert.SampleIdeal.nD Cert.SampleIdeal.τ Cert.SampleIdeal.sig) → Buf (Elt Ideal) ℓ) : Prop :=
  True

def Pre_SampleRefIdeal (m : (ℓ : Loc Cert.SampleRefIdeal.nD Cert.SampleRefIdeal.τ Cert.SampleRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))) = (fun _ => 1#1)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6)
      ∧ r.2.mem ((c.tc : Thread Cert.Post.nD Cert.Post.τ).loc Cert.Post.main_arg7) = m ((c.tc : Thread Cert.Post.nD Cert.Post.τ).loc Cert.Post.main_arg7)
      ∧ r.2.mem ((c.tc : Thread Cert.Post.nD Cert.Post.τ).loc Cert.Post.main_arg8) = m ((c.tc : Thread Cert.Post.nD Cert.Post.τ).loc Cert.Post.main_arg8)
      ∧ r.2.mem ((c.tc : Thread Cert.Post.nD Cert.Post.τ).loc Cert.Post.main_arg9) = m ((c.tc : Thread Cert.Post.nD Cert.Post.τ).loc Cert.Post.main_arg9))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
      ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
      ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
      ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6)
      ∧ r.2.mem ((c.tc : Thread Cert.PostRefIdeal.nD Cert.PostRefIdeal.τ).loc Cert.PostRefIdeal.main_arg7) = m ((c.tc : Thread Cert.PostRefIdeal.nD Cert.PostRefIdeal.τ).loc Cert.PostRefIdeal.main_arg7)
      ∧ r.2.mem ((c.tc : Thread Cert.PostRefIdeal.nD Cert.PostRefIdeal.τ).loc Cert.PostRefIdeal.main_arg8) = m ((c.tc : Thread Cert.PostRefIdeal.nD Cert.PostRefIdeal.τ).loc Cert.PostRefIdeal.main_arg8)
      ∧ r.2.mem ((c.tc : Thread Cert.PostRefIdeal.nD Cert.PostRefIdeal.τ).loc Cert.PostRefIdeal.main_arg9) = m ((c.tc : Thread Cert.PostRefIdeal.nD Cert.PostRefIdeal.τ).loc Cert.PostRefIdeal.main_arg9))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5)
      ∧ r.2.mem ((c.tc : Thread Cert.Inproj.nD Cert.Inproj.τ).loc Cert.Inproj.main_arg6) = m ((c.tc : Thread Cert.Inproj.nD Cert.Inproj.τ).loc Cert.Inproj.main_arg6))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
      ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5)
      ∧ r.2.mem ((c.tc : Thread Cert.InprojRefIdeal.nD Cert.InprojRefIdeal.τ).loc Cert.InprojRefIdeal.main_arg6) = m ((c.tc : Thread Cert.InprojRefIdeal.nD Cert.InprojRefIdeal.τ).loc Cert.InprojRefIdeal.main_arg6))
      ∧ r.2.sem = fun _ => 0)

def quiescent_Sample [hSample : Cert.Sample.Facts] : Prop :=
  ∀ (m : (ℓ : Loc Cert.Sample.nD Cert.Sample.τ Cert.Sample.sig) → Buf (Elt Bits) ℓ) (g : Dev Cert.Sample.nD → PrngReg), Pre_Sample m →
    θ_run (Cert.Sample.defs (F := Bits)) (onTc (τ := Cert.Sample.τ) (Cert.Sample.main (F := Bits))) ⟨m, fun _ => 0, g⟩ (fun r => (∀ c : Dev Cert.Sample.nD,
      r.2.mem ((c.tc : Thread Cert.Sample.nD Cert.Sample.τ).loc Cert.Sample.main_arg0) = m ((c.tc : Thread Cert.Sample.nD Cert.Sample.τ).loc Cert.Sample.main_arg0)
      ∧ r.2.mem ((c.tc : Thread Cert.Sample.nD Cert.Sample.τ).loc Cert.Sample.main_arg1) = m ((c.tc : Thread Cert.Sample.nD Cert.Sample.τ).loc Cert.Sample.main_arg1)
      ∧ r.2.mem ((c.tc : Thread Cert.Sample.nD Cert.Sample.τ).loc Cert.Sample.main_arg2) = m ((c.tc : Thread Cert.Sample.nD Cert.Sample.τ).loc Cert.Sample.main_arg2)
      ∧ r.2.mem ((c.tc : Thread Cert.Sample.nD Cert.Sample.τ).loc Cert.Sample.main_arg3) = m ((c.tc : Thread Cert.Sample.nD Cert.Sample.τ).loc Cert.Sample.main_arg3)
      ∧ r.2.mem ((c.tc : Thread Cert.Sample.nD Cert.Sample.τ).loc Cert.Sample.main_arg4) = m ((c.tc : Thread Cert.Sample.nD Cert.Sample.τ).loc Cert.Sample.main_arg4)
      ∧ r.2.mem ((c.tc : Thread Cert.Sample.nD Cert.Sample.τ).loc Cert.Sample.main_arg5) = m ((c.tc : Thread Cert.Sample.nD Cert.Sample.τ).loc Cert.Sample.main_arg5)
      ∧ r.2.mem ((c.tc : Thread Cert.Sample.nD Cert.Sample.τ).loc Cert.Sample.main_arg6) = m ((c.tc : Thread Cert.Sample.nD Cert.Sample.τ).loc Cert.Sample.main_arg6)
      ∧ r.2.mem ((c.tc : Thread Cert.Sample.nD Cert.Sample.τ).loc Cert.Sample.main_arg7) = m ((c.tc : Thread Cert.Sample.nD Cert.Sample.τ).loc Cert.Sample.main_arg7)
      ∧ r.2.mem ((c.tc : Thread Cert.Sample.nD Cert.Sample.τ).loc Cert.Sample.main_arg8) = m ((c.tc : Thread Cert.Sample.nD Cert.Sample.τ).loc Cert.Sample.main_arg8)
      ∧ r.2.mem ((c.tc : Thread Cert.Sample.nD Cert.Sample.τ).loc Cert.Sample.main_arg9) = m ((c.tc : Thread Cert.Sample.nD Cert.Sample.τ).loc Cert.Sample.main_arg9))
      ∧ r.2.sem = fun _ => 0)

def quiescent_SampleIdeal [hSampleIdeal : Cert.SampleIdeal.Facts] : Prop :=
  ∀ (m : (ℓ : Loc Cert.SampleIdeal.nD Cert.SampleIdeal.τ Cert.SampleIdeal.sig) → Buf (Elt Ideal) ℓ) (g : Dev Cert.SampleIdeal.nD → PrngReg), Pre_SampleIdeal m →
    θ_run (Cert.SampleIdeal.defs (F := Ideal)) (onTc (τ := Cert.SampleIdeal.τ) (Cert.SampleIdeal.main (F := Ideal))) ⟨m, fun _ => 0, g⟩ (fun r => (∀ c : Dev Cert.SampleIdeal.nD,
      r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
      ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
      ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
      ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
      ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
      ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
      ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
      ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
      ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
      ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9))
      ∧ r.2.sem = fun _ => 0)

def quiescent_SampleRefIdeal [hSampleRefIdeal : Cert.SampleRefIdeal.Facts] : Prop :=
  ∀ (m : (ℓ : Loc Cert.SampleRefIdeal.nD Cert.SampleRefIdeal.τ Cert.SampleRefIdeal.sig) → Buf (Elt Ideal) ℓ) (g : Dev Cert.SampleRefIdeal.nD → PrngReg), Pre_SampleRefIdeal m →
    θ_run (Cert.SampleRefIdeal.defs (F := Ideal)) (onTc (τ := Cert.SampleRefIdeal.τ) (Cert.SampleRefIdeal.main (F := Ideal))) ⟨m, fun _ => 0, g⟩ (fun r => (∀ c : Dev Cert.SampleRefIdeal.nD,
      r.2.mem ((c.tc : Thread Cert.SampleRefIdeal.nD Cert.SampleRefIdeal.τ).loc Cert.SampleRefIdeal.main_arg0) = m ((c.tc : Thread Cert.SampleRefIdeal.nD Cert.SampleRefIdeal.τ).loc Cert.SampleRefIdeal.main_arg0)
      ∧ r.2.mem ((c.tc : Thread Cert.SampleRefIdeal.nD Cert.SampleRefIdeal.τ).loc Cert.SampleRefIdeal.main_arg1) = m ((c.tc : Thread Cert.SampleRefIdeal.nD Cert.SampleRefIdeal.τ).loc Cert.SampleRefIdeal.main_arg1)
      ∧ r.2.mem ((c.tc : Thread Cert.SampleRefIdeal.nD Cert.SampleRefIdeal.τ).loc Cert.SampleRefIdeal.main_arg2) = m ((c.tc : Thread Cert.SampleRefIdeal.nD Cert.SampleRefIdeal.τ).loc Cert.SampleRefIdeal.main_arg2)
      ∧ r.2.mem ((c.tc : Thread Cert.SampleRefIdeal.nD Cert.SampleRefIdeal.τ).loc Cert.SampleRefIdeal.main_arg3) = m ((c.tc : Thread Cert.SampleRefIdeal.nD Cert.SampleRefIdeal.τ).loc Cert.SampleRefIdeal.main_arg3)
      ∧ r.2.mem ((c.tc : Thread Cert.SampleRefIdeal.nD Cert.SampleRefIdeal.τ).loc Cert.SampleRefIdeal.main_arg4) = m ((c.tc : Thread Cert.SampleRefIdeal.nD Cert.SampleRefIdeal.τ).loc Cert.SampleRefIdeal.main_arg4)
      ∧ r.2.mem ((c.tc : Thread Cert.SampleRefIdeal.nD Cert.SampleRefIdeal.τ).loc Cert.SampleRefIdeal.main_arg5) = m ((c.tc : Thread Cert.SampleRefIdeal.nD Cert.SampleRefIdeal.τ).loc Cert.SampleRefIdeal.main_arg5)
      ∧ r.2.mem ((c.tc : Thread Cert.SampleRefIdeal.nD Cert.SampleRefIdeal.τ).loc Cert.SampleRefIdeal.main_arg6) = m ((c.tc : Thread Cert.SampleRefIdeal.nD Cert.SampleRefIdeal.τ).loc Cert.SampleRefIdeal.main_arg6)
      ∧ r.2.mem ((c.tc : Thread Cert.SampleRefIdeal.nD Cert.SampleRefIdeal.τ).loc Cert.SampleRefIdeal.main_arg7) = m ((c.tc : Thread Cert.SampleRefIdeal.nD Cert.SampleRefIdeal.τ).loc Cert.SampleRefIdeal.main_arg7)
      ∧ r.2.mem ((c.tc : Thread Cert.SampleRefIdeal.nD Cert.SampleRefIdeal.τ).loc Cert.SampleRefIdeal.main_arg8) = m ((c.tc : Thread Cert.SampleRefIdeal.nD Cert.SampleRefIdeal.τ).loc Cert.SampleRefIdeal.main_arg8)
      ∧ r.2.mem ((c.tc : Thread Cert.SampleRefIdeal.nD Cert.SampleRefIdeal.τ).loc Cert.SampleRefIdeal.main_arg9) = m ((c.tc : Thread Cert.SampleRefIdeal.nD Cert.SampleRefIdeal.τ).loc Cert.SampleRefIdeal.main_arg9))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)
      ∧ m' ((c.tc : Thread Cert.PostRefIdeal.nD Cert.PostRefIdeal.τ).loc Cert.PostRefIdeal.main_arg7) = m ((c.tc : Thread Cert.PostIdeal.nD Cert.PostIdeal.τ).loc Cert.PostIdeal.main_arg7)
      ∧ m' ((c.tc : Thread Cert.PostRefIdeal.nD Cert.PostRefIdeal.τ).loc Cert.PostRefIdeal.main_arg8) = m ((c.tc : Thread Cert.PostIdeal.nD Cert.PostIdeal.τ).loc Cert.PostIdeal.main_arg8)
      ∧ m' ((c.tc : Thread Cert.PostRefIdeal.nD Cert.PostRefIdeal.τ).loc Cert.PostRefIdeal.main_arg9) = m ((c.tc : Thread Cert.PostIdeal.nD Cert.PostIdeal.τ).loc Cert.PostIdeal.main_arg9)) →
    ∃ (v0 : (c : Dev Cert.PostIdeal.nD) → Buf (Elt Ideal) ((c.tc : Thread Cert.PostIdeal.nD Cert.PostIdeal.τ).loc Cert.PostIdeal.main_v19)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v19) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6)
          ∧ r.2.mem ((c.tc : Thread Cert.PostIdeal.nD Cert.PostIdeal.τ).loc Cert.PostIdeal.main_arg7) = m ((c.tc : Thread Cert.PostIdeal.nD Cert.PostIdeal.τ).loc Cert.PostIdeal.main_arg7)
          ∧ r.2.mem ((c.tc : Thread Cert.PostIdeal.nD Cert.PostIdeal.τ).loc Cert.PostIdeal.main_arg8) = m ((c.tc : Thread Cert.PostIdeal.nD Cert.PostIdeal.τ).loc Cert.PostIdeal.main_arg8)
          ∧ r.2.mem ((c.tc : Thread Cert.PostIdeal.nD Cert.PostIdeal.τ).loc Cert.PostIdeal.main_arg9) = m ((c.tc : Thread Cert.PostIdeal.nD Cert.PostIdeal.τ).loc Cert.PostIdeal.main_arg9))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v68) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6)
          ∧ r.2.mem ((c.tc : Thread Cert.PostRefIdeal.nD Cert.PostRefIdeal.τ).loc Cert.PostRefIdeal.main_arg7) = m' ((c.tc : Thread Cert.PostRefIdeal.nD Cert.PostRefIdeal.τ).loc Cert.PostRefIdeal.main_arg7)
          ∧ r.2.mem ((c.tc : Thread Cert.PostRefIdeal.nD Cert.PostRefIdeal.τ).loc Cert.PostRefIdeal.main_arg8) = m' ((c.tc : Thread Cert.PostRefIdeal.nD Cert.PostRefIdeal.τ).loc Cert.PostRefIdeal.main_arg8)
          ∧ r.2.mem ((c.tc : Thread Cert.PostRefIdeal.nD Cert.PostRefIdeal.τ).loc Cert.PostRefIdeal.main_arg9) = m' ((c.tc : Thread Cert.PostRefIdeal.nD Cert.PostRefIdeal.τ).loc Cert.PostRefIdeal.main_arg9))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)
      ∧ m' ((c.tc : Thread Cert.InprojRefIdeal.nD Cert.InprojRefIdeal.τ).loc Cert.InprojRefIdeal.main_arg6) = m ((c.tc : Thread Cert.InprojIdeal.nD Cert.InprojIdeal.τ).loc Cert.InprojIdeal.main_arg6)) →
    ∃ (v0 : (c : Dev Cert.InprojIdeal.nD) → Buf (Elt Ideal) ((c.tc : Thread Cert.InprojIdeal.nD Cert.InprojIdeal.τ).loc Cert.InprojIdeal.main_v25_0)) (v1 : (c : Dev Cert.InprojIdeal.nD) → Buf (Elt Ideal) ((c.tc : Thread Cert.InprojIdeal.nD Cert.InprojIdeal.τ).loc Cert.InprojIdeal.main_v25_1)) (v2 : (c : Dev Cert.InprojIdeal.nD) → Buf (Elt Ideal) ((c.tc : Thread Cert.InprojIdeal.nD Cert.InprojIdeal.τ).loc Cert.InprojIdeal.main_v25_2)) (v3 : (c : Dev Cert.InprojIdeal.nD) → Buf (Elt Ideal) ((c.tc : Thread Cert.InprojIdeal.nD Cert.InprojIdeal.τ).loc Cert.InprojIdeal.main_v25_3)) (v4 : (c : Dev Cert.InprojIdeal.nD) → Buf (Elt Ideal) ((c.tc : Thread Cert.InprojIdeal.nD Cert.InprojIdeal.τ).loc Cert.InprojIdeal.main_v25_4)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v25_0) = v0 c
          ∧ r.2.mem ((c.tc : Thread Cert.InprojIdeal.nD Cert.InprojIdeal.τ).loc Cert.InprojIdeal.main_v25_1) = v1 c
          ∧ r.2.mem ((c.tc : Thread Cert.InprojIdeal.nD Cert.InprojIdeal.τ).loc Cert.InprojIdeal.main_v25_2) = v2 c
          ∧ r.2.mem ((c.tc : Thread Cert.InprojIdeal.nD Cert.InprojIdeal.τ).loc Cert.InprojIdeal.main_v25_3) = v3 c
          ∧ r.2.mem ((c.tc : Thread Cert.InprojIdeal.nD Cert.InprojIdeal.τ).loc Cert.InprojIdeal.main_v25_4) = v4 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5)
          ∧ r.2.mem ((c.tc : Thread Cert.InprojIdeal.nD Cert.InprojIdeal.τ).loc Cert.InprojIdeal.main_arg6) = m ((c.tc : Thread Cert.InprojIdeal.nD Cert.InprojIdeal.τ).loc Cert.InprojIdeal.main_arg6))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v129) = v0 c
          ∧ r.2.mem ((c.tc : Thread Cert.InprojRefIdeal.nD Cert.InprojRefIdeal.τ).loc Cert.InprojRefIdeal.main_v131) = v1 c
          ∧ r.2.mem ((c.tc : Thread Cert.InprojRefIdeal.nD Cert.InprojRefIdeal.τ).loc Cert.InprojRefIdeal.main_v134) = v2 c
          ∧ r.2.mem ((c.tc : Thread Cert.InprojRefIdeal.nD Cert.InprojRefIdeal.τ).loc Cert.InprojRefIdeal.main_v19) = v3 c
          ∧ r.2.mem ((c.tc : Thread Cert.InprojRefIdeal.nD Cert.InprojRefIdeal.τ).loc Cert.InprojRefIdeal.main_v20) = v4 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5)
          ∧ r.2.mem ((c.tc : Thread Cert.InprojRefIdeal.nD Cert.InprojRefIdeal.τ).loc Cert.InprojRefIdeal.main_arg6) = m' ((c.tc : Thread Cert.InprojRefIdeal.nD Cert.InprojRefIdeal.τ).loc Cert.InprojRefIdeal.main_arg6))

def preserves_Sample_SampleIdeal : Prop :=
  True

def algebraic_SampleIdeal_SampleRefIdeal [hSampleIdeal : Cert.SampleIdeal.Facts] [hSampleRefIdeal : Cert.SampleRefIdeal.Facts] : Prop :=
  ∀ (m : (ℓ : Loc Cert.SampleIdeal.nD Cert.SampleIdeal.τ Cert.SampleIdeal.sig) → Buf (Elt Ideal) ℓ) (g : Dev Cert.SampleIdeal.nD → PrngReg)
    (m' : (ℓ : Loc Cert.SampleRefIdeal.nD Cert.SampleRefIdeal.τ Cert.SampleRefIdeal.sig) → Buf (Elt Ideal) ℓ) (g' : Dev Cert.SampleRefIdeal.nD → PrngReg), Pre_SampleIdeal m →
    (∀ c : Dev Cert.SampleIdeal.nD,
      m' ((c.tc : Thread Cert.SampleRefIdeal.nD Cert.SampleRefIdeal.τ).loc Cert.SampleRefIdeal.main_arg0) = m ((c.tc : Thread Cert.SampleIdeal.nD Cert.SampleIdeal.τ).loc Cert.SampleIdeal.main_arg0)
      ∧ m' ((c.tc : Thread Cert.SampleRefIdeal.nD Cert.SampleRefIdeal.τ).loc Cert.SampleRefIdeal.main_arg1) = m ((c.tc : Thread Cert.SampleIdeal.nD Cert.SampleIdeal.τ).loc Cert.SampleIdeal.main_arg1)
      ∧ m' ((c.tc : Thread Cert.SampleRefIdeal.nD Cert.SampleRefIdeal.τ).loc Cert.SampleRefIdeal.main_arg2) = m ((c.tc : Thread Cert.SampleIdeal.nD Cert.SampleIdeal.τ).loc Cert.SampleIdeal.main_arg2)
      ∧ m' ((c.tc : Thread Cert.SampleRefIdeal.nD Cert.SampleRefIdeal.τ).loc Cert.SampleRefIdeal.main_arg3) = m ((c.tc : Thread Cert.SampleIdeal.nD Cert.SampleIdeal.τ).loc Cert.SampleIdeal.main_arg3)
      ∧ m' ((c.tc : Thread Cert.SampleRefIdeal.nD Cert.SampleRefIdeal.τ).loc Cert.SampleRefIdeal.main_arg4) = m ((c.tc : Thread Cert.SampleIdeal.nD Cert.SampleIdeal.τ).loc Cert.SampleIdeal.main_arg4)
      ∧ m' ((c.tc : Thread Cert.SampleRefIdeal.nD Cert.SampleRefIdeal.τ).loc Cert.SampleRefIdeal.main_arg5) = m ((c.tc : Thread Cert.SampleIdeal.nD Cert.SampleIdeal.τ).loc Cert.SampleIdeal.main_arg5)
      ∧ m' ((c.tc : Thread Cert.SampleRefIdeal.nD Cert.SampleRefIdeal.τ).loc Cert.SampleRefIdeal.main_arg6) = m ((c.tc : Thread Cert.SampleIdeal.nD Cert.SampleIdeal.τ).loc Cert.SampleIdeal.main_arg6)
      ∧ m' ((c.tc : Thread Cert.SampleRefIdeal.nD Cert.SampleRefIdeal.τ).loc Cert.SampleRefIdeal.main_arg7) = m ((c.tc : Thread Cert.SampleIdeal.nD Cert.SampleIdeal.τ).loc Cert.SampleIdeal.main_arg7)
      ∧ m' ((c.tc : Thread Cert.SampleRefIdeal.nD Cert.SampleRefIdeal.τ).loc Cert.SampleRefIdeal.main_arg8) = m ((c.tc : Thread Cert.SampleIdeal.nD Cert.SampleIdeal.τ).loc Cert.SampleIdeal.main_arg8)
      ∧ m' ((c.tc : Thread Cert.SampleRefIdeal.nD Cert.SampleRefIdeal.τ).loc Cert.SampleRefIdeal.main_arg9) = m ((c.tc : Thread Cert.SampleIdeal.nD Cert.SampleIdeal.τ).loc Cert.SampleIdeal.main_arg9)) →
    ∃ (v0 : (c : Dev Cert.SampleIdeal.nD) → Buf (Elt Ideal) ((c.tc : Thread Cert.SampleIdeal.nD Cert.SampleIdeal.τ).loc Cert.SampleIdeal.main_v19)),
      θ_run (Cert.SampleIdeal.defs (F := Ideal)) (onTc (τ := Cert.SampleIdeal.τ) (Cert.SampleIdeal.main (F := Ideal))) ⟨m, fun _ => 0, g⟩ (fun r => ∀ c : Dev Cert.SampleIdeal.nD,
          r.2.mem ((c.tc : Thread Cert.SampleIdeal.nD Cert.SampleIdeal.τ).loc Cert.SampleIdeal.main_v19) = v0 c
          ∧ r.2.mem ((c.tc : Thread Cert.SampleIdeal.nD Cert.SampleIdeal.τ).loc Cert.SampleIdeal.main_arg0) = m ((c.tc : Thread Cert.SampleIdeal.nD Cert.SampleIdeal.τ).loc Cert.SampleIdeal.main_arg0)
          ∧ r.2.mem ((c.tc : Thread Cert.SampleIdeal.nD Cert.SampleIdeal.τ).loc Cert.SampleIdeal.main_arg1) = m ((c.tc : Thread Cert.SampleIdeal.nD Cert.SampleIdeal.τ).loc Cert.SampleIdeal.main_arg1)
          ∧ r.2.mem ((c.tc : Thread Cert.SampleIdeal.nD Cert.SampleIdeal.τ).loc Cert.SampleIdeal.main_arg2) = m ((c.tc : Thread Cert.SampleIdeal.nD Cert.SampleIdeal.τ).loc Cert.SampleIdeal.main_arg2)
          ∧ r.2.mem ((c.tc : Thread Cert.SampleIdeal.nD Cert.SampleIdeal.τ).loc Cert.SampleIdeal.main_arg3) = m ((c.tc : Thread Cert.SampleIdeal.nD Cert.SampleIdeal.τ).loc Cert.SampleIdeal.main_arg3)
          ∧ r.2.mem ((c.tc : Thread Cert.SampleIdeal.nD Cert.SampleIdeal.τ).loc Cert.SampleIdeal.main_arg4) = m ((c.tc : Thread Cert.SampleIdeal.nD Cert.SampleIdeal.τ).loc Cert.SampleIdeal.main_arg4)
          ∧ r.2.mem ((c.tc : Thread Cert.SampleIdeal.nD Cert.SampleIdeal.τ).loc Cert.SampleIdeal.main_arg5) = m ((c.tc : Thread Cert.SampleIdeal.nD Cert.SampleIdeal.τ).loc Cert.SampleIdeal.main_arg5)
          ∧ r.2.mem ((c.tc : Thread Cert.SampleIdeal.nD Cert.SampleIdeal.τ).loc Cert.SampleIdeal.main_arg6) = m ((c.tc : Thread Cert.SampleIdeal.nD Cert.SampleIdeal.τ).loc Cert.SampleIdeal.main_arg6)
          ∧ r.2.mem ((c.tc : Thread Cert.SampleIdeal.nD Cert.SampleIdeal.τ).loc Cert.SampleIdeal.main_arg7) = m ((c.tc : Thread Cert.SampleIdeal.nD Cert.SampleIdeal.τ).loc Cert.SampleIdeal.main_arg7)
          ∧ r.2.mem ((c.tc : Thread Cert.SampleIdeal.nD Cert.SampleIdeal.τ).loc Cert.SampleIdeal.main_arg8) = m ((c.tc : Thread Cert.SampleIdeal.nD Cert.SampleIdeal.τ).loc Cert.SampleIdeal.main_arg8)
          ∧ r.2.mem ((c.tc : Thread Cert.SampleIdeal.nD Cert.SampleIdeal.τ).loc Cert.SampleIdeal.main_arg9) = m ((c.tc : Thread Cert.SampleIdeal.nD Cert.SampleIdeal.τ).loc Cert.SampleIdeal.main_arg9))
      ∧ θ_run (Cert.SampleRefIdeal.defs (F := Ideal)) (onTc (τ := Cert.SampleRefIdeal.τ) (Cert.SampleRefIdeal.main (F := Ideal))) ⟨m', fun _ => 0, g'⟩ (fun r => ∀ c : Dev Cert.SampleRefIdeal.nD,
          r.2.mem ((c.tc : Thread Cert.SampleRefIdeal.nD Cert.SampleRefIdeal.τ).loc Cert.SampleRefIdeal.main_v68) = v0 c
          ∧ r.2.mem ((c.tc : Thread Cert.SampleRefIdeal.nD Cert.SampleRefIdeal.τ).loc Cert.SampleRefIdeal.main_arg0) = m' ((c.tc : Thread Cert.SampleRefIdeal.nD Cert.SampleRefIdeal.τ).loc Cert.SampleRefIdeal.main_arg0)
          ∧ r.2.mem ((c.tc : Thread Cert.SampleRefIdeal.nD Cert.SampleRefIdeal.τ).loc Cert.SampleRefIdeal.main_arg1) = m' ((c.tc : Thread Cert.SampleRefIdeal.nD Cert.SampleRefIdeal.τ).loc Cert.SampleRefIdeal.main_arg1)
          ∧ r.2.mem ((c.tc : Thread Cert.SampleRefIdeal.nD Cert.SampleRefIdeal.τ).loc Cert.SampleRefIdeal.main_arg2) = m' ((c.tc : Thread Cert.SampleRefIdeal.nD Cert.SampleRefIdeal.τ).loc Cert.SampleRefIdeal.main_arg2)
          ∧ r.2.mem ((c.tc : Thread Cert.SampleRefIdeal.nD Cert.SampleRefIdeal.τ).loc Cert.SampleRefIdeal.main_arg3) = m' ((c.tc : Thread Cert.SampleRefIdeal.nD Cert.SampleRefIdeal.τ).loc Cert.SampleRefIdeal.main_arg3)
          ∧ r.2.mem ((c.tc : Thread Cert.SampleRefIdeal.nD Cert.SampleRefIdeal.τ).loc Cert.SampleRefIdeal.main_arg4) = m' ((c.tc : Thread Cert.SampleRefIdeal.nD Cert.SampleRefIdeal.τ).loc Cert.SampleRefIdeal.main_arg4)
          ∧ r.2.mem ((c.tc : Thread Cert.SampleRefIdeal.nD Cert.SampleRefIdeal.τ).loc Cert.SampleRefIdeal.main_arg5) = m' ((c.tc : Thread Cert.SampleRefIdeal.nD Cert.SampleRefIdeal.τ).loc Cert.SampleRefIdeal.main_arg5)
          ∧ r.2.mem ((c.tc : Thread Cert.SampleRefIdeal.nD Cert.SampleRefIdeal.τ).loc Cert.SampleRefIdeal.main_arg6) = m' ((c.tc : Thread Cert.SampleRefIdeal.nD Cert.SampleRefIdeal.τ).loc Cert.SampleRefIdeal.main_arg6)
          ∧ r.2.mem ((c.tc : Thread Cert.SampleRefIdeal.nD Cert.SampleRefIdeal.τ).loc Cert.SampleRefIdeal.main_arg7) = m' ((c.tc : Thread Cert.SampleRefIdeal.nD Cert.SampleRefIdeal.τ).loc Cert.SampleRefIdeal.main_arg7)
          ∧ r.2.mem ((c.tc : Thread Cert.SampleRefIdeal.nD Cert.SampleRefIdeal.τ).loc Cert.SampleRefIdeal.main_arg8) = m' ((c.tc : Thread Cert.SampleRefIdeal.nD Cert.SampleRefIdeal.τ).loc Cert.SampleRefIdeal.main_arg8)
          ∧ r.2.mem ((c.tc : Thread Cert.SampleRefIdeal.nD Cert.SampleRefIdeal.τ).loc Cert.SampleRefIdeal.main_arg9) = m' ((c.tc : Thread Cert.SampleRefIdeal.nD Cert.SampleRefIdeal.τ).loc Cert.SampleRefIdeal.main_arg9))

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v41) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def Claim : Prop :=
  ∃ (hPost : Cert.Post.Facts) (hPostIdeal : Cert.PostIdeal.Facts) (hPostRefIdeal : Cert.PostRefIdeal.Facts) (hInproj : Cert.Inproj.Facts) (hInprojIdeal : Cert.InprojIdeal.Facts) (hInprojRefIdeal : Cert.InprojRefIdeal.Facts) (hSample : Cert.Sample.Facts) (hSampleIdeal : Cert.SampleIdeal.Facts) (hSampleRefIdeal : Cert.SampleRefIdeal.Facts) (hAttn : Cert.Attn.Facts) (hAttnIdeal : Cert.AttnIdeal.Facts) (hAttnRefIdeal : Cert.AttnRefIdeal.Facts) (hPre_finite : Cert.Pre_finite.Facts),
    quiescent_Post (hPost := hPost)
    ∧ quiescent_PostIdeal (hPostIdeal := hPostIdeal)
    ∧ quiescent_PostRefIdeal (hPostRefIdeal := hPostRefIdeal)
    ∧ quiescent_Inproj (hInproj := hInproj)
    ∧ quiescent_InprojIdeal (hInprojIdeal := hInprojIdeal)
    ∧ quiescent_InprojRefIdeal (hInprojRefIdeal := hInprojRefIdeal)
    ∧ quiescent_Sample (hSample := hSample)
    ∧ quiescent_SampleIdeal (hSampleIdeal := hSampleIdeal)
    ∧ quiescent_SampleRefIdeal (hSampleRefIdeal := hSampleRefIdeal)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ preserves_Post_PostIdeal
    ∧ algebraic_PostIdeal_PostRefIdeal (hPostIdeal := hPostIdeal) (hPostRefIdeal := hPostRefIdeal)
    ∧ preserves_Inproj_InprojIdeal
    ∧ algebraic_InprojIdeal_InprojRefIdeal (hInprojIdeal := hInprojIdeal) (hInprojRefIdeal := hInprojRefIdeal)
    ∧ preserves_Sample_SampleIdeal
    ∧ algebraic_SampleIdeal_SampleRefIdeal (hSampleIdeal := hSampleIdeal) (hSampleRefIdeal := hSampleRefIdeal)
    ∧ preserves_Attn_AttnIdeal
    ∧ algebraic_AttnIdeal_AttnRefIdeal_pre_finite (hAttnIdeal := hAttnIdeal) (hAttnRefIdeal := hAttnRefIdeal) (hPre_finite := hPre_finite)
-- ==== Pre_finite.lean ====
abbrev S8x512x8192 : Shape := ⟨3, ![8, 512, 8192]⟩
abbrev S8x8192x128 : Shape := ⟨3, ![8, 8192, 128]⟩
abbrev S8x32x128x256 : Shape := ⟨4, ![8, 32, 128, 256]⟩
abbrev S16x128 : Shape := ⟨2, ![16, 128]⟩
abbrev S128x16 : Shape := ⟨2, ![128, 16]⟩
abbrev S512x1 : Shape := ⟨2, ![512, 1]⟩
abbrev S_ : Shape := ⟨0, ![]⟩

class Facts : Prop where
  bitsLt_bf16_f32 : FTy.bits .bf16 < FTy.bits .f32
  bcast_S_S8x512x8192 : S_.BroadcastsInDim S8x512x8192 (![] : Fin 0 → Fin S8x512x8192.rank)
  reducesTo_S8x512x8192_S_d0_1_2 : S8x512x8192.ReducesTo [0, 1, 2] S_
  h_S_ : 0 < S_.numel
  bcast_S_S8x8192x128 : S_.BroadcastsInDim S8x8192x128 (![] : Fin 0 → Fin S8x8192x128.rank)
  reducesTo_S8x8192x128_S_d0_1_2 : S8x8192x128.ReducesTo [0, 1, 2] S_
  bcast_S_S8x32x128x256 : S_.BroadcastsInDim S8x32x128x256 (![] : Fin 0 → Fin S8x32x128x256.rank)
  reducesTo_S8x32x128x256_S_d0_1_2_3 : S8x32x128x256.ReducesTo [0, 1, 2, 3] S_
  bcast_S_S16x128 : S_.BroadcastsInDim S16x128 (![] : Fin 0 → Fin S16x128.rank)
  reducesTo_S16x128_S_d0_1 : S16x128.ReducesTo [0, 1] S_
  bcast_S_S128x16 : S_.BroadcastsInDim S128x16 (![] : Fin 0 → Fin S128x16.rank)
  reducesTo_S128x16_S_d0_1 : S128x16.ReducesTo [0, 1] S_

variable [Facts]

def fn_part1 {F : FTy → Type} [FloatOps F] (main_arg4 : FVec F S128x16 .bf16) (main_v16 : IVec S_ 1) (main_v17 : FVec F S16x128 .f32) : IVec S_ 1 :=
  let main_v18 : FVec F S16x128 .f32 := Host.absf main_v17
  let main_cst_4 : FVec F S_ .f32 := constant S_ .f32 0x7F800000#32
  let main_v19 : FVec F S16x128 .f32 := broadcastInDim S16x128 ![] bcast_S_S16x128 main_cst_4
  let main_v20 : IVec S16x128 1 := cmpf .olt main_v18 main_v19
  let main_c_5 : IVec S_ 1 := constantI S_ 1 1#1
  let main_v21 : IVec S_ 1 := (fun x v => Host.reduce IntOp.andi x v reducesTo_S16x128_S_d0_1 h_S_) main_v20 main_c_5
  let main_v22 : IVec S_ 1 := andi main_v16 main_v21
  let main_v23 : FVec F S128x16 .f32 := (extf .f32 · bitsLt_bf16_f32) main_arg4
  let main_v24 : FVec F S128x16 .f32 := Host.absf main_v23
  let main_cst_6 : FVec F S_ .f32 := constant S_ .f32 0x7F800000#32
  let main_v25 : FVec F S128x16 .f32 := broadcastInDim S128x16 ![] bcast_S_S128x16 main_cst_6
  let main_v26 : IVec S128x16 1 := cmpf .olt main_v24 main_v25
  let main_c_7 : IVec S_ 1 := constantI S_ 1 1#1
  let main_v27 : IVec S_ 1 := (fun x v => Host.reduce IntOp.andi x v reducesTo_S128x16_S_d0_1 h_S_) main_v26 main_c_7
  let main_v28 : IVec S_ 1 := andi main_v22 main_v27
  main_v28

def fn {F : FTy → Type} [FloatOps F] (main_arg0 : FVec F S8x512x8192 .bf16) (main_arg1 : FVec F S8x8192x128 .bf16) (main_arg2 : FVec F S8x32x128x256 .bf16) (main_arg3 : FVec F S16x128 .bf16) (main_arg4 : FVec F S128x16 .bf16) (main_arg5 : FVec F S512x1 .f32) : IVec S_ 1 :=
  let main_v0 : FVec F S8x512x8192 .f32 := (extf .f32 · bitsLt_bf16_f32) main_arg0
  let main_v1 : FVec F S8x512x8192 .f32 := Host.absf main_v0
  let main_cst : FVec F S_ .f32 := constant S_ .f32 0x7F800000#32
  let main_v2 : FVec F S8x512x8192 .f32 := broadcastInDim S8x512x8192 ![] bcast_S_S8x512x8192 main_cst
  let main_v3 : IVec S8x512x8192 1 := cmpf .olt main_v1 main_v2
  let main_c : IVec S_ 1 := constantI S_ 1 1#1
  let main_v4 : IVec S_ 1 := (fun x v => Host.reduce IntOp.andi x v reducesTo_S8x512x8192_S_d0_1_2 h_S_) main_v3 main_c
  let main_v5 : FVec F S8x8192x128 .f32 := (extf .f32 · bitsLt_bf16_f32) main_arg1
  let main_v6 : FVec F S8x8192x128 .f32 := Host.absf main_v5
  let main_cst_0 : FVec F S_ .f32 := constant S_ .f32 0x7F800000#32
  let main_v7 : FVec F S8x8192x128 .f32 := broadcastInDim S8x8192x128 ![] bcast_S_S8x8192x128 main_cst_0
  let main_v8 : IVec S8x8192x128 1 := cmpf .olt main_v6 main_v7
  let main_c_1 : IVec S_ 1 := constantI S_ 1 1#1
  let main_v9 : IVec S_ 1 := (fun x v => Host.reduce IntOp.andi x v reducesTo_S8x8192x128_S_d0_1_2 h_S_) main_v8 main_c_1
  let main_v10 : IVec S_ 1 := andi main_v4 main_v9
  let main_v11 : FVec F S8x32x128x256 .f32 := (extf .f32 · bitsLt_bf16_f32) main_arg2
  let main_v12 : FVec F S8x32x128x256 .f32 := Host.absf main_v11
  let main_cst_2 : FVec F S_ .f32 := constant S_ .f32 0x7F800000#32
  let main_v13 : FVec F S8x32x128x256 .f32 := broadcastInDim S8x32x128x256 ![] bcast_S_S8x32x128x256 main_cst_2
  let main_v14 : IVec S8x32x128x256 1 := cmpf .olt main_v12 main_v13
  let main_c_3 : IVec S_ 1 := constantI S_ 1 1#1
  let main_v15 : IVec S_ 1 := (fun x v => Host.reduce IntOp.andi x v reducesTo_S8x32x128x256_S_d0_1_2_3 h_S_) main_v14 main_c_3
  let main_v16 : IVec S_ 1 := andi main_v10 main_v15
  let main_v17 : FVec F S16x128 .f32 := (extf .f32 · bitsLt_bf16_f32) main_arg3
  fn_part1 (F := F) main_arg4 main_v16 main_v17
-- ==== Post.lean ====
abbrev S8x8192x1024 : Shape := ⟨3, ![8, 8192, 1024]⟩
abbrev S8x8192x512 : Shape := ⟨3, ![8, 8192, 512]⟩
abbrev S1x512 : Shape := ⟨2, ![1, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S512 : Shape := ⟨1, ![512]⟩
abbrev S1024x1024 : Shape := ⟨2, ![1024, 1024]⟩
abbrev S512x1024 : Shape := ⟨2, ![512, 1024]⟩
abbrev S1024x5632 : Shape := ⟨2, ![1024, 5632]⟩
abbrev S1024x2816 : Shape := ⟨2, ![1024, 2816]⟩
abbrev S2816x1024 : Shape := ⟨2, ![2816, 1024]⟩
abbrev S1x512x1024 : Shape := ⟨3, ![1, 512, 1024]⟩
abbrev S1x512x512 : Shape := ⟨3, ![1, 512, 512]⟩
abbrev S1x256x512 : Shape := ⟨3, ![1, 256, 512]⟩
abbrev S256x512 : Shape := ⟨2, ![256, 512]⟩
abbrev S256 : Shape := ⟨1, ![256]⟩
abbrev S256x1 : Shape := ⟨2, ![256, 1]⟩
abbrev S1x256x1024 : Shape := ⟨3, ![1, 256, 1024]⟩
abbrev S256x1024 : Shape := ⟨2, ![256, 1024]⟩
abbrev S256x2816 : Shape := ⟨2, ![256, 2816]⟩

abbrev nBuf : Space → Nat
  | .hbm => 30
  | .vmem => 18
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .f32⟩
  | .hbm, ⟨3, _⟩ => ⟨S8x8192x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x2816x1024, .f32⟩
  | .hbm, ⟨9, _⟩ => ⟨S1024, .f32⟩
  | .hbm, ⟨10, _⟩ => ⟨S512, .f32⟩
  | .hbm, ⟨11, _⟩ => ⟨S1x512, .f32⟩
  | .hbm, ⟨12, _⟩ => ⟨S1024x1024, .f32⟩
  | .hbm, ⟨13, _⟩ => ⟨S512x1024, .f32⟩
  | .hbm, ⟨14, _⟩ => ⟨S512x1024, .bf16⟩
  | .hbm, ⟨15, _⟩ => ⟨S1024x1024, .f32⟩
  | .hbm, ⟨16, _⟩ => ⟨S512x1024, .f32⟩
  | .hbm, ⟨17, _⟩ => ⟨S512x1024, .bf16⟩
  | .hbm, ⟨18, _⟩ => ⟨S1024, .f32⟩
  | .hbm, ⟨19, _⟩ => ⟨S1x1024, .f32⟩
  | .hbm, ⟨20, _⟩ => ⟨S1024x5632, .f32⟩
  | .hbm, ⟨21, _⟩ => ⟨S1024x2816, .f32⟩
  | .hbm, ⟨22, _⟩ => ⟨S1024x2816, .bf16⟩
  | .hbm, ⟨23, _⟩ => ⟨S1024x5632, .f32⟩
  | .hbm, ⟨24, _⟩ => ⟨S1024x2816, .f32⟩
  | .hbm, ⟨25, _⟩ => ⟨S1024x2816, .bf16⟩
  | .hbm, ⟨26, _⟩ => ⟨S2816x1024, .f32⟩
  | .hbm, ⟨27, _⟩ => ⟨S2816x1024, .bf16⟩
  | .hbm, ⟨28, _⟩ => ⟨S1x1024, .f32⟩
  | .hbm, ⟨29, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== PostIdeal.lean ====
abbrev S8x8192x1024 : Shape := ⟨3, ![8, 8192, 1024]⟩
abbrev S8x8192x512 : Shape := ⟨3, ![8, 8192, 512]⟩
abbrev S1x512 : Shape := ⟨2, ![1, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S512 : Shape := ⟨1, ![512]⟩
abbrev S1024x1024 : Shape := ⟨2, ![1024, 1024]⟩
abbrev S512x1024 : Shape := ⟨2, ![512, 1024]⟩
abbrev S1024x5632 : Shape := ⟨2, ![1024, 5632]⟩
abbrev S1024x2816 : Shape := ⟨2, ![1024, 2816]⟩
abbrev S2816x1024 : Shape := ⟨2, ![2816, 1024]⟩
abbrev S1x512x1024 : Shape := ⟨3, ![1, 512, 1024]⟩
abbrev S1x512x512 : Shape := ⟨3, ![1, 512, 512]⟩
abbrev S1x256x512 : Shape := ⟨3, ![1, 256, 512]⟩
abbrev S256x512 : Shape := ⟨2, ![256, 512]⟩
abbrev S256 : Shape := ⟨1, ![256]⟩
abbrev S256x1 : Shape := ⟨2, ![256, 1]⟩
abbrev S1x256x1024 : Shape := ⟨3, ![1, 256, 1024]⟩
abbrev S256x1024 : Shape := ⟨2, ![256, 1024]⟩
abbrev S256x2816 : Shape := ⟨2, ![256, 2816]⟩

abbrev nBuf : Space → Nat
  | .hbm => 30
  | .vmem => 18
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .f32⟩
  | .hbm, ⟨3, _⟩ => ⟨S8x8192x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x2816x1024, .f32⟩
  | .hbm, ⟨9, _⟩ => ⟨S1024, .f32⟩
  | .hbm, ⟨10, _⟩ => ⟨S512, .f32⟩
  | .hbm, ⟨11, _⟩ => ⟨S1x512, .f32⟩
  | .hbm, ⟨12, _⟩ => ⟨S1024x1024, .f32⟩
  | .hbm, ⟨13, _⟩ => ⟨S512x1024, .f32⟩
  | .hbm, ⟨14, _⟩ => ⟨S512x1024, .bf16⟩
  | .hbm, ⟨15, _⟩ => ⟨S1024x1024, .f32⟩
  | .hbm, ⟨16, _⟩ => ⟨S512x1024, .f32⟩
  | .hbm, ⟨17, _⟩ => ⟨S512x1024, .bf16⟩
  | .hbm, ⟨18, _⟩ => ⟨S1024, .f32⟩
  | .hbm, ⟨19, _⟩ => ⟨S1x1024, .f32⟩
  | .hbm, ⟨20, _⟩ => ⟨S1024x5632, .f32⟩
  | .hbm, ⟨21, _⟩ => ⟨S1024x2816, .f32⟩
  | .hbm, ⟨22, _⟩ => ⟨S1024x2816, .bf16⟩
  | .hbm, ⟨23, _⟩ => ⟨S1024x5632, .f32⟩
  | .hbm, ⟨24, _⟩ => ⟨S1024x2816, .f32⟩
  | .hbm, ⟨25, _⟩ => ⟨S1024x2816, .bf16⟩
  | .hbm, ⟨26, _⟩ => ⟨S2816x1024, .f32⟩
  | .hbm, ⟨27, _⟩ => ⟨S2816x1024, .bf16⟩
  | .hbm, ⟨28, _⟩ => ⟨S1x1024, .f32⟩
  | .hbm, ⟨29, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== PostRefIdeal.lean ====
abbrev S8x8192x1024 : Shape := ⟨3, ![8, 8192, 1024]⟩
abbrev S8x8192x512 : Shape := ⟨3, ![8, 8192, 512]⟩
abbrev S1x512 : Shape := ⟨2, ![1, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S512 : Shape := ⟨1, ![512]⟩
abbrev S8x8192 : Shape := ⟨2, ![8, 8192]⟩
abbrev S8x8192x1 : Shape := ⟨3, ![8, 8192, 1]⟩
abbrev S1x1x512 : Shape := ⟨3, ![1, 1, 512]⟩
abbrev S1024x1024 : Shape := ⟨2, ![1024, 1024]⟩
abbrev S1x1x1024 : Shape := ⟨3, ![1, 1, 1024]⟩
abbrev S1024x5632 : Shape := ⟨2, ![1024, 5632]⟩
abbrev S8x8192x5632 : Shape := ⟨3, ![8, 8192, 5632]⟩
abbrev S8x8192x2816 : Shape := ⟨3, ![8, 8192, 2816]⟩
abbrev S2816x1024 : Shape := ⟨2, ![2816, 1024]⟩

abbrev nBuf : Space → Nat
  | .hbm => 100
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x512, .bf16⟩
  | .hbm, ⟨2, _⟩ => ⟨S8x8192x512, .f32⟩
  | .hbm, ⟨3, _⟩ => ⟨S8x8192x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x2816x1024, .f32⟩
  | .hbm, ⟨9, _⟩ => ⟨S1024, .f32⟩
  | .hbm, ⟨10, _⟩ => ⟨S8x8192x512, .f32⟩
  | .hbm, ⟨11, _⟩ => ⟨S8x8192x512, .f32⟩
  | .hbm, ⟨12, _⟩ => ⟨S_, .f32⟩
  | .hbm, ⟨13, _⟩ => ⟨S8x8192x512, .f32⟩
  | .hbm, ⟨14, _⟩ => ⟨S8x8192x512, .f32⟩
  | .hbm, ⟨15, _⟩ => ⟨S8x8192x512, .f32⟩
  | .hbm, ⟨16, _⟩ => ⟨S_, .f32⟩
  | .hbm, ⟨17, _⟩ => ⟨S8x8192x512, .f32⟩
  | .hbm, ⟨18, _⟩ => ⟨S8x8192x512, .f32⟩
  | .hbm, ⟨19, _⟩ => ⟨S8x8192x512, .f32⟩
  | .hbm, ⟨20, _⟩ => ⟨S_, .f32⟩
  | .hbm, ⟨21, _⟩ => ⟨S8x8192x512, .f32⟩
  | .hbm, ⟨22, _⟩ => ⟨S8x8192x512, .f32⟩
  | .hbm, ⟨23, _⟩ => ⟨S_, .f32⟩
  | .hbm, ⟨24, _⟩ => ⟨S8x8192x512, .f32⟩
  | .hbm, ⟨25, _⟩ => ⟨S8x8192x512, .f32⟩
  | .hbm, ⟨26, _⟩ => ⟨S8x8192x512, .f32⟩
  | .hbm, ⟨27, _⟩ => ⟨S8x8192x512, .f32⟩
  | .hbm, ⟨28, _⟩ => ⟨S512, .f32⟩
  | .hbm, ⟨29, _⟩ => ⟨S8x8192x512, .f32⟩
  | .hbm, ⟨30, _⟩ => ⟨S_, .f32⟩
  | .hbm, ⟨31, _⟩ => ⟨S8x8192, .f32⟩
  | .hbm, ⟨32, _⟩ => ⟨S8x8192x1, .f32⟩
  | .hbm, ⟨33, _⟩ => ⟨S_, .f32⟩
  | .hbm, ⟨34, _⟩ => ⟨S8x8192x1, .f32⟩
  | .hbm, ⟨35, _⟩ => ⟨S8x8192x1, .f32⟩
  | .hbm, ⟨36, _⟩ => ⟨S_, .f32⟩
  | .hbm, ⟨37, _⟩ => ⟨S8x8192x1, .f32⟩
  | .hbm, ⟨38, _⟩ => ⟨S8x8192x1, .f32⟩
  | .hbm, ⟨39, _⟩ => ⟨S8x8192x1, .f32⟩
  | .hbm, ⟨40, _⟩ => ⟨S8x8192x512, .f32⟩
  | .hbm, ⟨41, _⟩ => ⟨S8x8192x512, .f32⟩
  | .hbm, ⟨42, _⟩ => ⟨S1x1x512, .f32⟩
  | .hbm, ⟨43, _⟩ => ⟨S8x8192x512, .f32⟩
  | .hbm, ⟨44, _⟩ => ⟨S8x8192x512, .f32⟩
  | .hbm, ⟨45, _⟩ => ⟨S8x8192x512, .f32⟩
  | .hbm, ⟨46, _⟩ => ⟨S8x8192x1024, .f32⟩
  | .hbm, ⟨47, _⟩ => ⟨S1024x1024, .f32⟩
  | .hbm, ⟨48, _⟩ => ⟨S8x8192x1024, .f32⟩
  | .hbm, ⟨49, _⟩ => ⟨S8x8192x1024, .f32⟩
  | .hbm, ⟨50, _⟩ => ⟨S1024, .f32⟩
  | .hbm, ⟨51, _⟩ => ⟨S8x8192x1024, .f32⟩
  | .hbm, ⟨52, _⟩ => ⟨S_, .f32⟩
  | .hbm, ⟨53, _⟩ => ⟨S8x8192, .f32⟩
  | .hbm, ⟨54, _⟩ => ⟨S8x8192x1, .f32⟩
  | .hbm, ⟨55, _⟩ => ⟨S_, .f32⟩
  | .hbm, ⟨56, _⟩ => ⟨S8x8192x1, .f32⟩
  | .hbm, ⟨57, _⟩ => ⟨S8x8192x1, .f32⟩
  | .hbm, ⟨58, _⟩ => ⟨S_, .f32⟩
  | .hbm, ⟨59, _⟩ => ⟨S8x8192x1, .f32⟩
  | .hbm, ⟨60, _⟩ => ⟨S8x8192x1, .f32⟩
  | .hbm, ⟨61, _⟩ => ⟨S8x8192x1, .f32⟩
  | .hbm, ⟨62, _⟩ => ⟨S8x8192x1024, .f32⟩
  | .hbm, ⟨63, _⟩ => ⟨S8x8192x1024, .f32⟩
  | .hbm, ⟨64, _⟩ => ⟨S1x1x1024, .f32⟩
  | .hbm, ⟨65, _⟩ => ⟨S8x8192x1024, .f32⟩
  | .hbm, ⟨66, _⟩ => ⟨S8x8192x1024, .f32⟩
  | .hbm, ⟨67, _⟩ => ⟨S1024x5632, .f32⟩
  | .hbm, ⟨68, _⟩ => ⟨S8x8192x5632, .f32⟩
  | .hbm, ⟨69, _⟩ => ⟨S8x8192x2816, .f32⟩
  | .hbm, ⟨70, _⟩ => ⟨S8x8192x2816, .f32⟩
  | .hbm, ⟨71, _⟩ => ⟨S8x8192x2816, .f32⟩
  | .hbm, ⟨72, _⟩ => ⟨S8x8192x2816, .f32⟩
  | .hbm, ⟨73, _⟩ => ⟨S_, .f32⟩
  | .hbm, ⟨74, _⟩ => ⟨S8x8192x2816, .f32⟩
  | .hbm, ⟨75, _⟩ => ⟨S8x8192x2816, .f32⟩
  | .hbm, ⟨76, _⟩ => ⟨S_, .f32⟩
  | .hbm, ⟨77, _⟩ => ⟨S8x8192x2816, .f32⟩
  | .hbm, ⟨78, _⟩ => ⟨S8x8192x2816, .f32⟩
  | .hbm, ⟨79, _⟩ => ⟨S8x8192x2816, .f32⟩
  | .hbm, ⟨80, _⟩ => ⟨S8x8192x2816, .f32⟩
  | .hbm, ⟨81, _⟩ => ⟨S2816x1024, .f32⟩
  | .hbm, ⟨82, _⟩ => ⟨S8x8192x1024, .f32⟩
  | .hbm, ⟨83, _⟩ => ⟨S8x8192x1024, .f32⟩
  | .hbm, ⟨84, _⟩ => ⟨S8x8192x1024, .f32⟩
  | .hbm, ⟨85, _⟩ => ⟨S_, .f32⟩
  | .hbm, ⟨86, _⟩ => ⟨S8x8192, .f32⟩
  | .hbm, ⟨87, _⟩ => ⟨S8x8192x1, .f32⟩
  | .hbm, ⟨88, _⟩ => ⟨S_, .f32⟩
  | .hbm, ⟨89, _⟩ => ⟨S8x8192x1, .f32⟩
  | .hbm, ⟨90, _⟩ => ⟨S8x8192x1, .f32⟩
  | .hbm, ⟨91, _⟩ => ⟨S_, .f32⟩
  | .hbm, ⟨92, _⟩ => ⟨S8x8192x1, .f32⟩
  | .hbm, ⟨93, _⟩ => ⟨S8x8192x1, .f32⟩
  | .hbm, ⟨94, _⟩ => ⟨S8x8192x1, .f32⟩
  | .hbm, ⟨95, _⟩ => ⟨S8x8192x1024, .f32⟩
  | .hbm, ⟨96, _⟩ => ⟨S8x8192x1024, .f32⟩
  | .hbm, ⟨97, _⟩ => ⟨S1x1x1024, .f32⟩
  | .hbm, ⟨98, _⟩ => ⟨S8x8192x1024, .f32⟩
  | .hbm, ⟨99, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_9 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== Inproj.lean ====
abbrev S8x8192x1024 : Shape := ⟨3, ![8, 8192, 1024]⟩
abbrev S8192x32 : Shape := ⟨2, ![8192, 32]⟩
abbrev S1x1024 : Shape := ⟨2, ![1, 1024]⟩
abbrev S1x1024x1792 : Shape := ⟨3, ![1, 1024, 1792]⟩
abbrev S1x64 : Shape := ⟨2, ![1, 64]⟩
abbrev S8192x16 : Shape := ⟨2, ![8192, 16]⟩
abbrev S16x8192 : Shape := ⟨2, ![16, 8192]⟩
abbrev S1024 : Shape := ⟨1, ![1024]⟩
abbrev S1024x1792 : Shape := ⟨2, ![1024, 1792]⟩
abbrev S1024x768 : Shape := ⟨2, ![1024, 768]⟩
abbrev S768x1024 : Shape := ⟨2, ![768, 1024]⟩
abbrev S1024x1024 : Shape := ⟨2, ![1024, 1024]⟩
abbrev S64 : Shape := ⟨1, ![64]⟩
abbrev S64x1 : Shape := ⟨2, ![64, 1]⟩
abbrev S64x8192 : Shape := ⟨2, ![64, 8192]⟩
abbrev S8x512x8192 : Shape := ⟨3, ![8, 512, 8192]⟩
abbrev S8x8192x128 : Shape := ⟨3, ![8, 8192, 128]⟩
abbrev S8x32x128x256 : Shape := ⟨4, ![8, 32, 128, 256]⟩
abbrev S8x8192x512 : Shape := ⟨3, ![8, 8192, 512]⟩
abbrev S1x1024x1024 : Shape := ⟨3, ![1, 1024, 1024]⟩
abbrev S64x1024 : Shape := ⟨2, ![64, 1024]⟩
abbrev S1x512x1024 : Shape := ⟨3, ![1, 512, 1024]⟩
abbrev S1x1024x128 : Shape := ⟨3, ![1, 1024, 128]⟩
abbrev S1x4x128x256 : Shape := ⟨4, ![1, 4, 128, 256]⟩
abbrev S1x1024x512 : Shape := ⟨3, ![1, 1024, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S768x256 : Shape := ⟨2, ![768, 256]⟩
abbrev S256x512 : Shape := ⟨2, ![256, 512]⟩
abbrev S1x256x512 : Shape := ⟨3, ![1, 256, 512]⟩
abbrev S64x256 : Shape := ⟨2, ![64, 256]⟩
abbrev S512x256 : Shape := ⟨2, ![512, 256]⟩
abbrev S8x64x256 : Shape := ⟨3, ![8, 64, 256]⟩
abbrev S8x256 : Shape := ⟨2, ![8, 256]⟩
abbrev S8x1x256 : Shape := ⟨3, ![8, 1, 256]⟩
abbrev S1x64x1 : Shape := ⟨3, ![1, 64, 1]⟩
abbrev S8x16x256 : Shape := ⟨3, ![8, 16, 256]⟩
abbrev S1x64x256 : Shape := ⟨3, ![1, 64, 256]⟩
abbrev S1x512x256 : Shape := ⟨3, ![1, 512, 256]⟩
abbrev S128x256 : Shape := ⟨2, ![128, 256]⟩
abbrev S2x64x256 : Shape := ⟨3, ![2, 64, 256]⟩
abbrev S2x256 : Shape := ⟨2, ![2, 256]⟩
abbrev S2x1x256 : Shape := ⟨3, ![2, 1, 256]⟩
abbrev S2x16x256 : Shape := ⟨3, ![2, 16, 256]⟩
abbrev S256x128 : Shape := ⟨2, ![256, 128]⟩
abbrev S1x256x128 : Shape := ⟨3, ![1, 256, 128]⟩
abbrev S1x1x128x256 : Shape := ⟨4, ![1, 1, 128, 256]⟩

abbrev nBuf : Space → Nat
  | .hbm => 37
  | .vmem => 21
  | .smem => 0
  | _ => 0

abbrev bufTy : (tb : Table) → Fin (tcTables nBuf tb) → BufTy
  | .hbm, ⟨0, _⟩ => ⟨S8x8192x1024, .f32⟩
  | .hbm, ⟨1, _⟩ => ⟨S8192x32, .f32⟩
  | .hbm, ⟨2, _⟩ => ⟨S8192x32, .f32⟩
  | .hbm, ⟨3, _⟩ => ⟨S1x1024, .f32⟩
  | .hbm, ⟨4, _⟩ => ⟨S1x1024x1792, .f32⟩
  | .hbm, ⟨5, _⟩ => ⟨S1x64, .f32⟩
  | .hbm, ⟨6, _⟩ => ⟨S1x64, .f32⟩
  | .hbm, ⟨7, _⟩ => ⟨S8192x16, .f32⟩
  | .hbm, ⟨8, _⟩ => ⟨S16x8192, .f32⟩
  | .hbm, ⟨9, _⟩ => ⟨S8192x16, .f32⟩
  | .hbm, ⟨10, _⟩ => ⟨S16x8192, .f32⟩
  | .hbm, ⟨11, _⟩ => ⟨S8192x16, .f32⟩
  | .hbm, ⟨12, _⟩ => ⟨S16x8192, .f32⟩
  | .hbm, ⟨13, _⟩ => ⟨S8192x16, .f32⟩
  | .hbm, ⟨14, _⟩ => ⟨S16x8192, .f32⟩
  | .hbm, ⟨15, _⟩ => ⟨S1024, .f32⟩
  | .hbm, ⟨16, _⟩ => ⟨S1x1024, .f32⟩
  | .hbm, ⟨17, _⟩ => ⟨S1024x1792, .f32⟩
  | .hbm, ⟨18, _⟩ => ⟨S1024x768, .f32⟩
  | .hbm, ⟨19, _⟩ => ⟨S768x1024, .f32⟩
  | .hbm, ⟨20, _⟩ => ⟨S768x1024, .bf16⟩
  | .hbm, ⟨21, _⟩ => ⟨S1024x1792, .f32⟩
  | .hbm, ⟨22, _⟩ => ⟨S1024x1024, .f32⟩
  | .hbm, ⟨23, _⟩ => ⟨S1024x1024, .bf16⟩
  | .hbm, ⟨24, _⟩ => ⟨S64, .f32⟩
  | .hbm, ⟨25, _⟩ => ⟨S64x1, .f32⟩
  | .hbm, ⟨26, _⟩ => ⟨S64, .f32⟩
  | .hbm, ⟨27, _⟩ => ⟨S64x1, .f32⟩
  | .hbm, ⟨28, _⟩ => ⟨S64x8192, .f32⟩
  | .hbm, ⟨29, _⟩ => ⟨S16x8192, .f32⟩
  | .hbm, ⟨30, _⟩ => ⟨S16x8192, .f32⟩
  | .hbm, ⟨31, _⟩ => ⟨S64x8192, .f32⟩
  | .hbm, ⟨32, _⟩ => ⟨S8x512x8192, .bf16⟩
  | .hbm, ⟨33, _⟩ => ⟨S8x8192x128, .bf16⟩
  | .hbm, ⟨34, _⟩ => ⟨S8x32x128x256, .bf16⟩
  | .hbm, ⟨35, _⟩ => ⟨S8x8192x512, .f32⟩
  | .hbm, ⟨36, _⟩ => ⟨S8x8192x512, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S768x1024, .bf16⟩
  | .local _ .vmem, ⟨4, _⟩ => ⟨S1024x1024, .bf16⟩
  | .local _ .vmem, ⟨5, _⟩ => ⟨S64x1, .f32⟩
  | .local _ .vmem, ⟨6, _⟩ => ⟨S64x1, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S1x512x1024, .bf16⟩
  | .local _ .vmem, ⟨12, _⟩ => ⟨S1x512x1024, .bf16⟩
  | .local _ .vmem, ⟨13, _⟩ => ⟨S1x1024x128, .bf16⟩
  | .local _ .vmem, ⟨14, _⟩ => ⟨S1x1024x128, .bf16⟩
  | .local _ .vmem, ⟨15, _⟩ => ⟨S1x4x128x256, .bf16⟩
  | .local _ .vmem, ⟨16, _⟩ => ⟨S1x4x128x256, .bf16⟩
  | .local _ .vmem, ⟨17, _⟩ => ⟨S1x1024x512, .f32⟩
  | .local _ .vmem, ⟨18, _⟩ => ⟨S1x1024x512, .f32⟩
  | .local _ .vmem, ⟨19, _⟩ => ⟨S1x1024x512, .f32⟩
  | .local _ .vmem, ⟨20, _⟩ => ⟨S1x1024x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25_0 : Ref sig .tc := ⟨.hbm, 32, rfl⟩
abbrev main_v25_1 : Ref sig .tc := ⟨.hbm, 33, rfl⟩
abbrev main_v25_2 : Ref sig .tc := ⟨.hbm, 34, rfl⟩
abbrev main_v25_3 : Ref sig .tc := ⟨.hbm, 35, rfl⟩
abbrev main_v25_4 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x128x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InprojRefIdeal.lean ====
abbrev S8x8192x1024 : Shape := ⟨3, ![8, 8192, 1024]⟩
abbrev S8192x32 : Shape := ⟨2, ![8192, 32]⟩
abbrev S1x1024 : Shape := ⟨2, ![1, 1024]⟩
abbrev S1x1024x1792 : Shape := ⟨3, ![1, 1024, 1792]⟩
abbrev S1x64 : Shape := ⟨2, ![1, 64]⟩
abbrev S1024 : Shape := ⟨1, ![1024]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S1024x1792 : Shape := ⟨2, ![1024, 1792]⟩
abbrev S8x8192x1792 : Shape := ⟨3, ![8, 8192, 1792]⟩
abbrev S8x8192x512 : Shape := ⟨3, ![8, 8192, 512]⟩
abbrev S8x8192x128 : Shape := ⟨3, ![8, 8192, 128]⟩
abbrev S8x8192x8x64 : Shape := ⟨4, ![8, 8192, 8, 64]⟩
abbrev S64 : Shape := ⟨1, ![64]⟩
abbrev S8x8192x8 : Shape := ⟨3, ![8, 8192, 8]⟩
abbrev S8x8192x8x1 : Shape := ⟨4, ![8, 8192, 8, 1]⟩
abbrev S1x1x1x64 : Shape := ⟨4, ![1, 1, 1, 64]⟩
abbrev S8x8192x8x32 : Shape := ⟨4, ![8, 8192, 8, 32]⟩
abbrev S8192x16 : Shape := ⟨2, ![8192, 16]⟩
abbrev S8x8192x8x16 : Shape := ⟨4, ![8, 8192, 8, 16]⟩
abbrev S1x8192x1x16 : Shape := ⟨4, ![1, 8192, 1, 16]⟩
abbrev S8x8192x2x64 : Shape := ⟨4, ![8, 8192, 2, 64]⟩
abbrev S8x8192x2 : Shape := ⟨3, ![8, 8192, 2]⟩
abbrev S8x8192x2x1 : Shape := ⟨4, ![8, 8192, 2, 1]⟩
abbrev S8x8192x2x32 : Shape := ⟨4, ![8, 8192, 2, 32]⟩
abbrev S8x8192x2x16 : Shape := ⟨4, ![8, 8192, 2, 16]⟩
abbrev S8x512x8192 : Shape := ⟨3, ![8, 512, 8192]⟩
abbrev S8x32x256x128 : Shape := ⟨4, ![8, 32, 256, 128]⟩
abbrev S8x32x128x256 : Shape := ⟨4, ![8, 32, 128, 256]⟩

abbrev nBuf : Space → Nat
  | .hbm => 152
  | .vmem => 0
  | .smem => 0
  | _ => 0

abbrev hbmTy0_0 (i : Nat) : BufTy := match i % 128 with
  | 0 => ⟨S8x8192x1024, .f32⟩
  | 1 => ⟨S8192x32, .f32⟩
  | 2 => ⟨S8192x32, .f32⟩
  | 3 => ⟨S1x1024, .f32⟩
  | 4 => ⟨S1x1024x1792, .f32⟩
  | 5 => ⟨S1x64, .f32⟩
  | 6 => ⟨S1x64, .f32⟩
  | 7 => ⟨S1024, .f32⟩
  | 8 => ⟨S8x8192x1024, .f32⟩
  | 9 => ⟨S_, .f32⟩
  | 10 => ⟨S8x8192, .f32⟩
  | 11 => ⟨S8x8192x1, .f32⟩
  | 12 => ⟨S_, .f32⟩
  | 13 => ⟨S8x8192x1, .f32⟩
  | 14 => ⟨S8x8192x1, .f32⟩
  | 15 => ⟨S_, .f32⟩
  | 16 => ⟨S8x8192x1, .f32⟩
  | 17 => ⟨S8x8192x1, .f32⟩
  | 18 => ⟨S8x8192x1, .f32⟩
  | 19 => ⟨S8x8192x1024, .f32⟩
  | 20 => ⟨S8x8192x1024, .f32⟩
  | 21 => ⟨S1x1x1024, .f32⟩
  | 22 => ⟨S8x8192x1024, .f32⟩
  | 23 => ⟨S8x8192x1024, .f32⟩
  | 24 => ⟨S1024x1792, .f32⟩
  | 25 => ⟨S8x8192x1792, .f32⟩
  | 26 => ⟨S8x8192x512, .f32⟩
  | 27 => ⟨S8x8192x128, .f32⟩
  | 28 => ⟨S8x8192x128, .f32⟩
  | 29 => ⟨S8x8192x512, .f32⟩
  | 30 => ⟨S8x8192x512, .f32⟩
  | 31 => ⟨S8x8192x8x64, .f32⟩
  | 32 => ⟨S64, .f32⟩
  | 33 => ⟨S8x8192x8x64, .f32⟩
  | 34 => ⟨S_, .f32⟩
  | 35 => ⟨S8x8192x8, .f32⟩
  | 36 => ⟨S8x8192x8x1, .f32⟩
  | 37 => ⟨S_, .f32⟩
  | 38 => ⟨S8x8192x8x1, .f32⟩
  | 39 => ⟨S8x8192x8x1, .f32⟩
  | 40 => ⟨S_, .f32⟩
  | 41 => ⟨S8x8192x8x1, .f32⟩
  | 42 => ⟨S8x8192x8x1, .f32⟩
  | 43 => ⟨S8x8192x8x1, .f32⟩
  | 44 => ⟨S8x8192x8x64, .f32⟩
  | 45 => ⟨S8x8192x8x64, .f32⟩
  | 46 => ⟨S1x1x1x64, .f32⟩
  | 47 => ⟨S8x8192x8x64, .f32⟩
  | 48 => ⟨S8x8192x8x64, .f32⟩
  | 49 => ⟨S8x8192x8x32, .f32⟩
  | 50 => ⟨S8192x16, .f32⟩
  | 51 => ⟨S8192x16, .f32⟩
  | 52 => ⟨S8x8192x8x16, .f32⟩
  | 53 => ⟨S8x8192x8x16, .f32⟩
  | 54 => ⟨S1x8192x1x16, .f32⟩
  | 55 => ⟨S1x8192x1x16, .f32⟩
  | 56 => ⟨S8x8192x8x16, .f32⟩
  | 57 => ⟨S8x8192x8x16, .f32⟩
  | 58 => ⟨S8x8192x8x16, .f32⟩
  | 59 => ⟨S8x8192x8x16, .f32⟩
  | 60 => ⟨S8x8192x8x16, .f32⟩
  | 61 => ⟨S8x8192x8x16, .f32⟩
  | 62 => ⟨S8x8192x8x16, .f32⟩
  | 63 => ⟨S8x8192x8x16, .f32⟩
  | 64 => ⟨S8x8192x8x16, .f32⟩
  | 65 => ⟨S8x8192x8x16, .f32⟩
  | 66 => ⟨S8x8192x8x32, .f32⟩
  | 67 => ⟨S8x8192x8x32, .f32⟩
  | 68 => ⟨S8192x16, .f32⟩
  | 69 => ⟨S8192x16, .f32⟩
  | 70 => ⟨S8x8192x8x16, .f32⟩
  | 71 => ⟨S8x8192x8x16, .f32⟩
  | 72 => ⟨S1x8192x1x16, .f32⟩
  | 73 => ⟨S1x8192x1x16, .f32⟩
  | 74 => ⟨S8x8192x8x16, .f32⟩
  | 75 => ⟨S8x8192x8x16, .f32⟩
  | 76 => ⟨S8x8192x8x16, .f32⟩
  | 77 => ⟨S8x8192x8x16, .f32⟩
  | 78 => ⟨S8x8192x8x16, .f32⟩
  | 79 => ⟨S8x8192x8x16, .f32⟩
  | 80 => ⟨S8x8192x8x16, .f32⟩
  | 81 => ⟨S8x8192x8x16, .f32⟩
  | 82 => ⟨S8x8192x8x16, .f32⟩
  | 83 => ⟨S8x8192x8x16, .f32⟩
  | 84 => ⟨S8x8192x8x32, .f32⟩
  | 85 => ⟨S8x8192x8x64, .f32⟩
  | 86 => ⟨S8x8192x2x64, .f32⟩
  | 87 => ⟨S64, .f32⟩
  | 88 => ⟨S8x8192x2x64, .f32⟩
  | 89 => ⟨S_, .f32⟩
  | 90 => ⟨S8x8192x2, .f32⟩
  | 91 => ⟨S8x8192x2x1, .f32⟩
  | 92 => ⟨S_, .f32⟩
  | 93 => ⟨S8x8192x2x1, .f32⟩
  | 94 => ⟨S8x8192x2x1, .f32⟩
  | 95 => ⟨S_, .f32⟩
  | 96 => ⟨S8x8192x2x1, .f32⟩
  | 97 => ⟨S8x8192x2x1, .f32⟩
  | 98 => ⟨S8x8192x2x1, .f32⟩
  | 99 => ⟨S8x8192x2x64, .f32⟩
  | 100 => ⟨S8x8192x2x64, .f32⟩
  | 101 => ⟨S1x1x1x64, .f32⟩
  | 102 => ⟨S8x8192x2x64, .f32⟩
  | 103 => ⟨S8x8192x2x64, .f32⟩
  | 104 => ⟨S8x8192x2x32, .f32⟩
  | 105 => ⟨S8192x16, .f32⟩
  | 106 => ⟨S8192x16, .f32⟩
  | 107 => ⟨S8x8192x2x16, .f32⟩
  | 108 => ⟨S8x8192x2x16, .f32⟩
  | 109 => ⟨S1x8192x1x16, .f32⟩
  | 110 => ⟨S1x8192x1x16, .f32⟩
  | 111 => ⟨S8x8192x2x16, .f32⟩
  | 112 => ⟨S8x8192x2x16, .f32⟩
  | 113 => ⟨S8x8192x2x16, .f32⟩
  | 114 => ⟨S8x8192x2x16, .f32⟩
  | 115 => ⟨S8x8192x2x16, .f32⟩
  | 116 => ⟨S8x8192x2x16, .f32⟩
  | 117 => ⟨S8x8192x2x16, .f32⟩
  | 118 => ⟨S8x8192x2x16, .f32⟩
  | 119 => ⟨S8x8192x2x16, .f32⟩
  | 120 => ⟨S8x8192x2x16, .f32⟩
  | 121 => ⟨S8x8192x2x32, .f32⟩
  | 122 => ⟨S8x8192x2x32, .f32⟩
  | 123 => ⟨S8192x16, .f32⟩
  | 124 => ⟨S8192x16, .f32⟩
  | 125 => ⟨S8x8192x2x16, .f32⟩
  | 126 => ⟨S8x8192x2x16, .f32⟩
  | 127 => ⟨S1x8192x1x16, .f32⟩
  | _ => ⟨S8x8192x1024, .f32⟩

abbrev hbmTy0_1 (i : Nat) : BufTy := match i % 128 with
  | 0 => ⟨S1x8192x1x16, .f32⟩
  | 1 => ⟨S8x8192x2x16, .f32⟩
  | 2 => ⟨S8x8192x2x16, .f32⟩
  | 3 => ⟨S8x8192x2x16, .f32⟩
  | 4 => ⟨S8x8192x2x16, .f32⟩
  | 5 => ⟨S8x8192x2x16, .f32⟩
  | 6 => ⟨S8x8192x2x16, .f32⟩
  | 7 => ⟨S8x8192x2x16, .f32⟩
  | 8 => ⟨S8x8192x2x16, .f32⟩
  | 9 => ⟨S8x8192x2x16, .f32⟩
  | 10 => ⟨S8x8192x2x16, .f32⟩
  | 11 => ⟨S8x8192x2x32, .f32⟩
  | 12 => ⟨S8x8192x2x64, .f32⟩
  | 13 => ⟨S_, .f32⟩
  | 14 => ⟨S8x8192x8x64, .f32⟩
  | 15 => ⟨S8x8192x8x64, .f32⟩
  | 16 => ⟨S8x8192x512, .f32⟩
  | 17 => ⟨S8x512x8192, .f32⟩
  | 18 => ⟨S8x512x8192, .bf16⟩
  | 19 => ⟨S8x8192x128, .f32⟩
  | 20 => ⟨S8x8192x128, .bf16⟩
  | 21 => ⟨S8x32x256x128, .f32⟩
  | 22 => ⟨S8x32x128x256, .f32⟩
  | 23 => ⟨S8x32x128x256, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_2 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_cst_5 : Ref sig .tc := ⟨.hbm, 89, rfl⟩
abbrev main_v76 : Ref sig .tc := ⟨.hbm, 90, rfl⟩
abbrev main_v77 : Ref sig .tc := ⟨.hbm, 91, rfl⟩
abbrev main_cst_6 : Ref sig .tc := ⟨.hbm, 92, rfl⟩
abbrev main_v78 : Ref sig .tc := ⟨.hbm, 93, rfl⟩
abbrev main_v79 : Ref sig .tc := ⟨.hbm, 94, rfl⟩
abbrev main_cst_7 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_cst_8 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩

abbrev nD : Nat := 1
abbrev τ : Topo := Topo.v7x

variable {F : FTy → Type} [FloatOps F]
-- ==== Sample.lean ====
abbrev S4x8192x1024 : Shape := ⟨3, ![4, 8192, 1024]⟩
abbrev S4x8192x512 : Shape := ⟨3, ![4, 8192, 512]⟩
abbrev S1x512 : Shape := ⟨2, ![1, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S512 : Shape := ⟨1, ![512]⟩
abbrev S1024x1024 : Shape := ⟨2, ![1024, 1024]⟩
abbrev S512x1024 : Shape := ⟨2, ![512, 1024]⟩
abbrev S1024x5632 : Shape := ⟨2, ![1024, 5632]⟩
abbrev S1024x2816 : Shape := ⟨2, ![1024, 2816]⟩
abbrev S2816x1024 : Shape := ⟨2, ![2816, 1024]⟩
abbrev S1x512x1024 : Shape := ⟨3, ![1, 512, 1024]⟩
abbrev S1x512x512 : Shape := ⟨3, ![1, 512, 512]⟩
abbrev S1x256x512 : Shape := ⟨3, ![1, 256, 512]⟩
abbrev S256x512 : Shape := ⟨2, ![256, 512]⟩
abbrev S256 : Shape := ⟨1, ![256]⟩
abbrev S256x1 : Shape := ⟨2, ![256, 1]⟩
abbrev S1x256x1024 : Shape := ⟨3, ![1, 256, 1024]⟩
abbrev S256x1024 : Shape := ⟨2, ![256, 1024]⟩
abbrev S256x2816 : Shape := ⟨2, ![256, 2816]⟩

abbrev nBuf : Space → Nat
  | .hbm => 30
  | .vmem => 18
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .f32⟩
  | .hbm, ⟨3, _⟩ => ⟨S4x8192x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x2816x1024, .f32⟩
  | .hbm, ⟨9, _⟩ => ⟨S1024, .f32⟩
  | .hbm, ⟨10, _⟩ => ⟨S512, .f32⟩
  | .hbm, ⟨11, _⟩ => ⟨S1x512, .f32⟩
  | .hbm, ⟨12, _⟩ => ⟨S1024x1024, .f32⟩
  | .hbm, ⟨13, _⟩ => ⟨S512x1024, .f32⟩
  | .hbm, ⟨14, _⟩ => ⟨S512x1024, .bf16⟩
  | .hbm, ⟨15, _⟩ => ⟨S1024x1024, .f32⟩
  | .hbm, ⟨16, _⟩ => ⟨S512x1024, .f32⟩
  | .hbm, ⟨17, _⟩ => ⟨S512x1024, .bf16⟩
  | .hbm, ⟨18, _⟩ => ⟨S1024, .f32⟩
  | .hbm, ⟨19, _⟩ => ⟨S1x1024, .f32⟩
  | .hbm, ⟨20, _⟩ => ⟨S1024x5632, .f32⟩
  | .hbm, ⟨21, _⟩ => ⟨S1024x2816, .f32⟩
  | .hbm, ⟨22, _⟩ => ⟨S1024x2816, .bf16⟩
  | .hbm, ⟨23, _⟩ => ⟨S1024x5632, .f32⟩
  | .hbm, ⟨24, _⟩ => ⟨S1024x2816, .f32⟩
  | .hbm, ⟨25, _⟩ => ⟨S1024x2816, .bf16⟩
  | .hbm, ⟨26, _⟩ => ⟨S2816x1024, .f32⟩
  | .hbm, ⟨27, _⟩ => ⟨S2816x1024, .bf16⟩
  | .hbm, ⟨28, _⟩ => ⟨S1x1024, .f32⟩
  | .hbm, ⟨29, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x512, .f32⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2816 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x2816 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== SampleRefIdeal.lean ====
abbrev S4x8192x1024 : Shape := ⟨3, ![4, 8192, 1024]⟩
abbrev S4x8192x512 : Shape := ⟨3, ![4, 8192, 512]⟩
abbrev S1x512 : Shape := ⟨2, ![1, 512]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024 : Shape := ⟨1, ![1024]⟩
abbrev S_ : Shape := ⟨0, ![]⟩
abbrev S512 : Shape := ⟨1, ![512]⟩
abbrev S4x8192 : Shape := ⟨2, ![4, 8192]⟩
abbrev S4x8192x1 : Shape := ⟨3, ![4, 8192, 1]⟩
abbrev S1x1x512 : Shape := ⟨3, ![1, 1, 512]⟩
abbrev S1024x1024 : Shape := ⟨2, ![1024, 1024]⟩
abbrev S1x1x1024 : Shape := ⟨3, ![1, 1, 1024]⟩
abbrev S1024x5632 : Shape := ⟨2, ![1024, 5632]⟩
abbrev S4x8192x5632 : Shape := ⟨3, ![4, 8192, 5632]⟩
abbrev S4x8192x2816 : Shape := ⟨3, ![4, 8192, 2816]⟩
abbrev S2816x1024 : Shape := ⟨2, ![2816, 1024]⟩

abbrev nBuf : Space → Nat
  | .hbm => 100
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .bf16⟩
  | .hbm, ⟨2, _⟩ => ⟨S4x8192x512, .f32⟩
  | .hbm, ⟨3, _⟩ => ⟨S4x8192x512, .f32⟩
  | .hbm, ⟨4, _⟩ => ⟨S1x512, .f32⟩
  | .hbm, ⟨5, _⟩ => ⟨S1x1024x1024, .f32⟩
  | .hbm, ⟨6, _⟩ => ⟨S1x1024, .f32⟩
  | .hbm, ⟨7, _⟩ => ⟨S1x1024x5632, .f32⟩
  | .hbm, ⟨8, _⟩ => ⟨S1x2816x1024, .f32⟩
  | .hbm, ⟨9, _⟩ => ⟨S1024, .f32⟩
  | .hbm, ⟨10, _⟩ => ⟨S4x8192x512, .f32⟩
  | .hbm, ⟨11, _⟩ => ⟨S4x8192x512, .f32⟩
  | .hbm, ⟨12, _⟩ => ⟨S_, .f32⟩
  | .hbm, ⟨13, _⟩ => ⟨S4x8192x512, .f32⟩
  | .hbm, ⟨14, _⟩ => ⟨S4x8192x512, .f32⟩
  | .hbm, ⟨15, _⟩ => ⟨S4x8192x512, .f32⟩
  | .hbm, ⟨16, _⟩ => ⟨S_, .f32⟩
  | .hbm, ⟨17, _⟩ => ⟨S4x8192x512, .f32⟩
  | .hbm, ⟨18, _⟩ => ⟨S4x8192x512, .f32⟩
  | .hbm, ⟨19, _⟩ => ⟨S4x8192x512, .f32⟩
  | .hbm, ⟨20, _⟩ => ⟨S_, .f32⟩
  | .hbm, ⟨21, _⟩ => ⟨S4x8192x512, .f32⟩
  | .hbm, ⟨22, _⟩ => ⟨S4x8192x512, .f32⟩
  | .hbm, ⟨23, _⟩ => ⟨S_, .f32⟩
  | .hbm, ⟨24, _⟩ => ⟨S4x8192x512, .f32⟩
  | .hbm, ⟨25, _⟩ => ⟨S4x8192x512, .f32⟩
  | .hbm, ⟨26, _⟩ => ⟨S4x8192x512, .f32⟩
  | .hbm, ⟨27, _⟩ => ⟨S4x8192x512, .f32⟩
  | .hbm, ⟨28, _⟩ => ⟨S512, .f32⟩
  | .hbm, ⟨29, _⟩ => ⟨S4x8192x512, .f32⟩
  | .hbm, ⟨30, _⟩ => ⟨S_, .f32⟩
  | .hbm, ⟨31, _⟩ => ⟨S4x8192, .f32⟩
  | .hbm, ⟨32, _⟩ => ⟨S4x8192x1, .f32⟩
  | .hbm, ⟨33, _⟩ => ⟨S_, .f32⟩
  | .hbm, ⟨34, _⟩ => ⟨S4x8192x1, .f32⟩
  | .hbm, ⟨35, _⟩ => ⟨S4x8192x1, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S4x8192x1, .f32⟩
  | .hbm, ⟨40, _⟩ => ⟨S4x8192x512, .f32⟩
  | .hbm, ⟨41, _⟩ => ⟨S4x8192x512, .f32⟩
  | .hbm, ⟨42, _⟩ => ⟨S1x1x512, .f32⟩
  | .hbm, ⟨43, _⟩ => ⟨S4x8192x512, .f32⟩
  | .hbm, ⟨44, _⟩ => ⟨S4x8192x512, .f32⟩
  | .hbm, ⟨45, _⟩ => ⟨S4x8192x512, .f32⟩
  | .hbm, ⟨46, _⟩ => ⟨S4x8192x1024, .f32⟩
  | .hbm, ⟨47, _⟩ => ⟨S1024x1024, .f32⟩
  | .hbm, ⟨48, _⟩ => ⟨S4x8192x1024, .f32⟩
  | .hbm, ⟨49, _⟩ => ⟨S4x8192x1024, .f32⟩
  | .hbm, ⟨50, _⟩ => ⟨S1024, .f32⟩
  | .hbm, ⟨51, _⟩ => ⟨S4x8192x1024, .f32⟩
  | .hbm, ⟨52, _⟩ => ⟨S_, .f32⟩
  | .hbm, ⟨53, _⟩ => ⟨S4x8192, .f32⟩
  | .hbm, ⟨54, _⟩ => ⟨S4x8192x1, .f32⟩
  | .hbm, ⟨55, _⟩ => ⟨S_, .f32⟩
  | .hbm, ⟨56, _⟩ => ⟨S4x8192x1, .f32⟩
  | .hbm, ⟨57, _⟩ => ⟨S4x8192x1, .f32⟩
  | .hbm, ⟨58, _⟩ => ⟨S_, .f32⟩
  | .hbm, ⟨59, _⟩ => ⟨S4x8192x1, .f32⟩
  | .hbm, ⟨60, _⟩ => ⟨S4x8192x1, .f32⟩
  | .hbm, ⟨61, _⟩ => ⟨S4x8192x1, .f32⟩
  | .hbm, ⟨62, _⟩ => ⟨S4x8192x1024, .f32⟩
  | .hbm, ⟨63, _⟩ => ⟨S4x8192x1024, .f32⟩
  | .hbm, ⟨64, _⟩ => ⟨S1x1x1024, .f32⟩
  | .hbm, ⟨65, _⟩ => ⟨S4x8192x1024, .f32⟩
  | .hbm, ⟨66, _⟩ => ⟨S4x8192x1024, .f32⟩
  | .hbm, ⟨67, _⟩ => ⟨S1024x5632, .f32⟩
  | .hbm, ⟨68, _⟩ => ⟨S4x8192x5632, .f32⟩
  | .hbm, ⟨69, _⟩ => ⟨S4x8192x2816, .f32⟩
  | .hbm, ⟨70, _⟩ => ⟨S4x8192x2816, .f32⟩
  | .hbm, ⟨71, _⟩ => ⟨S4x8192x2816, .f32⟩
  | .hbm, ⟨72, _⟩ => ⟨S4x8192x2816, .f32⟩
  | .hbm, ⟨73, _⟩ => ⟨S_, .f32⟩
  | .hbm, ⟨74, _⟩ => ⟨S4x8192x2816, .f32⟩
  | .hbm, ⟨75, _⟩ => ⟨S4x8192x2816, .f32⟩
  | .hbm, ⟨76, _⟩ => ⟨S_, .f32⟩
  | .hbm, ⟨77, _⟩ => ⟨S4x8192x2816, .f32⟩
  | .hbm, ⟨78, _⟩ => ⟨S4x8192x2816, .f32⟩
  | .hbm, ⟨79, _⟩ => ⟨S4x8192x2816, .f32⟩
  | .hbm, ⟨80, _⟩ => ⟨S4x8192x2816, .f32⟩
  | .hbm, ⟨81, _⟩ => ⟨S2816x1024, .f32⟩
  | .hbm, ⟨82, _⟩ => ⟨S4x8192x1024, .f32⟩
  | .hbm, ⟨83, _⟩ => ⟨S4x8192x1024, .f32⟩
  | .hbm, ⟨84, _⟩ => ⟨S4x8192x1024, .f32⟩
  | .hbm, ⟨85, _⟩ => ⟨S_, .f32⟩
  | .hbm, ⟨86, _⟩ => ⟨S4x8192, .f32⟩
  | .hbm, ⟨87, _⟩ => ⟨S4x8192x1, .f32⟩
  | .hbm, ⟨88, _⟩ => ⟨S_, .f32⟩
  | .hbm, ⟨89, _⟩ => ⟨S4x8192x1, .f32⟩
  | .hbm, ⟨90, _⟩ => ⟨S4x8192x1, .f32⟩
  | .hbm, ⟨91, _⟩ => ⟨S_, .f32⟩
  | .hbm, ⟨92, _⟩ => ⟨S4x8192x1, .f32⟩
  | .hbm, ⟨93, _⟩ => ⟨S4x8192x1, .f32⟩
  | .hbm, ⟨94, _⟩ => ⟨S4x8192x1, .f32⟩
  | .hbm, ⟨95, _⟩ => ⟨S4x8192x1024, .f32⟩
  | .hbm, ⟨96, _⟩ => ⟨S4x8192x1024, .f32⟩
  | .hbm, ⟨97, _⟩ => ⟨S1x1x1024, .f32⟩
  | .hbm, ⟨98, _⟩ => ⟨S4x8192x1024, .f32⟩
  | .hbm, ⟨99, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_9 : Ref sig .tc := ⟨.hbm, 85, rfl⟩
abbrev main_v57 : Ref sig .tc := ⟨.hbm, 86, rfl⟩
abbrev main_v58 : Ref sig .tc := ⟨.hbm, 87, rfl⟩
abbrev main_cst_10 : Ref sig .tc := ⟨.hbm, 88, rfl⟩
abbrev main_v59 : Ref sig .tc := ⟨.hbm, 89, rfl⟩
abbrev main_v60 : Ref sig .tc := ⟨.hbm, 90, rfl⟩
abbrev main_cst_11 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩

abbrev nD : Nat := 1
abbrev τ : Topo := Topo.v7x

variable {F : FTy → Type} [FloatOps F]
-- ==== Attn.lean ====
abbrev S8x512x8192 : Shape := ⟨3, ![8, 512, 8192]⟩
abbrev S8x8192x128 : Shape := ⟨3, ![8, 8192, 128]⟩
abbrev S8x32x128x256 : Shape := ⟨4, ![8, 32, 128, 256]⟩
abbrev S16x128 : Shape := ⟨2, ![16, 128]⟩
abbrev S128x16 : Shape := ⟨2, ![128, 16]⟩
abbrev S512x1 : Shape := ⟨2, ![512, 1]⟩
abbrev S8x8192x512 : Shape := ⟨3, ![8, 8192, 512]⟩
abbrev S1x512x512 : Shape := ⟨3, ![1, 512, 512]⟩
abbrev S1x8192x128 : Shape := ⟨3, ![1, 8192, 128]⟩
abbrev S1x32x128x256 : Shape := ⟨4, ![1, 32, 128, 256]⟩
abbrev S8x128x512 : Shape := ⟨3, ![8, 128, 512]⟩
abbrev S8x1x512 : Shape := ⟨3, ![8, 1, 512]⟩
abbrev S8x72x512 : Shape := ⟨3, ![8, 72, 512]⟩
abbrev S2x256x512 : Shape := ⟨3, ![2, 256, 512]⟩
abbrev S2x1x512 : Shape := ⟨3, ![2, 1, 512]⟩
abbrev S64x512 : Shape := ⟨2, ![64, 512]⟩
abbrev S1x64x512 : Shape := ⟨3, ![1, 64, 512]⟩
abbrev S128x512 : Shape := ⟨2, ![128, 512]⟩
abbrev S1x128x512 : Shape := ⟨3, ![1, 128, 512]⟩
abbrev S1x256x128 : Shape := ⟨3, ![1, 256, 128]⟩
abbrev S256x128 : Shape := ⟨2, ![256, 128]⟩
abbrev S256x512 : Shape := ⟨2, ![256, 512]⟩
abbrev S1x256x512 : Shape := ⟨3, ![1, 256, 512]⟩
abbrev S512 : Shape := ⟨1, ![512]⟩
abbrev S1x512 : Shape := ⟨2, ![1, 512]⟩
abbrev S1x1x512 : Shape := ⟨3, ![1, 1, 512]⟩
abbrev S16x16 : Shape := ⟨2, ![16, 16]⟩
abbrev S64x16 : Shape := ⟨2, ![64, 16]⟩
abbrev S80x16 : Shape := ⟨2, ![80, 16]⟩
abbrev S16x512 : Shape := ⟨2, ![16, 512]⟩
abbrev S80x512 : Shape := ⟨2, ![80, 512]⟩
abbrev S72x512 : Shape := ⟨2, ![72, 512]⟩
abbrev S1x72x512 : Shape := ⟨3, ![1, 72, 512]⟩
abbrev S1x1x128x256 : Shape := ⟨4, ![1, 1, 128, 256]⟩
abbrev S128x256 : Shape := ⟨2, ![128, 256]⟩
abbrev S16x256 : Shape := ⟨2, ![16, 256]⟩
abbrev S64x256 : Shape := ⟨2, ![64, 256]⟩
abbrev S80x256 : Shape := ⟨2, ![80, 256]⟩
abbrev S1 : Shape := ⟨1, ![1]⟩
abbrev S1x1x1 : Shape := ⟨3, ![1, 1, 1]⟩
abbrev S512x512 : Shape := ⟨2, ![512, 512]⟩

abbrev nBuf : Space → Nat
  | .hbm => 7
  | .vmem => 16
  | .smem => 0
  | _ => 0

abbrev bufTy : (tb : Table) → Fin (tcTables nBuf tb) → BufTy
  | .hbm, ⟨0, _⟩ => ⟨S8x512x8192, .bf16⟩
  | .hbm, ⟨1, _⟩ => ⟨S8x8192x128, .bf16⟩
  | .hbm, ⟨2, _⟩ => ⟨S8x32x128x256, .bf16⟩
  | .hbm, ⟨3, _⟩ => ⟨S16x128, .bf16⟩
  | .hbm, ⟨4, _⟩ => ⟨S128x16, .bf16⟩
  | .hbm, ⟨5, _⟩ => ⟨S512x1, .f32⟩
  | .hbm, ⟨6, _⟩ => ⟨S8x8192x512, .bf16⟩
  | .local _ .vmem, ⟨0, _⟩ => ⟨S1x512x512, .bf16⟩
  | .local _ .vmem, ⟨1, _⟩ => ⟨S1x512x512, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x32x128x256, .bf16⟩
  | .local _ .vmem, ⟨5, _⟩ => ⟨S1x32x128x256, .bf16⟩
  | .local _ .vmem, ⟨6, _⟩ => ⟨S16x128, .bf16⟩
  | .local _ .vmem, ⟨7, _⟩ => ⟨S128x16, .bf16⟩
  | .local _ .vmem, ⟨8, _⟩ => ⟨S512x1, .f32⟩
  | .local _ .vmem, ⟨9, _⟩ => ⟨S1x512x512, .bf16⟩
  | .local _ .vmem, ⟨10, _⟩ => ⟨S1x512x512, .bf16⟩
  | .local _ .vmem, ⟨11, _⟩ => ⟨S8x128x512, .bf16⟩
  | .local _ .vmem, ⟨12, _⟩ => ⟨S8x1x512, .f32⟩
  | .local _ .vmem, ⟨13, _⟩ => ⟨S8x72x512, .f32⟩
  | .local _ .vmem, ⟨14, _⟩ => ⟨S2x256x512, .f32⟩
  | .local _ .vmem, ⟨15, _⟩ => ⟨S2x1x512, .f32⟩
  | _, _ => ⟨S8x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 16], ![false, false]⟩

def k0_mult1 : BitVec 32 :=
  let c0_i32 : BitVec 32 := 0#32
  c0_i32
def k0_mult2 : BitVec 32 :=
  let c0_i32_46 : BitVec 32 := 0#32
  c0_i32_46
@[reducible] def k0_t1_loop : Scf.Loop 32 :=
  let c0_i32_165 : BitVec 32 := 0#32
  let c8_i32 : BitVec 32 := 8#32
  let v225 : BitVec 32 := Scalar.addi c0_i32_165 c8_i32
  let c1_i32 : BitVec 32 := 1#32
  ⟨c0_i32_165, v225, c1_i32⟩
def k0_off1 (k0_t1 : Fin k0_t1_loop.trips) (c0_i32_226 : BitVec 32) : Fin 4 → Nat :=
  let c0_227 : Index := 0#32
  let c0_i32_165 : BitVec 32 := 0#32
  let c1_i32 : BitVec 32 := 1#32
  let arg14 : BitVec 32 := Scf.iv c0_i32_165 c1_i32 k0_t1
  let c4_i32 : BitVec 32 := 4#32
  let v302 : BitVec 32 := Scalar.muli arg14 c4_i32
  let v303 : BitVec 32 := Scalar.addi v302 c0_i32_226
  let v304 : Index := Scalar.indexCast v303
  let c0_228 : Index := 0#32
  let c0_229 : Index := 0#32
  ![0, v304.toNat, 0, 0]
def k0_mult3 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_299 : BitVec 32 := 4#32
  let v386 : BitVec 32 := Scalar.muli arg14 c4_i32_299
  let c0_i32_300 : BitVec 32 := 0#32
  let v387 : BitVec 32 := Scalar.addi v386 c0_i32_300
  let c256_i32 : BitVec 32 := 256#32
  let v388 : BitVec 32 := Scalar.muli v387 c256_i32
  v388
def k0_off2 (k0_t1 : Fin k0_t1_loop.trips) (c0_i32_300 : BitVec 32) : Fin 3 → Nat :=
  let c0_301 : Index := 0#32
  let c0_i32_165 : BitVec 32 := 0#32
  let c1_i32 : BitVec 32 := 1#32
  let arg14 : BitVec 32 := Scf.iv c0_i32_165 c1_i32 k0_t1
  let c4_i32_299 : BitVec 32 := 4#32
  let v386 : BitVec 32 := Scalar.muli arg14 c4_i32_299
  let v387 : BitVec 32 := Scalar.addi v386 c0_i32_300
  let c256_i32 : BitVec 32 := 256#32
  let v388 : BitVec 32 := Scalar.muli v387 c256_i32
  let v389 : BitVec 32 := v388
  let v390 : Index := Scalar.indexCast v389
  let c0_302 : Index := 0#32
  ![0, v390.toNat, 0]
def k0_mult4 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_321 : BitVec 32 := 4#32
  let v422 : BitVec 32 := Scalar.muli arg14 c4_i32_321
  let c0_i32_322 : BitVec 32 := 0#32
  let v423 : BitVec 32 := Scalar.addi v422 c0_i32_322
  let c256_i32_323 : BitVec 32 := 256#32
  let v424 : BitVec 32 := Scalar.muli v423 c256_i32_323
  v424
def k0_mult5 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_344 : BitVec 32 := 4#32
  let v458 : BitVec 32 := Scalar.muli arg14 c4_i32_344
  let c0_i32_345 : BitVec 32 := 0#32
  let v459 : BitVec 32 := Scalar.addi v458 c0_i32_345
  let c256_i32_346 : BitVec 32 := 256#32
  let v460 : BitVec 32 := Scalar.muli v459 c256_i32_346
  v460
def k0_mult6 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_367 : BitVec 32 := 4#32
  let v494 : BitVec 32 := Scalar.muli arg14 c4_i32_367
  let c0_i32_368 : BitVec 32 := 0#32
  let v495 : BitVec 32 := Scalar.addi v494 c0_i32_368
  let c256_i32_369 : BitVec 32 := 256#32
  let v496 : BitVec 32 := Scalar.muli v495 c256_i32_369
  v496
def k0_mult7 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_390 : BitVec 32 := 4#32
  let v530 : BitVec 32 := Scalar.muli arg14 c4_i32_390
  let c0_i32_391 : BitVec 32 := 0#32
  let v531 : BitVec 32 := Scalar.addi v530 c0_i32_391
  let c256_i32_392 : BitVec 32 := 256#32
  let v532 : BitVec 32 := Scalar.muli v531 c256_i32_392
  v532
def k0_mult8 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_413 : BitVec 32 := 4#32
  let v566 : BitVec 32 := Scalar.muli arg14 c4_i32_413
  let c0_i32_414 : BitVec 32 := 0#32
  let v567 : BitVec 32 := Scalar.addi v566 c0_i32_414
  let c256_i32_415 : BitVec 32 := 256#32
  let v568 : BitVec 32 := Scalar.muli v567 c256_i32_415
  v568
def k0_mult9 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_436 : BitVec 32 := 4#32
  let v602 : BitVec 32 := Scalar.muli arg14 c4_i32_436
  let c1_i32_437 : BitVec 32 := 1#32
  let v603 : BitVec 32 := Scalar.addi v602 c1_i32_437
  let c256_i32_438 : BitVec 32 := 256#32
  let v604 : BitVec 32 := Scalar.muli v603 c256_i32_438
  v604
def k0_mult10 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_459 : BitVec 32 := 4#32
  let v638 : BitVec 32 := Scalar.muli arg14 c4_i32_459
  let c1_i32_460 : BitVec 32 := 1#32
  let v639 : BitVec 32 := Scalar.addi v638 c1_i32_460
  let c256_i32_461 : BitVec 32 := 256#32
  let v640 : BitVec 32 := Scalar.muli v639 c256_i32_461
  v640
def k0_mult11 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_482 : BitVec 32 := 4#32
  let v674 : BitVec 32 := Scalar.muli arg14 c4_i32_482
  let c1_i32_483 : BitVec 32 := 1#32
  let v675 : BitVec 32 := Scalar.addi v674 c1_i32_483
  let c256_i32_484 : BitVec 32 := 256#32
  let v676 : BitVec 32 := Scalar.muli v675 c256_i32_484
  v676
def k0_mult12 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_505 : BitVec 32 := 4#32
  let v710 : BitVec 32 := Scalar.muli arg14 c4_i32_505
  let c1_i32_506 : BitVec 32 := 1#32
  let v711 : BitVec 32 := Scalar.addi v710 c1_i32_506
  let c256_i32_507 : BitVec 32 := 256#32
  let v712 : BitVec 32 := Scalar.muli v711 c256_i32_507
  v712
def k0_mult13 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_528 : BitVec 32 := 4#32
  let v746 : BitVec 32 := Scalar.muli arg14 c4_i32_528
  let c1_i32_529 : BitVec 32 := 1#32
  let v747 : BitVec 32 := Scalar.addi v746 c1_i32_529
  let c256_i32_530 : BitVec 32 := 256#32
  let v748 : BitVec 32 := Scalar.muli v747 c256_i32_530
  v748
def k0_mult14 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_551 : BitVec 32 := 4#32
  let v782 : BitVec 32 := Scalar.muli arg14 c4_i32_551
  let c1_i32_552 : BitVec 32 := 1#32
  let v783 : BitVec 32 := Scalar.addi v782 c1_i32_552
  let c256_i32_553 : BitVec 32 := 256#32
  let v784 : BitVec 32 := Scalar.muli v783 c256_i32_553
  v784
def k0_mult15 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_574 : BitVec 32 := 4#32
  let v818 : BitVec 32 := Scalar.muli arg14 c4_i32_574
  let c1_i32_575 : BitVec 32 := 1#32
  let v819 : BitVec 32 := Scalar.addi v818 c1_i32_575
  let c256_i32_576 : BitVec 32 := 256#32
  let v820 : BitVec 32 := Scalar.muli v819 c256_i32_576
  v820
def k0_mult16 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_597 : BitVec 32 := 4#32
  let v854 : BitVec 32 := Scalar.muli arg14 c4_i32_597
  let c1_i32_598 : BitVec 32 := 1#32
  let v855 : BitVec 32 := Scalar.addi v854 c1_i32_598
  let c256_i32_599 : BitVec 32 := 256#32
  let v856 : BitVec 32 := Scalar.muli v855 c256_i32_599
  v856
def k0_mult17 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_620 : BitVec 32 := 4#32
  let v890 : BitVec 32 := Scalar.muli arg14 c4_i32_620
  let c2_i32_621 : BitVec 32 := 2#32
  let v891 : BitVec 32 := Scalar.addi v890 c2_i32_621
  let c256_i32_622 : BitVec 32 := 256#32
  let v892 : BitVec 32 := Scalar.muli v891 c256_i32_622
  v892
def k0_mult18 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_643 : BitVec 32 := 4#32
  let v926 : BitVec 32 := Scalar.muli arg14 c4_i32_643
  let c2_i32_644 : BitVec 32 := 2#32
  let v927 : BitVec 32 := Scalar.addi v926 c2_i32_644
  let c256_i32_645 : BitVec 32 := 256#32
  let v928 : BitVec 32 := Scalar.muli v927 c256_i32_645
  v928
def k0_mult19 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_666 : BitVec 32 := 4#32
  let v962 : BitVec 32 := Scalar.muli arg14 c4_i32_666
  let c2_i32_667 : BitVec 32 := 2#32
  let v963 : BitVec 32 := Scalar.addi v962 c2_i32_667
  let c256_i32_668 : BitVec 32 := 256#32
  let v964 : BitVec 32 := Scalar.muli v963 c256_i32_668
  v964
def k0_mult20 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_689 : BitVec 32 := 4#32
  let v998 : BitVec 32 := Scalar.muli arg14 c4_i32_689
  let c2_i32_690 : BitVec 32 := 2#32
  let v999 : BitVec 32 := Scalar.addi v998 c2_i32_690
  let c256_i32_691 : BitVec 32 := 256#32
  let v1000 : BitVec 32 := Scalar.muli v999 c256_i32_691
  v1000
def k0_mult21 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_712 : BitVec 32 := 4#32
  let v1034 : BitVec 32 := Scalar.muli arg14 c4_i32_712
  let c2_i32_713 : BitVec 32 := 2#32
  let v1035 : BitVec 32 := Scalar.addi v1034 c2_i32_713
  let c256_i32_714 : BitVec 32 := 256#32
  let v1036 : BitVec 32 := Scalar.muli v1035 c256_i32_714
  v1036
def k0_mult22 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_735 : BitVec 32 := 4#32
  let v1070 : BitVec 32 := Scalar.muli arg14 c4_i32_735
  let c2_i32_736 : BitVec 32 := 2#32
  let v1071 : BitVec 32 := Scalar.addi v1070 c2_i32_736
  let c256_i32_737 : BitVec 32 := 256#32
  let v1072 : BitVec 32 := Scalar.muli v1071 c256_i32_737
  v1072
def k0_mult23 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_758 : BitVec 32 := 4#32
  let v1106 : BitVec 32 := Scalar.muli arg14 c4_i32_758
  let c2_i32_759 : BitVec 32 := 2#32
  let v1107 : BitVec 32 := Scalar.addi v1106 c2_i32_759
  let c256_i32_760 : BitVec 32 := 256#32
  let v1108 : BitVec 32 := Scalar.muli v1107 c256_i32_760
  v1108
def k0_mult24 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_781 : BitVec 32 := 4#32
  let v1142 : BitVec 32 := Scalar.muli arg14 c4_i32_781
  let c2_i32_782 : BitVec 32 := 2#32
  let v1143 : BitVec 32 := Scalar.addi v1142 c2_i32_782
  let c256_i32_783 : BitVec 32 := 256#32
  let v1144 : BitVec 32 := Scalar.muli v1143 c256_i32_783
  v1144
def k0_mult25 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_804 : BitVec 32 := 4#32
  let v1178 : BitVec 32 := Scalar.muli arg14 c4_i32_804
  let c3_i32_805 : BitVec 32 := 3#32
  let v1179 : BitVec 32 := Scalar.addi v1178 c3_i32_805
  let c256_i32_806 : BitVec 32 := 256#32
  let v1180 : BitVec 32 := Scalar.muli v1179 c256_i32_806
  v1180
def k0_mult26 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_827 : BitVec 32 := 4#32
  let v1214 : BitVec 32 := Scalar.muli arg14 c4_i32_827
  let c3_i32_828 : BitVec 32 := 3#32
  let v1215 : BitVec 32 := Scalar.addi v1214 c3_i32_828
  let c256_i32_829 : BitVec 32 := 256#32
  let v1216 : BitVec 32 := Scalar.muli v1215 c256_i32_829
  v1216
def k0_mult27 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_850 : BitVec 32 := 4#32
  let v1250 : BitVec 32 := Scalar.muli arg14 c4_i32_850
  let c3_i32_851 : BitVec 32 := 3#32
  let v1251 : BitVec 32 := Scalar.addi v1250 c3_i32_851
  let c256_i32_852 : BitVec 32 := 256#32
  let v1252 : BitVec 32 := Scalar.muli v1251 c256_i32_852
  v1252
def k0_mult28 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_873 : BitVec 32 := 4#32
  let v1286 : BitVec 32 := Scalar.muli arg14 c4_i32_873
  let c3_i32_874 : BitVec 32 := 3#32
  let v1287 : BitVec 32 := Scalar.addi v1286 c3_i32_874
  let c256_i32_875 : BitVec 32 := 256#32
  let v1288 : BitVec 32 := Scalar.muli v1287 c256_i32_875
  v1288
def k0_mult29 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_896 : BitVec 32 := 4#32
  let v1322 : BitVec 32 := Scalar.muli arg14 c4_i32_896
  let c3_i32_897 : BitVec 32 := 3#32
  let v1323 : BitVec 32 := Scalar.addi v1322 c3_i32_897
  let c256_i32_898 : BitVec 32 := 256#32
  let v1324 : BitVec 32 := Scalar.muli v1323 c256_i32_898
  v1324
def k0_mult30 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_919 : BitVec 32 := 4#32
  let v1358 : BitVec 32 := Scalar.muli arg14 c4_i32_919
  let c3_i32_920 : BitVec 32 := 3#32
  let v1359 : BitVec 32 := Scalar.addi v1358 c3_i32_920
  let c256_i32_921 : BitVec 32 := 256#32
  let v1360 : BitVec 32 := Scalar.muli v1359 c256_i32_921
  v1360
def k0_mult31 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_942 : BitVec 32 := 4#32
  let v1394 : BitVec 32 := Scalar.muli arg14 c4_i32_942
  let c3_i32_943 : BitVec 32 := 3#32
  let v1395 : BitVec 32 := Scalar.addi v1394 c3_i32_943
  let c256_i32_944 : BitVec 32 := 256#32
  let v1396 : BitVec 32 := Scalar.muli v1395 c256_i32_944
  v1396
def k0_mult32 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c4_i32_965 : BitVec 32 := 4#32
  let v1430 : BitVec 32 := Scalar.muli arg14 c4_i32_965
  let c3_i32_966 : BitVec 32 := 3#32
  let v1431 : BitVec 32 := Scalar.addi v1430 c3_i32_966
  let c256_i32_967 : BitVec 32 := 256#32
  let v1432 : BitVec 32 := Scalar.muli v1431 c256_i32_967
  v1432
def k0_mult33 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c1_i32_988 : BitVec 32 := 1#32
  let v1466 : BitVec 32 := Scalar.addi arg14 c1_i32_988
  let c4_i32_989 : BitVec 32 := 4#32
  let v1467 : BitVec 32 := Scalar.muli v1466 c4_i32_989
  let c0_i32_990 : BitVec 32 := 0#32
  let v1468 : BitVec 32 := Scalar.addi v1467 c0_i32_990
  let c31_i32 : BitVec 32 := 31#32
  let v1469 : BitVec 32 := Scalar.minsi v1468 c31_i32
  let c256_i32_991 : BitVec 32 := 256#32
  let v1470 : BitVec 32 := Scalar.muli v1469 c256_i32_991
  v1470
def k0_off3 (k0_t1 : Fin k0_t1_loop.trips) : Fin 3 → Nat :=
  let c0_992 : Index := 0#32
  let c0_i32_165 : BitVec 32 := 0#32
  let c1_i32 : BitVec 32 := 1#32
  let arg14 : BitVec 32 := Scf.iv c0_i32_165 c1_i32 k0_t1
  let c1_i32_988 : BitVec 32 := 1#32
  let v1466 : BitVec 32 := Scalar.addi arg14 c1_i32_988
  let c4_i32_989 : BitVec 32 := 4#32
  let v1467 : BitVec 32 := Scalar.muli v1466 c4_i32_989
  let c0_i32_990 : BitVec 32 := 0#32
  let v1468 : BitVec 32 := Scalar.addi v1467 c0_i32_990
  let c31_i32 : BitVec 32 := 31#32
  let v1469 : BitVec 32 := Scalar.minsi v1468 c31_i32
  let c256_i32_991 : BitVec 32 := 256#32
  let v1470 : BitVec 32 := Scalar.muli v1469 c256_i32_991
  let v1471 : BitVec 32 := v1470
  let v1472 : Index := Scalar.indexCast v1471
  let c0_993 : Index := 0#32
  ![0, v1472.toNat, 0]
def k0_mult34 (k0_t1 : Fin k0_t1_loop.trips) : BitVec 32 :=
  let c0_i32_165 : BitVec 32 := 0#32
  let c1_i32 : BitVec 32 := 1#32
  let arg14 : BitVec 32 := Scf.iv c0_i32_165 c1_i32 k0_t1
  let c1_i32_1018 : BitVec 32 := 1#32
  let v1508 : BitVec 32 := Scalar.addi arg14 c1_i32_1018
  let c4_i32_1019 : BitVec 32 := 4#32
  let v1509 : BitVec 32 := Scalar.muli v1508 c4_i32_1019
  let c0_i32_1020 : BitVec 32 := 0#32
  let v1510 : BitVec 32 := Scalar.addi v1509 c0_i32_1020
  let c31_i32_1021 : BitVec 32 := 31#32
  let v1511 : BitVec 32 := Scalar.minsi v1510 c31_i32_1021
  let c256_i32_1022 : BitVec 32 := 256#32
  let v1512 : BitVec 32 := Scalar.muli v1511 c256_i32_1022
  v1512
@[reducible] def k0_t2_loop : Scf.Loop 32 :=
  let c0_i32_330 : BitVec 32 := 0#32
  let c32_i32 : BitVec 32 := 32#32
  let v447 : BitVec 32 := Scalar.addi c0_i32_330 c32_i32
  let c1_i32_331 : BitVec 32 := 1#32
  ⟨c0_i32_330, v447, c1_i32_331⟩
def k0_off4 (k0_t2 : Fin k0_t2_loop.trips) : Fin 4 → Nat :=
  let c0_333 : Index := 0#32
  let c0_i32_330 : BitVec 32 := 0#32
  let c1_i32_331 : BitVec 32 := 1#32
  let arg14 : BitVec 32 := Scf.iv c0_i32_330 c1_i32_331 k0_t2
  let v448 : Index := Scalar.indexCast arg14
  let c0_334 : Index := 0#32
  let c0_335 : Index := 0#32
  ![0, v448.toNat, 0, 0]
def k0_mult35 (k0_t2 : Fin k0_t2_loop.trips) : BitVec 32 :=
  let c0_i32_330 : BitVec 32 := 0#32
  let c1_i32_331 : BitVec 32 := 1#32
  let arg14 : BitVec 32 := Scf.iv c0_i32_330 c1_i32_331 k0_t2
  let c256_i32 : BitVec 32 := 256#32
  let v460 : BitVec 32 := Scalar.muli arg14 c256_i32
  v460
def k0_off5 (k0_t2 : Fin k0_t2_loop.trips) : Fin 3 → Nat :=
  let c0_341 : Index := 0#32
  let c0_i32_330 : BitVec 32 := 0#32
  let c1_i32_331 : BitVec 32 := 1#32
  let arg14 : BitVec 32 := Scf.iv c0_i32_330 c1_i32_331 k0_t2
  let c256_i32 : BitVec 32 := 256#32
  let v460 : BitVec 32 := Scalar.muli arg14 c256_i32
  let v461 : BitVec 32 := v460
  let v462 : Index := Scalar.indexCast v461
  let c0_342 : Index := 0#32
  ![0, v462.toNat, 0]
def k0_mult36 (k0_t2 : Fin k0_t2_loop.trips) : BitVec 32 :=
  let c0_i32_330 : BitVec 32 := 0#32
  let c1_i32_331 : BitVec 32 := 1#32
  let arg14 : BitVec 32 := Scf.iv c0_i32_330 c1_i32_331 k0_t2
  let c256_i32_361 : BitVec 32 := 256#32
  let v492 : BitVec 32 := Scalar.muli arg14 c256_i32_361
  v492
def k0_mult37 (k0_t2 : Fin k0_t2_loop.trips) : BitVec 32 :=
  let c0_i32_330 : BitVec 32 := 0#32
  let c1_i32_331 : BitVec 32 := 1#32
  let arg14 : BitVec 32 := Scf.iv c0_i32_330 c1_i32_331 k0_t2
  let c256_i32_382 : BitVec 32 := 256#32
  let v524 : BitVec 32 := Scalar.muli arg14 c256_i32_382
  v524
def k0_mult38 (k0_t2 : Fin k0_t2_loop.trips) : BitVec 32 :=
  let c0_i32_330 : BitVec 32 := 0#32
  let c1_i32_331 : BitVec 32 := 1#32
  let arg14 : BitVec 32 := Scf.iv c0_i32_330 c1_i32_331 k0_t2
  let c256_i32_403 : BitVec 32 := 256#32
  let v556 : BitVec 32 := Scalar.muli arg14 c256_i32_403
  v556
def k0_mult39 (k0_t2 : Fin k0_t2_loop.trips) : BitVec 32 :=
  let c0_i32_330 : BitVec 32 := 0#32
  let c1_i32_331 : BitVec 32 := 1#32
  let arg14 : BitVec 32 := Scf.iv c0_i32_330 c1_i32_331 k0_t2
  let c256_i32_424 : BitVec 32 := 256#32
  let v588 : BitVec 32 := Scalar.muli arg14 c256_i32_424
  v588
def k0_mult40 (k0_t2 : Fin k0_t2_loop.trips) : BitVec 32 :=
  let c0_i32_330 : BitVec 32 := 0#32
  let c1_i32_331 : BitVec 32 := 1#32
  let arg14 : BitVec 32 := Scf.iv c0_i32_330 c1_i32_331 k0_t2
  let c256_i32_445 : BitVec 32 := 256#32
  let v620 : BitVec 32 := Scalar.muli arg14 c256_i32_445
  v620
def k0_mult41 (k0_t2 : Fin k0_t2_loop.trips) : BitVec 32 :=
  let c0_i32_330 : BitVec 32 := 0#32
  let c1_i32_331 : BitVec 32 := 1#32
  let arg14 : BitVec 32 := Scf.iv c0_i32_330 c1_i32_331 k0_t2
  let c256_i32_466 : BitVec 32 := 256#32
  let v652 : BitVec 32 := Scalar.muli arg14 c256_i32_466
  v652
def k0_mult42 (k0_t2 : Fin k0_t2_loop.trips) : BitVec 32 :=
  let c0_i32_330 : BitVec 32 := 0#32
  let c1_i32_331 : BitVec 32 := 1#32
  let arg14 : BitVec 32 := Scf.iv c0_i32_330 c1_i32_331 k0_t2
  let c256_i32_487 : BitVec 32 := 256#32
  let v684 : BitVec 32 := Scalar.muli arg14 c256_i32_487
  v684
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S16x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x16 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnRefIdeal.lean ====
abbrev S8x512x8192 : Shape := ⟨3, ![8, 512, 8192]⟩
abbrev S8x8192x128 : Shape := ⟨3, ![8, 8192, 128]⟩
abbrev S8x32x128x256 : Shape := ⟨4, ![8, 32, 128, 256]⟩
abbrev S16x128 : Shape := ⟨2, ![16, 128]⟩
abbrev S128x16 : Shape := ⟨2, ![128, 16]⟩
abbrev S512x1 : Shape := ⟨2, ![512, 1]⟩
abbrev S8x2x4x64x8192 : Shape := ⟨5, ![8, 2, 4, 64, 8192]⟩
abbrev S1x16x128 : Shape := ⟨3, ![1, 16, 128]⟩
abbrev S8x16x128 : Shape := ⟨3, ![8, 16, 128]⟩
abbrev S8x8208x128 : Shape := ⟨3, ![8, 8208, 128]⟩
abbrev S8x32x256x128 : Shape := ⟨4, ![8, 32, 256, 128]⟩
abbrev S8x8208x2x64 : Shape := ⟨4, ![8, 8208, 2, 64]⟩
abbrev S8x2x4x8192x8208 : Shape := ⟨5, ![8, 2, 4, 8192, 8208]⟩
abbrev S_ : Shape := ⟨0, ![]⟩
abbrev S8x2x4x8192x64 : Shape := ⟨5, ![8, 2, 4, 8192, 64]⟩
abbrev S8x2x4x8192 : Shape := ⟨4, ![8, 2, 4, 8192]⟩
abbrev S8x2x4x8192x1 : Shape := ⟨5, ![8, 2, 4, 8192, 1]⟩
abbrev S8x8192x2x4x64 : Shape := ⟨5, ![8, 8192, 2, 4, 64]⟩
abbrev S8x8192x512 : Shape := ⟨3, ![8, 8192, 512]⟩
abbrev S8x8192 : Shape := ⟨2, ![8, 8192]⟩
abbrev S8x8192x1 : Shape := ⟨3, ![8, 8192, 1]⟩
abbrev S512 : Shape := ⟨1, ![512]⟩
abbrev S1x1x512 : Shape := ⟨3, ![1, 1, 512]⟩

abbrev nBuf : Space → Nat
  | .hbm => 53
  | .vmem => 0
  | .smem => 0
  | _ => 0

abbrev bufTy : (tb : Table) → Fin (tcTables nBuf tb) → BufTy
  | .hbm, ⟨0, _⟩ => ⟨S8x512x8192, .bf16⟩
  | .hbm, ⟨1, _⟩ => ⟨S8x8192x128, .bf16⟩
  | .hbm, ⟨2, _⟩ => ⟨S8x32x128x256, .bf16⟩
  | .hbm, ⟨3, _⟩ => ⟨S16x128, .bf16⟩
  | .hbm, ⟨4, _⟩ => ⟨S128x16, .bf16⟩
  | .hbm, ⟨5, _⟩ => ⟨S512x1, .f32⟩
  | .hbm, ⟨6, _⟩ => ⟨S8x512x8192, .f32⟩
  | .hbm, ⟨7, _⟩ => ⟨S8x2x4x64x8192, .f32⟩
  | .hbm, ⟨8, _⟩ => ⟨S16x128, .f32⟩
  | .hbm, ⟨9, _⟩ => ⟨S1x16x128, .f32⟩
  | .hbm, ⟨10, _⟩ => ⟨S8x16x128, .f32⟩
  | .hbm, ⟨11, _⟩ => ⟨S8x8192x128, .f32⟩
  | .hbm, ⟨12, _⟩ => ⟨S8x8208x128, .f32⟩
  | .hbm, ⟨13, _⟩ => ⟨S8x32x128x256, .f32⟩
  | .hbm, ⟨14, _⟩ => ⟨S8x32x256x128, .f32⟩
  | .hbm, ⟨15, _⟩ => ⟨S8x8192x128, .f32⟩
  | .hbm, ⟨16, _⟩ => ⟨S128x16, .f32⟩
  | .hbm, ⟨17, _⟩ => ⟨S16x128, .f32⟩
  | .hbm, ⟨18, _⟩ => ⟨S1x16x128, .f32⟩
  | .hbm, ⟨19, _⟩ => ⟨S8x16x128, .f32⟩
  | .hbm, ⟨20, _⟩ => ⟨S8x8208x128, .f32⟩
  | .hbm, ⟨21, _⟩ => ⟨S8x8208x2x64, .f32⟩
  | .hbm, ⟨22, _⟩ => ⟨S8x8208x2x64, .f32⟩
  | .hbm, ⟨23, _⟩ => ⟨S8x2x4x8192x8208, .f32⟩
  | .hbm, ⟨24, _⟩ => ⟨S_, .f32⟩
  | .hbm, ⟨25, _⟩ => ⟨S8x2x4x8192x8208, .f32⟩
  | .hbm, ⟨26, _⟩ => ⟨S8x2x4x8192x8208, .f32⟩
  | .hbm, ⟨27, _⟩ => ⟨S8x2x4x8192x64, .f32⟩
  | .hbm, ⟨28, _⟩ => ⟨S_, .f32⟩
  | .hbm, ⟨29, _⟩ => ⟨S8x2x4x8192, .f32⟩
  | .hbm, ⟨30, _⟩ => ⟨S8x2x4x8192x1, .f32⟩
  | .hbm, ⟨31, _⟩ => ⟨S8x2x4x8192x64, .f32⟩
  | .hbm, ⟨32, _⟩ => ⟨S8x2x4x8192x64, .f32⟩
  | .hbm, ⟨33, _⟩ => ⟨S8x8192x2x4x64, .f32⟩
  | .hbm, ⟨34, _⟩ => ⟨S8x8192x512, .f32⟩
  | .hbm, ⟨35, _⟩ => ⟨S8x8192x512, .f32⟩
  | .hbm, ⟨36, _⟩ => ⟨S_, .f32⟩
  | .hbm, ⟨37, _⟩ => ⟨S8x8192, .f32⟩
  | .hbm, ⟨38, _⟩ => ⟨S8x8192x1, .f32⟩
  | .hbm, ⟨39, _⟩ => ⟨S_, .f32⟩
  | .hbm, ⟨40, _⟩ => ⟨S8x8192x1, .f32⟩
  | .hbm, ⟨41, _⟩ => ⟨S8x8192x1, .f32⟩
  | .hbm, ⟨42, _⟩ => ⟨S_, .f32⟩
  | .hbm, ⟨43, _⟩ => ⟨S8x8192x1, .f32⟩
  | .hbm, ⟨44, _⟩ => ⟨S8x8192x1, .f32⟩
  | .hbm, ⟨45, _⟩ => ⟨S8x8192x1, .f32⟩
  | .hbm, ⟨46, _⟩ => ⟨S8x8192x512, .f32⟩
  | .hbm, ⟨47, _⟩ => ⟨S8x8192x512, .f32⟩
  | .hbm, ⟨48, _⟩ => ⟨S512, .f32⟩
  | .hbm, ⟨49, _⟩ => ⟨S1x1x512, .f32⟩
  | .hbm, ⟨50, _⟩ => ⟨S8x8192x512, .f32⟩
  | .hbm, ⟨51, _⟩ => ⟨S8x8192x512, .f32⟩
  | .hbm, ⟨52, _⟩ => ⟨S8x8192x512, .bf16⟩
  | _, _ => ⟨S8x512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩

abbrev nD : Nat := 1
abbrev τ : Topo := Topo.v7x

variable {F : FTy → Type} [FloatOps F]
-- ==== Proof.PostRow.lean ====
/- The mathematics of one row of the `post` call: what a token's residual stream becomes, from its residual `x`, its
   attention output `a`, its recurrence output and gate, and the layer's weights. Both programs are shown to compute this. -/
module

public import Idealize.ShloMosaic.Lib.Pointwise

@[expose] public section

noncomputable section

open Idealize.ShloMosaic

namespace Cert.PostRow

/-- The reciprocal root of the mean square of a row of `K` entries, `n` standing for the number of entries. -/
def scale {K : ℕ} (n : EReal) (x : Fin K → EReal) : EReal :=
  Ideal.rsqrt (Ideal.div (∑ k, x k * x k) n + Ideal.ofBits .f32 0x358637BD#32)

/-- The row `x` divided by its root mean square, times the gain `g`. -/
def norm {K : ℕ} (n : EReal) (x g : Fin K → EReal) (l : Fin K) : EReal := x l * scale n x * g l

/-- The tanh form of the Gaussian error linear unit. -/
def gelu (z : EReal) : EReal :=
  Ideal.ofBits .f32 0x3F000000#32 * z *
    (1 + Ideal.tanh (Ideal.ofBits .f32 0x3F4C422A#32 * (z + Ideal.ofBits .f32 0x3D372713#32 * (z * z * z))))

/-- The recurrence output gated by the unit. -/
def gated (y z : EReal) : EReal := y * gelu z

/-- The residual after the mixers: attention output and normalised gated recurrence output, each through its half of
    the output projection, are added to it. -/
def mixed (x : Fin 1024 → EReal) (a y z lg : Fin 512 → EReal) (wA wL : Fin 512 → Fin 1024 → EReal) (l : Fin 1024) : EReal :=
  x l + ∑ k, a k * wA k l
    + ∑ k, norm (Ideal.ofBits .f32 0x44000000#32) (fun k => gated (y k) (z k)) lg k * wL k l

/-- One hidden unit of the feed-forward layer: `silu` of the gate projection times the up projection. -/
def hidden (h ng : Fin 1024 → EReal) (wg wu : Fin 1024 → Fin 2816 → EReal) (j : Fin 2816) : EReal :=
  (∑ k, norm (Ideal.ofBits .f32 0x44800000#32) h ng k * wg k j)
    * Ideal.logistic (∑ k, norm (Ideal.ofBits .f32 0x44800000#32) h ng k * wg k j)
    * ∑ k, norm (Ideal.ofBits .f32 0x44800000#32) h ng k * wu k j

/-- The residual after the feed-forward layer, then the final normalisation. -/
def last (h ng : Fin 1024 → EReal) (wg wu : Fin 1024 → Fin 2816 → EReal) (wd : Fin 2816 → Fin 1024 → EReal)
    (fg : Fin 1024 → EReal) (l : Fin 1024) : EReal :=
  norm (Ideal.ofBits .f32 0x44800000#32) (fun l => h l + ∑ j, hidden h ng wg wu j * wd j l) fg l

end Cert.PostRow

end
-- ==== Proof.PostBlock.lean ====
/- What one grid point of the `post` kernel stores: every row of the block is `Cert.PostRow.last` of the same row of the
   input blocks. -/
module

public import proofs.«01_k».proof.Proof.PostRow
public import proofs.«01_k».proof.Proof.Gen.PostIdeal.Frame
public import Idealize.ShloMosaic.Lib.Pipeline.ValueKit

@[expose] public section

set_option maxRecDepth 16384

noncomputable section

open Idealize.ShloMosaic Idealize.ShloMosaic.TcCoe Idealize.SL.Sem Cert.PostRow
open Cert.PostIdeal Cert.PostIdeal.Gen

namespace Cert.PostBlock

/-- The normalised gated recurrence output of the first half of the rows. -/
theorem pay2_at (y z : Vec Ideal S1x256x512 .f32) (g : Vec Ideal S1x512 .f32) (r : Fin 256) (k : Fin 512) :
    k0_pay2 y z g (ix2 r k) = norm (Ideal.ofBits .f32 0x44000000#32)
      (fun k => gated (y (ix3 0 r k)) (z (ix3 0 r k))) (fun k => g (ix2 0 k)) k := by
  pointwise [k0_pay2]
  rfl

/-- The mixed residual of the first half of the rows. -/
theorem pay5_at (y : FVec Ideal S256x512 .bf16) (x : FVec Ideal S256x1024 .f32) (a : FVec Ideal S256x512 .bf16)
    (wA wL : Vec Ideal S512x1024 .bf16) (r : Fin 256) (l : Fin 1024) :
    k0_pay5 y x a wA wL (ix2 r l)
      = x (ix2 r l) + ∑ k : Fin 512, a (ix2 r k) * wA (ix2 k l) + ∑ k : Fin 512, y (ix2 r k) * wL (ix2 k l) := by
  pointwise [k0_pay5]

/-- The normalised residual that enters the feed-forward layer. -/
theorem pay9_at (h : FVec Ideal S256x1024 .f32) (g : Vec Ideal S1x1024 .f32) (r : Fin 256) (k : Fin 1024) :
    k0_pay9 h g (ix2 r k)
      = norm (Ideal.ofBits .f32 0x44800000#32) (fun k => h (ix2 r k)) (fun k => g (ix2 0 k)) k := by
  pointwise [k0_pay9]
  rfl

/-- The up projection of the first half of the rows. -/
theorem pay10_at (h : FVec Ideal S256x1024 .f32) (g : Vec Ideal S1x1024 .f32) (w : Vec Ideal S1024x2816 .bf16)
    (r : Fin 256) (j : Fin 2816) :
    k0_pay10 h g w (ix2 r j) = ∑ k : Fin 1024, norm (Ideal.ofBits .f32 0x44800000#32) (fun k => h (ix2 r k))
      (fun k => g (ix2 0 k)) k * w (ix2 k j) := by
  pointwise [k0_pay10, pay9_at]

/-- `silu` of the gate projection of the first half of the rows. -/
theorem pay11_at (h : FVec Ideal S256x1024 .f32) (g : Vec Ideal S1x1024 .f32) (w : Vec Ideal S1024x2816 .bf16)
    (r : Fin 256) (j : Fin 2816) :
    k0_pay11 h g w (ix2 r j) = (∑ k : Fin 1024, norm (Ideal.ofBits .f32 0x44800000#32) (fun k => h (ix2 r k))
      (fun k => g (ix2 0 k)) k * w (ix2 k j)) * Ideal.logistic (∑ k : Fin 1024, norm (Ideal.ofBits .f32 0x44800000#32)
      (fun k => h (ix2 r k)) (fun k => g (ix2 0 k)) k * w (ix2 k j)) := by
  pointwise [k0_pay11, pay9_at]

/-- The stored value of the first half of the rows, from the mixed residual and the two projections. -/
theorem pay12_at (h : FVec Ideal S256x1024 .f32) (u s : FVec Ideal S256x2816 .f32) (wd : Vec Ideal S2816x1024 .bf16)
    (g : Vec Ideal S1x1024 .f32) (r : Fin 256) (l : Fin 1024) :
    k0_pay12 h u s wd g (ix3 0 r l) = norm (Ideal.ofBits .f32 0x44800000#32)
      (fun l => h (ix2 r l) + ∑ j : Fin 2816, s (ix2 r j) * u (ix2 r j) * wd (ix2 j l)) (fun l => g (ix2 0 l)) l := by
  pointwise [k0_pay12]
  rfl

/-- The same quantities of the second half of the rows, where the body splits them otherwise. -/
theorem pay8_at (y z : Vec Ideal S1x256x512 .f32) (g : Vec Ideal S1x512 .f32) (x : Vec Ideal S1x256x1024 .f32)
    (a : Vec Ideal S1x256x512 .bf16) (wA wL : Vec Ideal S512x1024 .bf16) (r : Fin 256) (l : Fin 1024) :
    k0_pay8 (k0_pay6 y z) (k0_pay7 g) x a wA wL (ix2 r l)
      = mixed (fun l => x (ix3 0 r l)) (fun k => a (ix3 0 r k)) (fun k => y (ix3 0 r k)) (fun k => z (ix3 0 r k))
          (fun k => g (ix2 0 k)) (fun k l => wA (ix2 k l)) (fun k l => wL (ix2 k l)) l := by
  pointwise [k0_pay8, k0_pay6, k0_pay7]
  rfl

/-- The normalised residual of the second half of the rows. -/
theorem pay13_at (h : FVec Ideal S256x1024 .f32) (g : Vec Ideal S1x1024 .f32) (r : Fin 256) (k : Fin 1024) :
    k0_pay13 h g (ix2 r k)
      = norm (Ideal.ofBits .f32 0x44800000#32) (fun k => h (ix2 r k)) (fun k => g (ix2 0 k)) k := by
  pointwise [k0_pay13]
  rfl

/-- The stored value of the second half of the rows. -/
theorem pay1_at (h : FVec Ideal S256x1024 .f32) (ng : Vec Ideal S1x1024 .f32) (wg wu : Vec Ideal S1024x2816 .bf16)
    (wd : Vec Ideal S2816x1024 .bf16) (g : Vec Ideal S1x1024 .f32) (r : Fin 256) (l : Fin 1024) :
    k0_pay1 h (k0_pay13 h ng) (k0_pay14 wg) (constant S256x2816 .f32 0x00000000#32) wu wd g (ix3 0 r l)
      = last (fun l => h (ix2 r l)) (fun k => ng (ix2 0 k)) (fun k j => wg (ix2 k j)) (fun k j => wu (ix2 k j))
          (fun j l => wd (ix2 j l)) (fun l => g (ix2 0 l)) l := by
  pointwise [k0_pay1, k0_pay14, pay13_at]
  rfl

/-- A row of the block that the body leaves is the row function of the same row of the input blocks. -/
theorem out_at (x : Vec Ideal S1x512x1024 .f32) (a : Vec Ideal S1x512x512 .bf16) (y z : Vec Ideal S1x512x512 .f32)
    (lg : Vec Ideal S1x512 .f32) (wA wL : Vec Ideal S512x1024 .bf16) (ng : Vec Ideal S1x1024 .f32)
    (wg wu : Vec Ideal S1024x2816 .bf16) (wd : Vec Ideal S2816x1024 .bf16) (fg : Vec Ideal S1x1024 .f32)
    (b : S1x512x1024.Idx) :
    out0_12 x a y z lg wA wL ng wg wu wd fg b
      = last (mixed (fun l => x (ix3 0 (b 1) l)) (fun k => a (ix3 0 (b 1) k)) (fun k => y (ix3 0 (b 1) k))
            (fun k => z (ix3 0 (b 1) k)) (fun k => lg (ix2 0 k)) (fun k l => wA (ix2 k l)) (fun k l => wL (ix2 k l)))
          (fun k => ng (ix2 0 k)) (fun k j => wg (ix2 k j)) (fun k j => wu (ix2 k j))
          (fun j l => wd (ix2 j l)) (fun l => fg (ix2 0 l)) (b 2) := by
  unfold out0_12
  canon_tiles p hp
  · idx_vars p
    have hb1 : b 1 = (⟨256 + p1, by omega⟩ : Fin 512) := Fin.ext hp1
    have hb2 : b 2 = p2 := Fin.ext hp2
    rw [hb1, hb2]
    obtain rfl : p0 = 0 := Subsingleton.elim _ _
    refine (pay1_at _ _ _ _ _ _ _ _).trans ?_
    unfold k0_pay16
    simp only [pay8_at]
    pointwise
  · idx_vars p
    have hb1 : b 1 = (⟨p1, by omega⟩ : Fin 512) := Fin.ext hp1
    have hb2 : b 2 = p2 := Fin.ext hp2
    rw [hb1, hb2]
    obtain rfl : p0 = 0 := Subsingleton.elim _ _
    refine (pay12_at _ _ _ _ _ _ _).trans ?_
    simp only [pay10_at, pay11_at]
    unfold k0_pay15
    simp only [pay5_at, pay2_at, k0_pay3, k0_pay4]
    pointwise
    rfl

end Cert.PostBlock

end
-- ==== Proof.PostWhole.lean ====
/- The `post` call's result as one function of its ten arguments: every token's row is `Cert.PostRow.last` of
   `Cert.PostRow.mixed`. The number `B` of sequences is left open: the prompt batch has eight, the sample batch four. -/
module

public import proofs.«01_k».proof.Proof.PostRow

@[expose] public section

noncomputable section

open Idealize.ShloMosaic

namespace Cert.PostWhole

open Cert.PostRow

/-- The mixed residual of token `(b, r)`, from the arguments: residual `X`, attention output `A`, recurrence output `Y`
    and gate `Z`, gain `lg`, output projection `W`. -/
def mixedAt {B : ℕ} (X : FVec Ideal ⟨3, ![B, 8192, 1024]⟩ .f32) (A : FVec Ideal ⟨3, ![B, 8192, 512]⟩ .bf16)
    (Y Z : FVec Ideal ⟨3, ![B, 8192, 512]⟩ .f32) (lg : FVec Ideal ⟨2, ![1, 512]⟩ .f32)
    (W : FVec Ideal ⟨3, ![1, 1024, 1024]⟩ .f32) (b : Fin B) (r : Fin 8192) (l : Fin 1024) : EReal :=
  mixed (fun l => X (ix3 b r l)) (fun k => A (ix3 b r k)) (fun k => Y (ix3 b r k)) (fun k => Z (ix3 b r k))
    (fun k => lg (ix2 0 k)) (fun k l => W (ix3 0 ⟨k, by omega⟩ l)) (fun k l => W (ix3 0 ⟨512 + k, by omega⟩ l)) l

/-- The result array, from the arguments: also the feed-forward gain `ng`, its gate and up projections side by side in
    `U`, its down projection `D`, and the final gain `fg`. -/
def result {B : ℕ} (X : FVec Ideal ⟨3, ![B, 8192, 1024]⟩ .f32) (A : FVec Ideal ⟨3, ![B, 8192, 512]⟩ .bf16)
    (Y Z : FVec Ideal ⟨3, ![B, 8192, 512]⟩ .f32) (lg : FVec Ideal ⟨2, ![1, 512]⟩ .f32)
    (W : FVec Ideal ⟨3, ![1, 1024, 1024]⟩ .f32) (ng : FVec Ideal ⟨2, ![1, 1024]⟩ .f32)
    (U : FVec Ideal ⟨3, ![1, 1024, 5632]⟩ .f32) (D : FVec Ideal ⟨3, ![1, 2816, 1024]⟩ .f32)
    (fg : FVec Ideal ⟨1, ![1024]⟩ .f32) : FVec Ideal ⟨3, ![B, 8192, 1024]⟩ .f32 := fun i =>
  last (mixedAt X A Y Z lg W (i 0) (i 1)) (fun k => ng (ix2 0 k)) (fun k j => U (ix3 0 k ⟨j, by omega⟩))
    (fun k j => U (ix3 0 k ⟨2816 + j, by omega⟩)) (fun j l => D (ix3 0 j l)) (fun l => fg (ix1 l)) (i 2)

end Cert.PostWhole

end
-- ==== Proof.PostReference.lean ====
/- The `post` reference's result is `Cert.PostWhole.result` of its arguments. -/
module

public import proofs.«01_k».proof.Proof.PostWhole
public import proofs.«01_k».proof.Proof.Gen.PostRefIdeal.Run
public import Idealize.ShloMosaic.Lib.Tactic.CleanTypes
public import Idealize.ShloMosaic.Lib.IdealHost

@[expose] public section

set_option maxRecDepth 16384

noncomputable section

open Idealize.ShloMosaic Idealize.ShloMosaic.TcCoe Idealize.SL.Sem Cert.PostRow Cert.PostWhole
open Cert.PostRefIdeal Cert.PostRefIdeal.Gen Cert.PostRefIdeal.Value

namespace Cert.PostReference

variable (V0 : Valuation τ sig (Elt Ideal))

/-- The gated recurrence output of a token. -/
theorem gated_at (b : Fin 8) (r : Fin 8192) (k : Fin 512) :
    res_main_v13 V0 (ix3 b r k)
      = gated (V0 (Proc.devRef .tc main_arg2) (ix3 b r k)) (V0 (Proc.devRef .tc main_arg3) (ix3 b r k)) := by
  unfold res_main_v13
  clean_types
  pointwise
  unfold gated gelu
  ac_rfl

/-- The mixed residual of a token. -/
theorem mixed_at (b : Fin 8) (r : Fin 8192) (l : Fin 1024) :
    res_main_v32 V0 (ix3 b r l)
      = mixedAt (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5)) b r l := by
  unfold res_main_v32
  clean_types
  pointwise [gated_at]
  exact (add_assoc _ _ _).symm

/-- The two projections of the feed-forward layer. -/
theorem proj_at (b : Fin 8) (r : Fin 8192) (j : Fin 5632) :
    res_main_v48 V0 (ix3 b r j) = ∑ k : Fin 1024, norm (Ideal.ofBits .f32 0x44800000#32)
      (fun k => res_main_v32 V0 (ix3 b r k)) (fun k => V0 (Proc.devRef .tc main_arg6) (ix2 0 k)) k
        * V0 (Proc.devRef .tc main_arg7) (ix3 0 k j) := by
  unfold res_main_v48
  clean_types
  pointwise
  rfl

/-- The residual after the feed-forward layer. -/
theorem ffn_at (b : Fin 8) (r : Fin 8192) (l : Fin 1024) :
    res_main_v55 V0 (ix3 b r l) = (show EReal from res_main_v32 V0 (ix3 b r l)) + ∑ j : Fin 2816,
      hidden (fun k => res_main_v32 V0 (ix3 b r k)) (fun k => V0 (Proc.devRef .tc main_arg6) (ix2 0 k))
        (fun k j => V0 (Proc.devRef .tc main_arg7) (ix3 0 k ⟨j, by omega⟩))
        (fun k j => V0 (Proc.devRef .tc main_arg7) (ix3 0 k ⟨2816 + j, by omega⟩)) j
        * V0 (Proc.devRef .tc main_arg8) (ix3 0 j l) := by
  unfold res_main_v55 res_main_v49
  clean_types
  pointwise [proj_at]
  rfl

/-- The reference's run: the result array is `Cert.PostWhole.result` of the argument arrays, which stay as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v68)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ⟨(h c).1.trans ?_, (h c).2⟩) (Value.run m ρ)
  funext i
  idx_vars i
  clean_types
  pointwise [ffn_at, result]
  simp only [mixed_at]
  rfl

end Cert.PostReference

end
-- ==== Proof.PostClaims.lean ====
/- The claims about the `post` call: the three frames, and that the kernel and the reference end at the same array. -/
module

public import proofs.«01_k».proof.Defs
public import proofs.«01_k».proof.Proof.PostArray
public import proofs.«01_k».proof.Proof.PostReference
public import proofs.«01_k».proof.Proof.Gen.Post.Frame
public import Idealize.ShloMosaic.Lib.Quiescent

@[expose] public section

set_option maxRecDepth 16384

noncomputable section

open Idealize.ShloMosaic Idealize.ShloMosaic.TcCoe Idealize.SL.Sem

namespace Cert.PostClaims

/-- The kernel runs to its end, keeps its arguments and leaves every counter at zero. -/
theorem quiet : Cert.quiescent_Post := fun m ρ _ => Cert.Post.Gen.frame m ρ

/-- So does its reading over the extended reals. -/
theorem quiet_ideal : Cert.quiescent_PostIdeal := fun m ρ _ => Cert.PostIdeal.Gen.frame m ρ

/-- So does the reference. -/
theorem quiet_reference : Cert.quiescent_PostRefIdeal := fun m ρ _ =>
  (θ_run Cert.PostRefIdeal.defs _ _).mono
    (fun r h => ⟨fun c => (h c).2, sem_eq_zero_of_no_sems (by decide) r.2⟩) (Cert.PostReference.run m ρ)

/-- Over the extended reals the kernel and the reference end at equal arrays, from equal arguments. -/
theorem algebraic : Cert.algebraic_PostIdeal_PostRefIdeal := by
  intro m ρ m' ρ' _ hagree
  refine ⟨fun c => Cert.PostArray.goal m c, ?_, ?_⟩
  · exact (θ_run Cert.PostIdeal.defs _ _).mono (fun _ h c => ⟨(h c).1.trans (Cert.PostArray.final m c), (h c).2⟩)
      (Cert.PostIdeal.Value.run_blocks m ρ)
  · refine (θ_run Cert.PostRefIdeal.defs _ _).mono (fun _ h c => ⟨(h c).1.trans ?_, (h c).2⟩)
      (Cert.PostReference.run m' ρ')
    obtain ⟨h0, h1, h2, h3, h4, h5, h6, h7, h8, h9⟩ := hagree c
    rw [h0, h1, h2, h3, h4, h5, h6, h7, h8, h9]

end Cert.PostClaims

end
-- ==== Proof.InprojRow.lean ====
/- The mathematics of one token of the `inproj` call: its normalised residual through one column of the input projection,
   a head's normalisation and the rotation of a head by the token's two grid angles. Both programs are shown to compute
   this. -/
module

public import proofs.«01_k».proof.Proof.PostRow

@[expose] public section

noncomputable section

open Idealize.ShloMosaic Cert.PostRow

namespace Cert.InprojRow

/-- One entry of the input projection of the token `x`: its root mean square normalised row times a column `w`. -/
def proj (x g w : Fin 1024 → EReal) : EReal := ∑ k, norm (Ideal.ofBits .f32 0x44800000#32) x g k * w k

/-- A head of 64 entries divided by its root mean square, times the gain. -/
def head (y g : Fin 64 → EReal) (d : Fin 64) : EReal := norm (Ideal.ofBits .f32 0x42800000#32) y g d

/-- The rotary embedding of a head: the entries 0..31 turn by the row angles (0..15 of the tables), the entries 32..63 by
    the column angles (16..31 of the tables), entry `i` of a half paired with entry `i + 16`. -/
def rope (y : Fin 64 → EReal) (cos sin : Fin 32 → EReal) (d : Fin 64) : EReal :=
  if _ : (d : ℕ) < 32 then
    if _ : (d : ℕ) < 16 then y d * cos ⟨d, by omega⟩ - y ⟨16 + d, by omega⟩ * sin ⟨d, by omega⟩
    else y ⟨16 + (d - 16), by omega⟩ * cos ⟨d - 16, by omega⟩ + y ⟨d - 16, by omega⟩ * sin ⟨d - 16, by omega⟩
  else
    if _ : (d : ℕ) - 32 < 16 then
      y ⟨32 + (d - 32), by omega⟩ * cos ⟨16 + (d - 32), by omega⟩
        - y ⟨32 + (16 + (d - 32)), by omega⟩ * sin ⟨16 + (d - 32), by omega⟩
    else
      y ⟨32 + (16 + (d - 32 - 16)), by omega⟩ * cos ⟨16 + (d - 32 - 16), by omega⟩
        + y ⟨32 + (d - 32 - 16), by omega⟩ * sin ⟨16 + (d - 32 - 16), by omega⟩

/-- The rotation from tables already spread over the 64 entries of a head, the signs folded into the second one. -/
def turn (y c s : Fin 64 → EReal) (d : Fin 64) : EReal :=
  y d * c d
    + (if _ : (d : ℕ) < 16 then y ⟨16 + d, by omega⟩ else if _ : (d : ℕ) - 16 < 16 then y ⟨d - 16, by omega⟩
      else if _ : (d : ℕ) - 16 - 16 < 16 then y ⟨48 + (d - 16 - 16), by omega⟩
      else y ⟨32 + (d - 16 - 16 - 16), by omega⟩) * s d

/-- A table of 32 angles spread over the 64 entries of a head. -/
def spread (f : Fin 32 → EReal) (d : Fin 64) : EReal :=
  if _ : (d : ℕ) < 16 then f ⟨d, by omega⟩ else if _ : (d : ℕ) - 16 < 16 then f ⟨d - 16, by omega⟩
  else if _ : (d : ℕ) - 16 - 16 < 16 then f ⟨16 + (d - 16 - 16), by omega⟩ else f ⟨16 + (d - 16 - 16 - 16), by omega⟩

/-- The same with the sign that the first entry of a pair takes. -/
def spreadNeg (f : Fin 32 → EReal) (d : Fin 64) : EReal :=
  if _ : (d : ℕ) < 16 then -f ⟨d, by omega⟩ else if _ : (d : ℕ) - 16 < 16 then f ⟨d - 16, by omega⟩
  else if _ : (d : ℕ) - 16 - 16 < 16 then -f ⟨16 + (d - 16 - 16), by omega⟩ else f ⟨16 + (d - 16 - 16 - 16), by omega⟩

/-- The two forms of the rotation agree. -/
theorem turn_spread (y : Fin 64 → EReal) (cos sin : Fin 32 → EReal) (d : Fin 64) :
    turn y (spread cos) (spreadNeg sin) d = rope y cos sin d := by
  unfold turn spread spreadNeg rope
  obtain ⟨d, hd⟩ := d
  by_cases h16 : d < 16
  · have h32 : d < 32 := by omega
    simp only [h16, h32, dite_true, mul_neg, sub_eq_add_neg]
  · by_cases h32 : d - 16 < 16
    · have h : d < 32 := by omega
      have e : 16 + (d - 16) = d := by omega
      simp only [h16, h32, h, dite_true, dite_false, e]
    · have h : ¬ d < 32 := by omega
      obtain ⟨e, rfl⟩ : ∃ e, d = 32 + e := ⟨d - 32, by omega⟩
      by_cases h48 : e < 16
      · have e1 : 32 + e - 16 - 16 = e := by omega
        have e2 : 32 + e - 32 = e := by omega
        have e3 : 48 + e = 32 + (16 + e) := by omega
        simp only [h16, h32, h, e1, e2, e3, h48, dite_true, dite_false, mul_neg, sub_eq_add_neg]
      · have e1 : 32 + e - 16 - 16 = e := by omega
        have e2 : 32 + e - 32 = e := by omega
        have e3 : 16 + (e - 16) = e := by omega
        simp only [h16, h32, h, e1, e2, e3, h48, dite_false]

/-- A place in the row of a token's eight query heads: the head normalised, rotated and scaled. `w` gives the columns of
    the projection; `c` and `s` are the spread tables. -/
def query (x g : Fin 1024 → EReal) (w : Fin 512 → Fin 1024 → EReal) (gain c s : Fin 64 → EReal) (e : Fin 512) : EReal :=
  turn (head (fun d => proj x g (w ⟨e / 64 * 64 + d, by omega⟩)) gain) c s ⟨e % 64, by omega⟩
    * Ideal.ofBits .f32 0x3E38AA3B#32

/-- A place in the row of a token's two key heads: the head normalised and rotated. -/
def key (x g : Fin 1024 → EReal) (w : Fin 128 → Fin 1024 → EReal) (gain c s : Fin 64 → EReal) (e : Fin 128) : EReal :=
  turn (head (fun d => proj x g (w ⟨e / 64 * 64 + d, by omega⟩)) gain) c s ⟨e % 64, by omega⟩

/-- A plain column of the projection. -/
def lin {n : ℕ} (x g : Fin 1024 → EReal) (w : Fin n → Fin 1024 → EReal) (j : Fin n) : EReal := proj x g (w j)

/-- A value of token `r` of chunk `q`, chunks of 256 tokens. -/
def value {n k : ℕ} (x : Fin (n * 256) → Fin 1024 → EReal) (g : Fin 1024 → EReal) (w : Fin k → Fin 1024 → EReal)
    (q : Fin n) (j : Fin k) (r : Fin 256) : EReal :=
  proj (x ⟨q * 256 + r, by omega⟩) g (w j)

end Cert.InprojRow

end
-- ==== Proof.InprojBlock.lean ====
/- What one grid point of the `inproj` kernel stores into its five output blocks, row by row of the token block. The body
   works through four chunks of 256 tokens; the later chunks are the first one's computation over other rows. -/
module

public import proofs.«01_k».proof.Proof.InprojRow
public import proofs.«01_k».proof.Proof.Gen.InprojIdeal.Frame
public import Idealize.ShloMosaic.Lib.Pipeline.ValueKit

@[expose] public section

set_option maxRecDepth 16384

noncomputable section

open Idealize.ShloMosaic Idealize.ShloMosaic.TcCoe Idealize.SL.Sem Cert.PostRow Cert.InprojRow
open Cert.InprojIdeal Cert.InprojIdeal.Gen

namespace Cert.InprojBlock

/-! ## The first chunk -/

/-- The transposed projection onto queries, keys and values. -/
theorem pay4_at (x : Vec Ideal S1x256x1024 .f32) (g : Vec Ideal S1x1024 .f32) (w : Vec Ideal S768x1024 .bf16)
    (j : Fin 768) (r : Fin 256) :
    k0_pay4 x g w (ix2 j r) = proj (fun k => x (ix3 0 r k)) (fun k => g (ix2 0 k)) (fun k => w (ix2 j k)) := by
  pointwise [k0_pay4, k0_pay3]
  exact Finset.sum_congr rfl fun k _ => mul_comm _ _

/-- The queries: normalised, rotated and scaled, by head and entry. -/
theorem query_at (c s : Vec Ideal S64x256 .f32) (p : FVec Ideal S768x256 .f32) (g : Vec Ideal S64x1 .f32)
    (h : Fin 8) (d : Fin 64) (r : Fin 256) :
    k0_pay17 (k0_pay14 c) (k0_pay15 s) (k0_pay16 p) g (ix3 0 ⟨h * 64 + d, by omega⟩ r)
      = turn (head (fun d => p (ix2 ⟨h * 64 + d, by omega⟩ r)) (fun d => g (ix2 d 0)))
          (fun d => c (ix2 d r)) (fun d => s (ix2 d r)) d * Ideal.ofBits .f32 0x3E38AA3B#32 := by
  pointwise [k0_pay17, k0_pay14, k0_pay15, k0_pay16]
  rfl

/-- The same by place in the row of all heads. -/
theorem pay17_at (c s : Vec Ideal S64x256 .f32) (p : FVec Ideal S768x256 .f32) (g : Vec Ideal S64x1 .f32)
    (e : Fin 512) (r : Fin 256) :
    k0_pay17 (k0_pay14 c) (k0_pay15 s) (k0_pay16 p) g (ix3 0 e r)
      = turn (head (fun d => p (ix2 ⟨e / 64 * 64 + d, by omega⟩ r)) (fun d => g (ix2 d 0)))
          (fun d => c (ix2 d r)) (fun d => s (ix2 d r)) ⟨e % 64, by omega⟩ * Ideal.ofBits .f32 0x3E38AA3B#32 := by
  have he : e = ⟨(⟨e / 64, by omega⟩ : Fin 8) * 64 + (⟨e % 64, by omega⟩ : Fin 64), by simp only; omega⟩ :=
    Fin.ext (by simp only; omega)
  exact (congrArg (fun e => k0_pay17 (k0_pay14 c) (k0_pay15 s) (k0_pay16 p) g (ix3 0 e r)) he).trans
    (query_at c s p g ⟨e / 64, by omega⟩ ⟨e % 64, by omega⟩ r)

/-- The keys: normalised and rotated, by head and entry. -/
theorem key_at (c s : Vec Ideal S64x256 .f32) (p : FVec Ideal S768x256 .f32) (g : Vec Ideal S64x1 .f32)
    (h : Fin 2) (d : Fin 64) (r : Fin 256) :
    k0_pay21 (k0_pay14 c) (k0_pay15 s) (k0_pay18 g) (k0_pay19 p) (k0_pay20 p) (ix3 0 r ⟨h * 64 + d, by omega⟩)
      = turn (head (fun d => p (ix2 ⟨512 + (h * 64 + d), by omega⟩ r)) (fun d => g (ix2 d 0)))
          (fun d => c (ix2 d r)) (fun d => s (ix2 d r)) d := by
  pointwise [k0_pay21, k0_pay14, k0_pay15, k0_pay18, k0_pay19, k0_pay20]
  rfl

/-- The same by place in the row of both heads. -/
theorem pay21_at (c s : Vec Ideal S64x256 .f32) (p : FVec Ideal S768x256 .f32) (g : Vec Ideal S64x1 .f32)
    (e : Fin 128) (r : Fin 256) :
    k0_pay21 (k0_pay14 c) (k0_pay15 s) (k0_pay18 g) (k0_pay19 p) (k0_pay20 p) (ix3 0 r e)
      = turn (head (fun d => p (ix2 ⟨512 + (e / 64 * 64 + d), by omega⟩ r)) (fun d => g (ix2 d 0)))
          (fun d => c (ix2 d r)) (fun d => s (ix2 d r)) ⟨e % 64, by omega⟩ := by
  have he : e = ⟨(⟨e / 64, by omega⟩ : Fin 2) * 64 + (⟨e % 64, by omega⟩ : Fin 64), by simp only; omega⟩ :=
    Fin.ext (by simp only; omega)
  exact (congrArg (fun e => k0_pay21 (k0_pay14 c) (k0_pay15 s) (k0_pay18 g) (k0_pay19 p) (k0_pay20 p) (ix3 0 r e)) he).trans
    (key_at c s p g ⟨e / 64, by omega⟩ ⟨e % 64, by omega⟩ r)

/-- The values. -/
theorem pay22_at (p : FVec Ideal S768x256 .f32) (j : Fin 128) (r : Fin 256) :
    k0_pay22 p (ix4 0 0 j r) = p (ix2 ⟨640 + j, by omega⟩ r) := by
  pointwise [k0_pay22]

/-- The recurrence's input. -/
theorem pay6_at (x : Vec Ideal S1x256x1024 .f32) (g : Vec Ideal S1x1024 .f32) (w : Vec Ideal S1024x1024 .bf16)
    (r : Fin 256) (j : Fin 512) :
    k0_pay6 x g w (ix3 0 r j)
      = proj (fun k => x (ix3 0 r k)) (fun k => g (ix2 0 k)) (fun k => w (ix2 k ⟨j, by omega⟩)) := by
  pointwise [k0_pay6, k0_pay5, k0_pay3]
  rfl

/-- The recurrence's gate. -/
theorem pay7_at (x : Vec Ideal S1x256x1024 .f32) (g : Vec Ideal S1x1024 .f32) (w : Vec Ideal S1024x1024 .bf16)
    (r : Fin 256) (j : Fin 512) :
    k0_pay7 x g w (ix3 0 r j)
      = proj (fun k => x (ix3 0 r k)) (fun k => g (ix2 0 k)) (fun k => w (ix2 k ⟨512 + j, by omega⟩)) := by
  pointwise [k0_pay7, k0_pay5, k0_pay3]
  rfl

/-! ## The blocks -/

variable (x : Vec Ideal S1x1024x1024 .f32) (g : Vec Ideal S1x1024 .f32) (wq : Vec Ideal S768x1024 .bf16)
  (wl : Vec Ideal S1024x1024 .bf16) (qg kg : Vec Ideal S64x1 .f32) (C S : Vec Ideal S64x1024 .f32)

/-- The queries' block. -/
theorem out8_at (b : S1x512x1024.Idx) :
    out0_8 x g wq wl qg kg C S b
      = query (fun k => x (ix3 0 (b 2) k)) (fun k => g (ix2 0 k)) (fun e k => wq (ix2 ⟨e, by omega⟩ k))
          (fun d => qg (ix2 d 0)) (fun d => C (ix2 d (b 2))) (fun d => S (ix2 d (b 2))) (b 1) := by
  unfold out0_8
  canon_tiles p hp
  · idx_vars p
    have hb1 : b 1 = p1 := Fin.ext hp1
    have hb2 : b 2 = (⟨768 + p2, by omega⟩ : Fin 1024) := Fin.ext hp2
    rw [hb1, hb2]
    obtain rfl : p0 = 0 := Subsingleton.elim _ _
    refine (pay17_at _ _ _ _ _ _).trans ?_
    simp only [show ∀ x g w, k0_pay38 x g w = k0_pay4 (F := Ideal) x g w from fun _ _ _ => rfl, pay4_at]
    pointwise
    rfl
  · idx_vars p
    have hb1 : b 1 = p1 := Fin.ext hp1
    have hb2 : b 2 = (⟨512 + p2, by omega⟩ : Fin 1024) := Fin.ext hp2
    rw [hb1, hb2]
    obtain rfl : p0 = 0 := Subsingleton.elim _ _
    refine (pay17_at _ _ _ _ _ _).trans ?_
    unfold k0_pay60
    simp only [show ∀ x g w, k0_pay25 (k0_pay23 x g) w = k0_pay4 (F := Ideal) x g w from fun _ _ _ => rfl, pay4_at]
    pointwise
    rfl
  · idx_vars p
    have hb1 : b 1 = p1 := Fin.ext hp1
    have hb2 : b 2 = (⟨256 + p2, by omega⟩ : Fin 1024) := Fin.ext hp2
    rw [hb1, hb2]
    obtain rfl : p0 = 0 := Subsingleton.elim _ _
    unfold k0_pay62 k0_pay63
    refine (pay17_at _ _ _ _ _ _).trans ?_
    unfold k0_pay56
    simp only [show ∀ x g w, k0_pay10 (k0_pay8 x) g w = k0_pay4 (F := Ideal) x g w from fun _ _ _ => rfl, pay4_at]
    pointwise
    rfl
  · idx_vars p
    have hb1 : b 1 = p1 := Fin.ext hp1
    have hb2 : b 2 = (⟨p2, by omega⟩ : Fin 1024) := Fin.ext hp2
    rw [hb1, hb2]
    obtain rfl : p0 = 0 := Subsingleton.elim _ _
    unfold k0_pay58 k0_pay59
    refine (pay17_at _ _ _ _ _ _).trans ?_
    unfold k0_pay55
    simp only [pay4_at]
    pointwise
    rfl

/-- The keys' block. -/
theorem out9_at (b : S1x1024x128.Idx) :
    out0_9 x g wq wl qg kg C S b
      = key (fun k => x (ix3 0 (b 1) k)) (fun k => g (ix2 0 k)) (fun e k => wq (ix2 ⟨512 + e, by omega⟩ k))
          (fun d => kg (ix2 d 0)) (fun d => C (ix2 d (b 1))) (fun d => S (ix2 d (b 1))) (b 2) := by
  unfold out0_9
  canon_tiles p hp
  · idx_vars p
    have hb1 : b 1 = (⟨768 + p1, by omega⟩ : Fin 1024) := Fin.ext hp1
    have hb2 : b 2 = p2 := Fin.ext hp2
    rw [hb1, hb2]
    obtain rfl : p0 = 0 := Subsingleton.elim _ _
    refine (pay21_at _ _ _ _ _ _).trans ?_
    unfold k0_pay64
    simp only [show ∀ x g w, k0_pay38 x g w = k0_pay4 (F := Ideal) x g w from fun _ _ _ => rfl, pay4_at]
    pointwise
    rfl
  · idx_vars p
    have hb1 : b 1 = (⟨512 + p1, by omega⟩ : Fin 1024) := Fin.ext hp1
    have hb2 : b 2 = p2 := Fin.ext hp2
    rw [hb1, hb2]
    obtain rfl : p0 = 0 := Subsingleton.elim _ _
    rw [show ∀ p c s g, k0_pay47 p (k0_pay43 c) (k0_pay44 s) g
        = k0_pay21 (F := Ideal) (k0_pay14 c) (k0_pay15 s) (k0_pay18 g) (k0_pay19 p) (k0_pay20 p)
      from fun _ _ _ _ => rfl, pay21_at]
    unfold k0_pay61 k0_pay60
    simp only [show ∀ x g w, k0_pay25 (k0_pay23 x g) w = k0_pay4 (F := Ideal) x g w from fun _ _ _ => rfl, pay4_at]
    pointwise
    rfl
  · idx_vars p
    have hb1 : b 1 = (⟨256 + p1, by omega⟩ : Fin 1024) := Fin.ext hp1
    have hb2 : b 2 = p2 := Fin.ext hp2
    rw [hb1, hb2]
    obtain rfl : p0 = 0 := Subsingleton.elim _ _
    unfold k0_pay62 k0_pay63
    rw [show ∀ p c s g, k0_pay35 (k0_pay34 p (k0_pay29 c) (k0_pay30 s) g)
        = k0_pay21 (F := Ideal) (k0_pay14 c) (k0_pay15 s) (k0_pay18 g) (k0_pay19 p) (k0_pay20 p)
      from fun _ _ _ _ => rfl, pay21_at]
    unfold k0_pay57 k0_pay56
    simp only [show ∀ x g w, k0_pay10 (k0_pay8 x) g w = k0_pay4 (F := Ideal) x g w from fun _ _ _ => rfl, pay4_at]
    pointwise
    rfl
  · idx_vars p
    have hb1 : b 1 = (⟨p1, by omega⟩ : Fin 1024) := Fin.ext hp1
    have hb2 : b 2 = p2 := Fin.ext hp2
    rw [hb1, hb2]
    obtain rfl : p0 = 0 := Subsingleton.elim _ _
    unfold k0_pay58 k0_pay59
    refine (pay21_at _ _ _ _ _ _).trans ?_
    unfold k0_pay55
    simp only [pay4_at]
    pointwise
    rfl

/-- The values' block: four chunks of 256 tokens, each with the tokens last. -/
theorem out10_at (b : S1x4x128x256.Idx) :
    out0_10 x g wq wl qg kg C S b
      = value (fun r k => x (ix3 0 r k)) (fun k => g (ix2 0 k)) (fun (e : Fin 128) k => wq (ix2 ⟨640 + e, by omega⟩ k))
          (b 1) (b 2) (b 3) := by
  unfold out0_10
  canon_tiles p hp
  · idx_vars p
    obtain rfl : p1 = 0 := Subsingleton.elim _ _
    have hb1 : b 1 = (⟨3, by omega⟩ : Fin 4) := Fin.ext hp1
    have hb2 : b 2 = p2 := Fin.ext hp2
    have hb3 : b 3 = p3 := Fin.ext hp3
    rw [hb1, hb2, hb3]
    obtain rfl : p0 = 0 := Subsingleton.elim _ _
    refine (pay22_at _ _ _).trans ?_
    unfold k0_pay64
    refine (pay4_at _ _ _ _ _).trans ?_
    pointwise
    rfl
  · idx_vars p
    obtain rfl : p1 = 0 := Subsingleton.elim _ _
    have hb1 : b 1 = (⟨2, by omega⟩ : Fin 4) := Fin.ext hp1
    have hb2 : b 2 = p2 := Fin.ext hp2
    have hb3 : b 3 = p3 := Fin.ext hp3
    rw [hb1, hb2, hb3]
    obtain rfl : p0 = 0 := Subsingleton.elim _ _
    refine (pay22_at _ _ _).trans ?_
    unfold k0_pay61 k0_pay60
    refine (pay4_at _ _ _ _ _).trans ?_
    pointwise
    rfl
  · idx_vars p
    obtain rfl : p1 = 0 := Subsingleton.elim _ _
    have hb1 : b 1 = (⟨1, by omega⟩ : Fin 4) := Fin.ext hp1
    have hb2 : b 2 = p2 := Fin.ext hp2
    have hb3 : b 3 = p3 := Fin.ext hp3
    rw [hb1, hb2, hb3]
    obtain rfl : p0 = 0 := Subsingleton.elim _ _
    refine (pay22_at _ _ _).trans ?_
    unfold k0_pay57 k0_pay56
    refine (pay4_at _ _ _ _ _).trans ?_
    pointwise
    rfl
  · idx_vars p
    obtain rfl : p1 = 0 := Subsingleton.elim _ _
    have hb1 : b 1 = (⟨0, by omega⟩ : Fin 4) := Fin.ext hp1
    have hb2 : b 2 = p2 := Fin.ext hp2
    have hb3 : b 3 = p3 := Fin.ext hp3
    rw [hb1, hb2, hb3]
    obtain rfl : p0 = 0 := Subsingleton.elim _ _
    refine (pay22_at _ _ _).trans ?_
    unfold k0_pay55
    refine (pay4_at _ _ _ _ _).trans ?_
    pointwise
    exact congrArg (fun r : Fin 1024 => proj (fun k => x (ix3 0 r k)) (fun k => g (ix2 0 k))
        (fun k => wq (ix2 ⟨640 + p2, by omega⟩ k)))
      (show (⟨p3, by omega⟩ : Fin 1024) = ⟨0 * 256 + p3, by omega⟩ from Fin.ext (by simp only; omega))

/-- The block of the recurrence's input. -/
theorem out11_at (b : S1x1024x512.Idx) :
    out0_11 x g wq wl qg kg C S b
      = lin (fun k => x (ix3 0 (b 1) k)) (fun k => g (ix2 0 k)) (fun (j : Fin 512) k => wl (ix2 k ⟨j, by omega⟩)) (b 2) := by
  unfold out0_11
  canon_tiles p hp
  · idx_vars p
    have hb1 : b 1 = (⟨768 + p1, by omega⟩ : Fin 1024) := Fin.ext hp1
    have hb2 : b 2 = p2 := Fin.ext hp2
    rw [hb1, hb2]
    obtain rfl : p0 = 0 := Subsingleton.elim _ _
    refine (pay6_at _ _ _ _ _).trans ?_
    pointwise
    rfl
  · idx_vars p
    have hb1 : b 1 = (⟨512 + p1, by omega⟩ : Fin 1024) := Fin.ext hp1
    have hb2 : b 2 = p2 := Fin.ext hp2
    rw [hb1, hb2]
    obtain rfl : p0 = 0 := Subsingleton.elim _ _
    unfold k0_pay60
    refine (pay6_at _ _ _ _ _).trans ?_
    pointwise
    rfl
  · idx_vars p
    have hb1 : b 1 = (⟨256 + p1, by omega⟩ : Fin 1024) := Fin.ext hp1
    have hb2 : b 2 = p2 := Fin.ext hp2
    rw [hb1, hb2]
    obtain rfl : p0 = 0 := Subsingleton.elim _ _
    unfold k0_pay56
    refine (pay6_at _ _ _ _ _).trans ?_
    pointwise
    rfl
  · idx_vars p
    have hb1 : b 1 = (⟨p1, by omega⟩ : Fin 1024) := Fin.ext hp1
    have hb2 : b 2 = p2 := Fin.ext hp2
    rw [hb1, hb2]
    obtain rfl : p0 = 0 := Subsingleton.elim _ _
    refine (pay6_at _ _ _ _ _).trans ?_
    pointwise
    rfl

/-- The block of the recurrence's gate. -/
theorem out12_at (b : S1x1024x512.Idx) :
    out0_12 x g wq wl qg kg C S b
      = lin (fun k => x (ix3 0 (b 1) k)) (fun k => g (ix2 0 k)) (fun (j : Fin 512) k => wl (ix2 k ⟨512 + j, by omega⟩)) (b 2) := by
  unfold out0_12
  canon_tiles p hp
  · idx_vars p
    have hb1 : b 1 = (⟨768 + p1, by omega⟩ : Fin 1024) := Fin.ext hp1
    have hb2 : b 2 = p2 := Fin.ext hp2
    rw [hb1, hb2]
    obtain rfl : p0 = 0 := Subsingleton.elim _ _
    refine (pay7_at _ _ _ _ _).trans ?_
    pointwise
    rfl
  · idx_vars p
    have hb1 : b 1 = (⟨512 + p1, by omega⟩ : Fin 1024) := Fin.ext hp1
    have hb2 : b 2 = p2 := Fin.ext hp2
    rw [hb1, hb2]
    obtain rfl : p0 = 0 := Subsingleton.elim _ _
    unfold k0_pay60
    refine (pay7_at _ _ _ _ _).trans ?_
    pointwise
    rfl
  · idx_vars p
    have hb1 : b 1 = (⟨256 + p1, by omega⟩ : Fin 1024) := Fin.ext hp1
    have hb2 : b 2 = p2 := Fin.ext hp2
    rw [hb1, hb2]
    obtain rfl : p0 = 0 := Subsingleton.elim _ _
    unfold k0_pay56
    refine (pay7_at _ _ _ _ _).trans ?_
    pointwise
    rfl
  · idx_vars p
    have hb1 : b 1 = (⟨p1, by omega⟩ : Fin 1024) := Fin.ext hp1
    have hb2 : b 2 = p2 := Fin.ext hp2
    rw [hb1, hb2]
    obtain rfl : p0 = 0 := Subsingleton.elim _ _
    refine (pay7_at _ _ _ _ _).trans ?_
    pointwise
    rfl

end Cert.InprojBlock

end
-- ==== Proof.InprojWhole.lean ====
/- The five results of the `inproj` call as functions of its seven arguments. -/
module

public import proofs.«01_k».proof.Proof.InprojRow

@[expose] public section

noncomputable section

open Idealize.ShloMosaic

namespace Cert.InprojWhole

open Cert.InprojRow

/-- The tokens: batch, place, entry. -/
abbrev Tokens : Type := FVec Ideal ⟨3, ![8, 8192, 1024]⟩ .f32
/-- The fused projection. -/
abbrev Weights : Type := FVec Ideal ⟨3, ![1, 1024, 1792]⟩ .f32
/-- A rotary table: place, angle. -/
abbrev Table : Type := FVec Ideal ⟨2, ![8192, 32]⟩ .f32
/-- The gain of the token norm. -/
abbrev Gain : Type := FVec Ideal ⟨2, ![1, 1024]⟩ .f32
/-- The gain of a head norm. -/
abbrev HeadGain : Type := FVec Ideal ⟨2, ![1, 64]⟩ .f32

/-- Column `j` of the projection of the normalised token `(b, r)`. -/
def column (X : Tokens) (g : Gain) (W : Weights) (b : Fin 8) (r : Fin 8192) (j : Fin 1792) : EReal :=
  proj (fun k => X (ix3 b r k)) (fun k => g (ix2 0 k)) (fun k => W (ix3 0 k j))

/-- Head entries `e / 64 * 64 ..` from column `o` on, normalised and rotated by the tables' rows `r`; entry `e % 64`. -/
def rotated (X : Tokens) (cos sin : Table) (g : Gain) (W : Weights) (hg : HeadGain) (o n : ℕ) (ho : o + n ≤ 1792)
    (hn : n % 64 = 0) (b : Fin 8) (r : Fin 8192) (e : Fin n) : EReal :=
  rope (head (fun d => column X g W b r ⟨o + (e / 64 * 64 + d), by omega⟩) (fun d => hg (ix2 0 d)))
    (fun a => cos (ix2 r a)) (fun a => sin (ix2 r a)) ⟨e % 64, by omega⟩

/-- The queries, by batch, head entry, place; the scale of the scores and the change to base two included. -/
def queries (X : Tokens) (cos sin : Table) (g : Gain) (W : Weights) (qg : HeadGain) :
    FVec Ideal ⟨3, ![8, 512, 8192]⟩ .bf16 := fun i =>
  rotated X cos sin g W qg 0 512 (by omega) (by omega) (i 0) (i 2) (i 1) * Ideal.ofBits .f32 0x3E38AA3B#32

/-- The keys, by batch, place, head entry. -/
def keys (X : Tokens) (cos sin : Table) (g : Gain) (W : Weights) (kg : HeadGain) :
    FVec Ideal ⟨3, ![8, 8192, 128]⟩ .bf16 := fun i =>
  rotated X cos sin g W kg 512 128 (by omega) (by omega) (i 0) (i 1) (i 2)

/-- A value of place `r` of chunk `q`, chunks of 256 places. -/
def valueAt (X : Tokens) (g : Gain) (W : Weights) (b : Fin 8) (q : Fin 32) (e : Fin 128) (r : Fin 256) : EReal :=
  column X g W b ⟨q * 256 + r, by omega⟩ ⟨640 + e, by omega⟩

/-- A column of the recurrence, of those from column `o` on. -/
def lruAt (o : ℕ) (ho : o + 512 ≤ 1792) (X : Tokens) (g : Gain) (W : Weights) (b : Fin 8) (r : Fin 8192)
    (j : Fin 512) : EReal :=
  column X g W b r ⟨o + j, by omega⟩

/-- The values, by batch, chunk of 256 places, head entry, place within the chunk. -/
def values (X : Tokens) (g : Gain) (W : Weights) : FVec Ideal ⟨4, ![8, 32, 128, 256]⟩ .bf16 := fun i =>
  valueAt X g W (i 0) (i 1) (i 2) (i 3)

/-- The recurrence's input, by batch, place, entry. -/
def inputs (X : Tokens) (g : Gain) (W : Weights) : FVec Ideal ⟨3, ![8, 8192, 512]⟩ .f32 := fun i =>
  lruAt 768 (by omega) X g W (i 0) (i 1) (i 2)

/-- The recurrence's gate, by batch, place, entry. -/
def gates (X : Tokens) (g : Gain) (W : Weights) : FVec Ideal ⟨3, ![8, 8192, 512]⟩ .f32 := fun i =>
  lruAt 1280 (by omega) X g W (i 0) (i 1) (i 2)

end Cert.InprojWhole

end
-- ==== Proof.InprojArray.lean ====
/- The `inproj` kernel's five result arrays after the run: every grid point's blocks are its parts of the arrays of
   `Cert.InprojWhole`, and the blocks tile them. -/
module

public import proofs.«01_k».proof.Proof.InprojBlock
public import proofs.«01_k».proof.Proof.InprojWhole
public import proofs.«01_k».proof.Proof.Gen.InprojIdeal.Value
public import Idealize.ShloMosaic.Lib.Claim
public import Idealize.ShloMosaic.Lib.Tactic.CleanTypes
public import Idealize.ShloMosaic.Lib.IdealHost

@[expose] public section

set_option maxRecDepth 16384

noncomputable section

open Idealize.ShloMosaic Idealize.ShloMosaic.TcCoe Idealize.SL.Sem Cert.InprojRow Cert.InprojWhole
open Idealize.ShloMosaic.Pipeline (Dat)
open Cert.InprojIdeal Cert.InprojIdeal.Gen

namespace Cert.InprojArray

variable (m : (ℓ : Loc nD τ sig) → Buf (Elt Ideal) ℓ)

/-- The block indices of all windows: the token arrays and the tables move with the grid point, the weights stay. -/
theorem idx : ∀ t : Fin cfg0.N,
    win0_0.index t = ![t.val / 8, t.val % 8, 0] ∧ win0_1.index t = ![0, 0] ∧ win0_2.index t = ![0, 0]
    ∧ win0_3.index t = ![0, 0] ∧ win0_4.index t = ![0, 0] ∧ win0_5.index t = ![0, 0]
    ∧ win0_6.index t = ![0, t.val % 8] ∧ win0_7.index t = ![0, t.val % 8]
    ∧ win0_8.index t = ![t.val / 8, 0, t.val % 8] ∧ win0_9.index t = ![t.val / 8, t.val % 8, 0]
    ∧ win0_10.index t = ![t.val / 8, t.val % 8, 0, 0] ∧ win0_11.index t = ![t.val / 8, t.val % 8, 0]
    ∧ win0_12.index t = ![t.val / 8, t.val % 8, 0] :=
  (by decide +kernel : ∀ t : Fin grid0.N, _)

variable (c : Dev nD) (t : Fin cfg0.N)

/-- The batch of a grid point. -/
abbrev batch : Fin 8 := ⟨t.val / 8, by have : t.val < 64 := t.isLt; omega⟩

/-- The place in the sequence of token `r` of a grid point's block. -/
abbrev place (r : Fin 1024) : Fin 8192 := ⟨t.val % 8 * 1024 + r, by omega⟩

/-- The chunk of 256 places that is chunk `q` of a grid point's block. -/
abbrev chunk (q : Fin 4) : Fin 32 := ⟨t.val % 8 * 4 + q, by omega⟩

/-- The token block. -/
theorem tokens_at (r l : Fin 1024) : iblk m c 0 t (ix3 0 r l)
    = m ((c : Thread nD τ).loc main_arg0) (ix3 (batch t) (place t r) l) := by
  blk_point [iblk, V, idx t]

/-- The token norm's gain. -/
theorem gain_at (l : Fin 1024) : iblk m c 1 t (ix2 0 l) = m ((c : Thread nD τ).loc main_arg3) (ix2 0 l) := by
  blk_point [iblk, V, idx t]

/-- The transposed columns of queries, keys and values. -/
theorem attn_weights_at (j : Fin 768) (k : Fin 1024) : iblk m c 2 t (ix2 j k)
    = m ((c : Thread nD τ).loc main_arg4) (ix3 0 k ⟨j, by omega⟩) := by
  blk_point [iblk, V, idx t]

/-- The columns of the recurrence. -/
theorem lru_weights_at (k j : Fin 1024) : iblk m c 3 t (ix2 k j)
    = m ((c : Thread nD τ).loc main_arg4) (ix3 0 k ⟨768 + j, by omega⟩) := by
  blk_point [iblk, V, idx t]

/-- The query norm's gain. -/
theorem query_gain_at (d : Fin 64) : iblk m c 4 t (ix2 d 0) = m ((c : Thread nD τ).loc main_arg5) (ix2 0 d) := by
  blk_point [iblk, V, idx t]

/-- The key norm's gain. -/
theorem key_gain_at (d : Fin 64) : iblk m c 5 t (ix2 d 0) = m ((c : Thread nD τ).loc main_arg6) (ix2 0 d) := by
  blk_point [iblk, V, idx t]

/-- The first half of a table's angles, angles first. -/
abbrev rows (X : FVec Ideal S8192x32 .f32) : FVec Ideal S16x8192 .f32 :=
  transpose S16x8192 [1, 0] (extractStridedSlice S8192x16 ![0, 0] X slices_S8192x32_S8192x16_0_0)
    transposes_S8192x16_S16x8192_1_0

/-- The second half. -/
abbrev cols (X : FVec Ideal S8192x32 .f32) : FVec Ideal S16x8192 .f32 :=
  transpose S16x8192 [1, 0] (extractStridedSlice S8192x16 ![0, 16] X slices_S8192x32_S8192x16_0_16)
    transposes_S8192x16_S16x8192_1_0

/-- The cosine table the host prepares. -/
theorem cos_array : V m c main_v21 = concatenate S64x8192 0
    [⟨S16x8192, rows (m ((c : Thread nD τ).loc main_arg1))⟩, ⟨S16x8192, rows (m ((c : Thread nD τ).loc main_arg1))⟩,
      ⟨S16x8192, cols (m ((c : Thread nD τ).loc main_arg1))⟩, ⟨S16x8192, cols (m ((c : Thread nD τ).loc main_arg1))⟩]
    concatenates_S16x8192_S16x8192_S16x8192_S16x8192_S64x8192_d0 := by
  unfold V
  after_results_simp
  rfl

/-- The sine table the host prepares. -/
theorem sin_array : V m c main_v24 = concatenate S64x8192 0
    [⟨S16x8192, Host.negf (rows (m ((c : Thread nD τ).loc main_arg2)))⟩,
      ⟨S16x8192, rows (m ((c : Thread nD τ).loc main_arg2))⟩,
      ⟨S16x8192, Host.negf (cols (m ((c : Thread nD τ).loc main_arg2)))⟩,
      ⟨S16x8192, cols (m ((c : Thread nD τ).loc main_arg2))⟩]
    concatenates_S16x8192_S16x8192_S16x8192_S16x8192_S64x8192_d0 := by
  unfold V
  after_results_simp
  rfl

/-- The cosine table, spread over a head. -/
theorem cos_at (d : Fin 64) (r : Fin 1024) : iblk m c 6 t (ix2 d r)
    = spread (fun a => m ((c : Thread nD τ).loc main_arg1) (ix2 (place t r) a)) d := by
  have h : iblk m c 6 t (ix2 d r) = V m c main_v21 (ix2 d (place t r)) := by blk_point [iblk, idx t]
  rw [h, cos_array]
  pointwise
  rfl

/-- The sine table, spread over a head with its signs. -/
theorem sin_at (d : Fin 64) (r : Fin 1024) : iblk m c 7 t (ix2 d r)
    = spreadNeg (fun a => m ((c : Thread nD τ).loc main_arg2) (ix2 (place t r) a)) d := by
  have h : iblk m c 7 t (ix2 d r) = V m c main_v24 (ix2 d (place t r)) := by blk_point [iblk, idx t]
  rw [h, sin_array]
  pointwise
  rfl

/-! ## The results over the memory's argument arrays -/

/-- The queries. -/
abbrev queriesGoal : FVec Ideal S8x512x8192 .bf16 :=
  queries (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The keys. -/
abbrev keysGoal : FVec Ideal S8x8192x128 .bf16 :=
  keys (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg6))

/-- The values. -/
abbrev valuesGoal : FVec Ideal S8x32x128x256 .bf16 :=
  values (m ((c : Thread nD τ).loc main_arg0)) (m ((c : Thread nD τ).loc main_arg3)) (m ((c : Thread nD τ).loc main_arg4))

/-- The recurrence's input. -/
abbrev inputsGoal : FVec Ideal S8x8192x512 .f32 :=
  inputs (m ((c : Thread nD τ).loc main_arg0)) (m ((c : Thread nD τ).loc main_arg3)) (m ((c : Thread nD τ).loc main_arg4))

/-- The recurrence's gate. -/
abbrev gatesGoal : FVec Ideal S8x8192x512 .f32 :=
  gates (m ((c : Thread nD τ).loc main_arg0)) (m ((c : Thread nD τ).loc main_arg3)) (m ((c : Thread nD τ).loc main_arg4))

/-! ## The rows of a grid point's blocks -/

/-- A column of the projection of a token of the block. -/
theorem proj_at (r : Fin 1024) (w : Fin 1024 → EReal) (j : Fin 1792)
    (hw : ∀ k, w k = m ((c : Thread nD τ).loc main_arg4) (ix3 0 k j)) :
    proj (fun k => iblk m c 0 t (ix3 0 r k)) (fun k => iblk m c 1 t (ix2 0 k)) w
      = column (m ((c : Thread nD τ).loc main_arg0)) (m ((c : Thread nD τ).loc main_arg3))
          (m ((c : Thread nD τ).loc main_arg4)) (batch t) (place t r) j := by
  rw [funext (tokens_at m c t r), funext (gain_at m c t), funext hw]
  rfl

/-- The queries of a token of the block. -/
theorem query_row (r : Fin 1024) (e : Fin 512) :
    query (fun k => iblk m c 0 t (ix3 0 r k)) (fun k => iblk m c 1 t (ix2 0 k))
        (fun e k => iblk m c 2 t (ix2 ⟨e, by omega⟩ k)) (fun d => iblk m c 4 t (ix2 d 0))
        (fun d => iblk m c 6 t (ix2 d r)) (fun d => iblk m c 7 t (ix2 d r)) e
      = queriesGoal m c (ix3 (batch t) e (place t r)) := by
  unfold query
  rw [funext (query_gain_at m c t), funext fun d => cos_at m c t d r, funext fun d => sin_at m c t d r, turn_spread]
  refine congrArg (fun f => rope (head f _) _ _ _ * Ideal.ofBits .f32 0x3E38AA3B#32) (funext fun d => ?_)
  refine proj_at m c t r _ _ fun k => (attn_weights_at m c t _ k).trans ?_
  refine congrArg (fun j => m ((c : Thread nD τ).loc main_arg4) (ix3 0 k j)) (Fin.ext (Nat.zero_add _).symm)

/-- The keys of a token of the block. -/
theorem key_row (r : Fin 1024) (e : Fin 128) :
    key (fun k => iblk m c 0 t (ix3 0 r k)) (fun k => iblk m c 1 t (ix2 0 k))
        (fun e k => iblk m c 2 t (ix2 ⟨512 + e, by omega⟩ k)) (fun d => iblk m c 5 t (ix2 d 0))
        (fun d => iblk m c 6 t (ix2 d r)) (fun d => iblk m c 7 t (ix2 d r)) e
      = keysGoal m c (ix3 (batch t) (place t r) e) := by
  unfold key
  rw [funext (key_gain_at m c t), funext fun d => cos_at m c t d r, funext fun d => sin_at m c t d r, turn_spread]
  refine congrArg (fun f => rope (head f _) _ _ _) (funext fun d => ?_)
  exact proj_at m c t r _ _ fun k => attn_weights_at m c t _ k

/-- The values of a token of the block. -/
theorem value_row (q : Fin 4) (e : Fin 128) (r : Fin 256) :
    value (fun r k => iblk m c 0 t (ix3 0 r k)) (fun k => iblk m c 1 t (ix2 0 k))
        (fun (e : Fin 128) k => iblk m c 2 t (ix2 ⟨640 + e, by omega⟩ k)) q e r
      = valuesGoal m c (ix4 (batch t) (chunk t q) e r) := by
  refine (proj_at m c t _ _ _ fun k => attn_weights_at m c t _ k).trans ?_
  refine congrArg (fun r => column _ _ _ (batch t) r _) (Fin.ext ?_)
  show t.val % 8 * 1024 + ((q : ℕ) * 256 + r) = (t.val % 8 * 4 + q) * 256 + r
  omega

/-- The recurrence's input of a token of the block. -/
theorem input_row (r : Fin 1024) (j : Fin 512) :
    lin (fun k => iblk m c 0 t (ix3 0 r k)) (fun k => iblk m c 1 t (ix2 0 k))
        (fun (j : Fin 512) k => iblk m c 3 t (ix2 k ⟨j, by omega⟩)) j
      = inputsGoal m c (ix3 (batch t) (place t r) j) :=
  proj_at m c t r _ _ fun k => lru_weights_at m c t k _

/-- The recurrence's gate of a token of the block. -/
theorem gate_row (r : Fin 1024) (j : Fin 512) :
    lin (fun k => iblk m c 0 t (ix3 0 r k)) (fun k => iblk m c 1 t (ix2 0 k))
        (fun (j : Fin 512) k => iblk m c 3 t (ix2 k ⟨512 + j, by omega⟩)) j
      = gatesGoal m c (ix3 (batch t) (place t r) j) :=
  proj_at m c t r _ _ fun k => (lru_weights_at m c t k _).trans
    (congrArg (fun j => m ((c : Thread nD τ).loc main_arg4) (ix3 0 k j)) (Fin.ext
      (show 768 + (512 + (j : ℕ)) = 1280 + j by omega)))

/-! ## The grid points' blocks -/

/-- The queries' block of grid point `t` is its part of the array. -/
theorem point8 (y : S1x512x1024.Idx) :
    out0_8 (iblk m c 0 t) (iblk m c 1 t) (iblk m c 2 t) (iblk m c 3 t) (iblk m c 4 t) (iblk m c 5 t) (iblk m c 6 t)
        (iblk m c 7 t) y = queriesGoal m c (((cfg0.win 8).blk t).view.emb y) := by
  have h0 : (((cfg0.win 8).blk t).view.emb y) 0 = batch t := Fin.ext (by blk_simp [idx t] <;> omega)
  have h1 : (((cfg0.win 8).blk t).view.emb y) 1 = y 1 := Fin.ext (by blk_simp [idx t] <;> omega)
  have h2 : (((cfg0.win 8).blk t).view.emb y) 2 = place t (y 2) := Fin.ext (by blk_simp [idx t] <;> omega)
  refine (InprojBlock.out8_at _ _ _ _ _ _ _ _ y).trans ((query_row m c t (y 2) (y 1)).trans (congrArg _ ?_))
  refine funext fun a => ?_
  fin_cases a
  exacts [h0.symm, h1.symm, h2.symm]

/-- The array after the run. -/
theorem final8 : (dats m 0 c).arrAt 8 (cfgs 0).N = queriesGoal m c := by
  refine (dats m 0 c).arrAt_eq_of_covers 8 _ (by decide +kernel) fun t _ y => ?_
  blk_simp
  rw [after0_8]
  exact point8 m c t y

/-- The keys' block of grid point `t` is its part of the array. -/
theorem point9 (y : S1x1024x128.Idx) :
    out0_9 (iblk m c 0 t) (iblk m c 1 t) (iblk m c 2 t) (iblk m c 3 t) (iblk m c 4 t) (iblk m c 5 t) (iblk m c 6 t)
        (iblk m c 7 t) y = keysGoal m c (((cfg0.win 9).blk t).view.emb y) := by
  have h0 : (((cfg0.win 9).blk t).view.emb y) 0 = batch t := Fin.ext (by blk_simp [idx t] <;> omega)
  have h1 : (((cfg0.win 9).blk t).view.emb y) 1 = place t (y 1) := Fin.ext (by blk_simp [idx t] <;> omega)
  have h2 : (((cfg0.win 9).blk t).view.emb y) 2 = y 2 := Fin.ext (by blk_simp [idx t] <;> omega)
  refine (InprojBlock.out9_at _ _ _ _ _ _ _ _ y).trans ((key_row m c t (y 1) (y 2)).trans (congrArg _ ?_))
  refine funext fun a => ?_
  fin_cases a
  exacts [h0.symm, h1.symm, h2.symm]

/-- The array after the run. -/
theorem final9 : (dats m 0 c).arrAt 9 (cfgs 0).N = keysGoal m c := by
  refine (dats m 0 c).arrAt_eq_of_covers 9 _ (by decide +kernel) fun t _ y => ?_
  blk_simp
  rw [after0_9]
  exact point9 m c t y

/-- The values' block of grid point `t` is its part of the array. -/
theorem point10 (y : S1x4x128x256.Idx) :
    out0_10 (iblk m c 0 t) (iblk m c 1 t) (iblk m c 2 t) (iblk m c 3 t) (iblk m c 4 t) (iblk m c 5 t) (iblk m c 6 t)
        (iblk m c 7 t) y = valuesGoal m c (((cfg0.win 10).blk t).view.emb y) := by
  have h0 : (((cfg0.win 10).blk t).view.emb y) 0 = batch t := Fin.ext (by blk_simp [idx t] <;> omega)
  have h1 : (((cfg0.win 10).blk t).view.emb y) 1 = chunk t (y 1) := Fin.ext (by blk_simp [idx t] <;> omega)
  have h2 : (((cfg0.win 10).blk t).view.emb y) 2 = y 2 := Fin.ext (by blk_simp [idx t] <;> omega)
  have h3 : (((cfg0.win 10).blk t).view.emb y) 3 = y 3 := Fin.ext (by blk_simp [idx t] <;> omega)
  refine (InprojBlock.out10_at _ _ _ _ _ _ _ _ y).trans ((value_row m c t (y 1) (y 2) (y 3)).trans (congrArg _ ?_))
  refine funext fun a => ?_
  fin_cases a
  exacts [h0.symm, h1.symm, h2.symm, h3.symm]

/-- The array after the run. -/
theorem final10 : (dats m 0 c).arrAt 10 (cfgs 0).N = valuesGoal m c := by
  refine (dats m 0 c).arrAt_eq_of_covers 10 _ (by decide +kernel) fun t _ y => ?_
  blk_simp
  rw [after0_10]
  exact point10 m c t y

/-- The block of the recurrence's input of grid point `t` is its part of the array. -/
theorem point11 (y : S1x1024x512.Idx) :
    out0_11 (iblk m c 0 t) (iblk m c 1 t) (iblk m c 2 t) (iblk m c 3 t) (iblk m c 4 t) (iblk m c 5 t) (iblk m c 6 t)
        (iblk m c 7 t) y = inputsGoal m c (((cfg0.win 11).blk t).view.emb y) := by
  have h0 : (((cfg0.win 11).blk t).view.emb y) 0 = batch t := Fin.ext (by blk_simp [idx t] <;> omega)
  have h1 : (((cfg0.win 11).blk t).view.emb y) 1 = place t (y 1) := Fin.ext (by blk_simp [idx t] <;> omega)
  have h2 : (((cfg0.win 11).blk t).view.emb y) 2 = y 2 := Fin.ext (by blk_simp [idx t] <;> omega)
  refine (InprojBlock.out11_at _ _ _ _ _ _ _ _ y).trans ((input_row m c t (y 1) (y 2)).trans (congrArg _ ?_))
  refine funext fun a => ?_
  fin_cases a
  exacts [h0.symm, h1.symm, h2.symm]

/-- The array after the run. -/
theorem final11 : (dats m 0 c).arrAt 11 (cfgs 0).N = inputsGoal m c := by
  refine (dats m 0 c).arrAt_eq_of_covers 11 _ (by decide +kernel) fun t _ y => ?_
  blk_simp
  rw [after0_11]
  exact point11 m c t y

/-- The block of the recurrence's gate of grid point `t` is its part of the array. -/
theorem point12 (y : S1x1024x512.Idx) :
    out0_12 (iblk m c 0 t) (iblk m c 1 t) (iblk m c 2 t) (iblk m c 3 t) (iblk m c 4 t) (iblk m c 5 t) (iblk m c 6 t)
        (iblk m c 7 t) y = gatesGoal m c (((cfg0.win 12).blk t).view.emb y) := by
  have h0 : (((cfg0.win 12).blk t).view.emb y) 0 = batch t := Fin.ext (by blk_simp [idx t] <;> omega)
  have h1 : (((cfg0.win 12).blk t).view.emb y) 1 = place t (y 1) := Fin.ext (by blk_simp [idx t] <;> omega)
  have h2 : (((cfg0.win 12).blk t).view.emb y) 2 = y 2 := Fin.ext (by blk_simp [idx t] <;> omega)
  refine (InprojBlock.out12_at _ _ _ _ _ _ _ _ y).trans ((gate_row m c t (y 1) (y 2)).trans (congrArg _ ?_))
  refine funext fun a => ?_
  fin_cases a
  exacts [h0.symm, h1.symm, h2.symm]

/-- The array after the run. -/
theorem final12 : (dats m 0 c).arrAt 12 (cfgs 0).N = gatesGoal m c := by
  refine (dats m 0 c).arrAt_eq_of_covers 12 _ (by decide +kernel) fun t _ y => ?_
  blk_simp
  rw [after0_12]
  exact point12 m c t y

end Cert.InprojArray

end
-- ==== Proof.InprojReference.lean ====
/- The `inproj` reference's results are those of `Cert.InprojWhole` of its arguments. -/
module

public import proofs.«01_k».proof.Proof.InprojWhole
public import proofs.«01_k».proof.Proof.Gen.InprojRefIdeal.Run
public import Idealize.ShloMosaic.Lib.Tactic.CleanTypes
public import Idealize.ShloMosaic.Lib.IdealHost

@[expose] public section

set_option maxRecDepth 16384

noncomputable section

open Idealize.ShloMosaic Idealize.ShloMosaic.TcCoe Idealize.SL.Sem Cert.PostRow Cert.InprojRow Cert.InprojWhole
open Cert.InprojRefIdeal Cert.InprojRefIdeal.Gen Cert.InprojRefIdeal.Value

namespace Cert.InprojReference

variable (m : (ℓ : Loc nD τ sig) → Buf (Elt Ideal) ℓ) (c : Dev nD)

/-- The queries, by head and entry. -/
theorem query_at (b : Fin 8) (h : Fin 8) (d : Fin 64) (r : Fin 8192) :
    res_main_v129 m c (ix3 b ⟨h * 64 + d, by omega⟩ r)
      = rope (head (fun d => column (m ((c.tc : Thread nD τ).loc main_arg0)) (m ((c.tc : Thread nD τ).loc main_arg3))
            (m ((c.tc : Thread nD τ).loc main_arg4)) b r ⟨h * 64 + d, by omega⟩)
          (fun d => m ((c.tc : Thread nD τ).loc main_arg5) (ix2 0 d)))
        (fun a => m ((c.tc : Thread nD τ).loc main_arg1) (ix2 r a))
        (fun a => m ((c.tc : Thread nD τ).loc main_arg2) (ix2 r a)) d * Ideal.ofBits .f32 0x3E38AA3B#32 := by
  unfold res_main_v129
  clean_types
  pointwise
  rfl

/-- The keys, by head and entry. -/
theorem key_at (b : Fin 8) (h : Fin 2) (d : Fin 64) (r : Fin 8192) :
    res_main_v131 m c (ix3 b r ⟨h * 64 + d, by omega⟩)
      = rope (head (fun d => column (m ((c.tc : Thread nD τ).loc main_arg0)) (m ((c.tc : Thread nD τ).loc main_arg3))
            (m ((c.tc : Thread nD τ).loc main_arg4)) b r ⟨512 + (h * 64 + d), by omega⟩)
          (fun d => m ((c.tc : Thread nD τ).loc main_arg6) (ix2 0 d)))
        (fun a => m ((c.tc : Thread nD τ).loc main_arg1) (ix2 r a))
        (fun a => m ((c.tc : Thread nD τ).loc main_arg2) (ix2 r a)) d := by
  unfold res_main_v131
  clean_types
  pointwise
  rfl

/-- The reference's queries. -/
theorem queries_eq : res_main_v129 m c
    = queries (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) := by
  funext i
  idx_vars i
  have he : i1 = ⟨(⟨i1 / 64, by omega⟩ : Fin 8) * 64 + (⟨i1 % 64, by omega⟩ : Fin 64), by simp only; omega⟩ :=
    Fin.ext (by simp only; omega)
  refine (congrArg (fun e => res_main_v129 m c (ix3 i0 e i2)) he).trans ((query_at m c i0 _ _ i2).trans ?_)
  unfold queries rotated
  simp only [Nat.zero_add]
  rfl

/-- The reference's keys. -/
theorem keys_eq : res_main_v131 m c
    = keys (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg6)) := by
  funext i
  idx_vars i
  have he : i2 = ⟨(⟨i2 / 64, by omega⟩ : Fin 2) * 64 + (⟨i2 % 64, by omega⟩ : Fin 64), by simp only; omega⟩ :=
    Fin.ext (by simp only; omega)
  exact (congrArg (fun e => res_main_v131 m c (ix3 i0 i1 e)) he).trans (key_at m c i0 _ _ i1)

/-- The reference's run: the five result arrays are those of `Cert.InprojWhole`, and the arguments stay as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v129)
        = queries (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_v131)
        = keys (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg6))
      ∧ r.2.mem ((c.tc : Thread nD τ).loc main_v134)
        = values (m ((c.tc : Thread nD τ).loc main_arg0)) (m ((c.tc : Thread nD τ).loc main_arg3))
            (m ((c.tc : Thread nD τ).loc main_arg4))
      ∧ r.2.mem ((c.tc : Thread nD τ).loc main_v19)
        = inputs (m ((c.tc : Thread nD τ).loc main_arg0)) (m ((c.tc : Thread nD τ).loc main_arg3))
            (m ((c.tc : Thread nD τ).loc main_arg4))
      ∧ r.2.mem ((c.tc : Thread nD τ).loc main_v20)
        = gates (m ((c.tc : Thread nD τ).loc main_arg0)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  refine (θ_run defs _ _).mono (fun r h c => ⟨(h c).1.trans (queries_eq m c), (h c).2.1.trans (keys_eq m c),
    (h c).2.2.1.trans ?_, (h c).2.2.2.1.trans ?_, (h c).2.2.2.2.1.trans ?_, (h c).2.2.2.2.2⟩) (Value.run m ρ)
  all_goals
    funext i
    idx_vars i
    clean_types
    pointwise
    rfl

end Cert.InprojReference

end
-- ==== Proof.InprojClaims.lean ====
/- The claims about the `inproj` call: the three frames, and that the kernel and the reference end at the same arrays. -/
module

public import proofs.«01_k».proof.Defs
public import proofs.«01_k».proof.Proof.InprojArray
public import proofs.«01_k».proof.Proof.InprojReference
public import proofs.«01_k».proof.Proof.Gen.Inproj.Frame
public import Idealize.ShloMosaic.Lib.Quiescent

@[expose] public section

set_option maxRecDepth 16384

noncomputable section

open Idealize.ShloMosaic Idealize.ShloMosaic.TcCoe Idealize.SL.Sem

namespace Cert.InprojClaims

/-- The kernel runs to its end, keeps its arguments and leaves every counter at zero. -/
theorem quiet : Cert.quiescent_Inproj := fun m ρ _ => Cert.Inproj.Gen.frame m ρ

/-- So does its reading over the extended reals. -/
theorem quiet_ideal : Cert.quiescent_InprojIdeal := fun m ρ _ => Cert.InprojIdeal.Gen.frame m ρ

/-- So does the reference. -/
theorem quiet_reference : Cert.quiescent_InprojRefIdeal := fun m ρ _ =>
  (θ_run Cert.InprojRefIdeal.defs _ _).mono
    (fun r h => ⟨fun c => (h c).2.2.2.2.2, sem_eq_zero_of_no_sems (by decide) r.2⟩) (Cert.InprojReference.run m ρ)

/-- Over the extended reals the kernel and the reference end at equal arrays, from equal arguments. -/
theorem algebraic : Cert.algebraic_InprojIdeal_InprojRefIdeal := by
  intro m ρ m' ρ' _ hagree
  refine ⟨Cert.InprojArray.queriesGoal m, Cert.InprojArray.keysGoal m, Cert.InprojArray.valuesGoal m,
    Cert.InprojArray.inputsGoal m, Cert.InprojArray.gatesGoal m, ?_, ?_⟩
  · exact (θ_run Cert.InprojIdeal.defs _ _).mono (fun _ h c =>
        ⟨(h c).1.trans (Cert.InprojArray.final8 m c), (h c).2.1.trans (Cert.InprojArray.final9 m c),
          (h c).2.2.1.trans (Cert.InprojArray.final10 m c), (h c).2.2.2.1.trans (Cert.InprojArray.final11 m c),
          (h c).2.2.2.2.1.trans (Cert.InprojArray.final12 m c), (h c).2.2.2.2.2⟩)
      (Cert.InprojIdeal.Value.run_blocks m ρ)
  · refine (θ_run Cert.InprojRefIdeal.defs _ _).mono (fun _ h c =>
        ⟨(h c).1.trans ?_, (h c).2.1.trans ?_, (h c).2.2.1.trans ?_, (h c).2.2.2.1.trans ?_,
          (h c).2.2.2.2.1.trans ?_, (h c).2.2.2.2.2⟩)
      (Cert.InprojReference.run m' ρ')
    all_goals
      obtain ⟨h0, h1, h2, h3, h4, h5, h6⟩ := hagree c
      simp only [h0, h1, h2, h3, h4, h5, h6]

end Cert.InprojClaims

end
-- ==== Proof.SampleArray.lean ====
/- The sample batch: the `post` kernel's result array after the run: every grid point's block is its rows of `Cert.PostWhole.result`, and the
   blocks tile the array. -/
module

public import proofs.«01_k».proof.Proof.PostBlock
public import proofs.«01_k».proof.Proof.PostWhole
public import proofs.«01_k».proof.Proof.Gen.SampleIdeal.Value
public import Idealize.ShloMosaic.Lib.Claim

@[expose] public section

set_option maxRecDepth 16384

noncomputable section

open Idealize.ShloMosaic Idealize.ShloMosaic.TcCoe Idealize.SL.Sem Cert.PostRow Cert.PostWhole
open Idealize.ShloMosaic.Pipeline (Dat)
open Cert.SampleIdeal Cert.SampleIdeal.Gen

namespace Cert.SampleArray

variable (m : (ℓ : Loc nD τ sig) → Buf (Elt Ideal) ℓ)

/-- The result over the memory's argument arrays. -/
abbrev goal (c : Dev nD) : FVec Ideal S4x8192x1024 .f32 :=
  result (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9))

/-- The block indices of all windows: the token arrays move with the grid point, the weights stay. -/
theorem idx : ∀ t : Fin cfg0.N,
    win0_0.index t = ![t.val / 16, t.val % 16, 0] ∧ win0_1.index t = ![t.val / 16, t.val % 16, 0]
    ∧ win0_2.index t = ![t.val / 16, t.val % 16, 0] ∧ win0_3.index t = ![t.val / 16, t.val % 16, 0]
    ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0]
    ∧ win0_12.index t = ![t.val / 16, t.val % 16, 0] :=
  (by decide +kernel : ∀ t : Fin grid0.N, _)

/-- A grid point of the sample batch stores what a grid point of the prompt batch would store from the same blocks. -/
theorem out_eq : @out0_12 Ideal _ = @Cert.PostIdeal.Gen.out0_12 Ideal _ := rfl

/-- What grid point `t` stores at place `y` of its block is the result at the array index where the block lies. -/
theorem point (c : Dev nD) (t : Fin cfg0.N) (y : S1x512x1024.Idx) :
    out0_12 (iblk m c 0 t) (iblk m c 1 t) (iblk m c 2 t) (iblk m c 3 t) (iblk m c 4 t) (iblk m c 5 t) (iblk m c 6 t)
        (iblk m c 7 t) (iblk m c 8 t) (iblk m c 9 t) (iblk m c 10 t) (iblk m c 11 t) y
      = goal m c (((cfg0.win 12).blk t).view.emb y) := by
  have h0 : ∀ l : Fin 1024, iblk m c 0 t (ix3 0 (y 1) l) = m ((c : Thread nD τ).loc main_arg0)
      (ix3 ((((cfg0.win 12).blk t).view.emb y) 0) ((((cfg0.win 12).blk t).view.emb y) 1) l) := by
    intro l; blk_point [iblk, V, idx t]
  have h1 : ∀ l : Fin 512, iblk m c 1 t (ix3 0 (y 1) l) = m ((c : Thread nD τ).loc main_arg1)
      (ix3 ((((cfg0.win 12).blk t).view.emb y) 0) ((((cfg0.win 12).blk t).view.emb y) 1) l) := by
    intro l; blk_point [iblk, V, idx t]
  have h2 : ∀ l : Fin 512, iblk m c 2 t (ix3 0 (y 1) l) = m ((c : Thread nD τ).loc main_arg2)
      (ix3 ((((cfg0.win 12).blk t).view.emb y) 0) ((((cfg0.win 12).blk t).view.emb y) 1) l) := by
    intro l; blk_point [iblk, V, idx t]
  have h3 : ∀ l : Fin 512, iblk m c 3 t (ix3 0 (y 1) l) = m ((c : Thread nD τ).loc main_arg3)
      (ix3 ((((cfg0.win 12).blk t).view.emb y) 0) ((((cfg0.win 12).blk t).view.emb y) 1) l) := by
    intro l; blk_point [iblk, V, idx t]
  have h4 : ∀ l : Fin 512, iblk m c 4 t (ix2 0 l) = m ((c : Thread nD τ).loc main_arg4) (ix2 0 l) := by
    intro l; blk_point [iblk, V, idx t]
  have h5 : ∀ (k : Fin 512) (l : Fin 1024), iblk m c 5 t (ix2 k l)
      = m ((c : Thread nD τ).loc main_arg5) (ix3 0 ⟨k, by omega⟩ l) := by
    intro k l; blk_point [iblk, V, idx t]
  have h6 : ∀ (k : Fin 512) (l : Fin 1024), iblk m c 6 t (ix2 k l)
      = m ((c : Thread nD τ).loc main_arg5) (ix3 0 ⟨512 + k, by omega⟩ l) := by
    intro k l; blk_point [iblk, V, idx t]
  have h7 : ∀ l : Fin 1024, iblk m c 7 t (ix2 0 l) = m ((c : Thread nD τ).loc main_arg6) (ix2 0 l) := by
    intro l; blk_point [iblk, V, idx t]
  have h8 : ∀ (k : Fin 1024) (l : Fin 2816), iblk m c 8 t (ix2 k l)
      = m ((c : Thread nD τ).loc main_arg7) (ix3 0 k ⟨l, by omega⟩) := by
    intro k l; blk_point [iblk, V, idx t]
  have h9 : ∀ (k : Fin 1024) (l : Fin 2816), iblk m c 9 t (ix2 k l)
      = m ((c : Thread nD τ).loc main_arg7) (ix3 0 k ⟨2816 + l, by omega⟩) := by
    intro k l; blk_point [iblk, V, idx t]
  have h10 : ∀ (k : Fin 2816) (l : Fin 1024), iblk m c 10 t (ix2 k l)
      = m ((c : Thread nD τ).loc main_arg8) (ix3 0 k l) := by
    intro k l; blk_point [iblk, V, idx t]
  have h11 : ∀ l : Fin 1024, iblk m c 11 t (ix2 0 l) = m ((c : Thread nD τ).loc main_arg9) (ix1 l) := by
    intro l; blk_point [iblk, V, idx t]
  have hl : (((cfg0.win 12).blk t).view.emb y) 2 = y 2 := by
    refine Fin.ext ?_
    blk_simp [idx t] <;> omega
  rw [out_eq]
  refine (PostBlock.out_at _ _ _ _ _ _ _ _ _ _ _ _ y).trans ?_
  rw [funext h0, funext h1, funext h2, funext h3, funext h4, funext fun k => funext (h5 k),
    funext fun k => funext (h6 k), funext h7, funext fun k => funext (h8 k), funext fun k => funext (h9 k),
    funext fun k => funext (h10 k), funext h11, ← hl]
  rfl

/-- The result array after the run. -/
theorem final (c : Dev nD) : (dats m 0 c).arrAt 12 (cfgs 0).N = goal m c := by
  refine (dats m 0 c).arrAt_eq_of_covers 12 _ (by decide +kernel) fun t _ y => ?_
  blk_simp
  rw [after0_12]
  exact point m c t y

end Cert.SampleArray

end
-- ==== Proof.SampleReference.lean ====
/- The sample batch: the `post` reference's result is `Cert.PostWhole.result` of its arguments. -/
module

public import proofs.«01_k».proof.Proof.PostWhole
public import proofs.«01_k».proof.Proof.Gen.SampleRefIdeal.Run
public import Idealize.ShloMosaic.Lib.Tactic.CleanTypes
public import Idealize.ShloMosaic.Lib.IdealHost

@[expose] public section

set_option maxRecDepth 16384

noncomputable section

open Idealize.ShloMosaic Idealize.ShloMosaic.TcCoe Idealize.SL.Sem Cert.PostRow Cert.PostWhole
open Cert.SampleRefIdeal Cert.SampleRefIdeal.Gen Cert.SampleRefIdeal.Value

namespace Cert.SampleReference

variable (V0 : Valuation τ sig (Elt Ideal))

/-- The gated recurrence output of a token. -/
theorem gated_at (b : Fin 4) (r : Fin 8192) (k : Fin 512) :
    res_main_v13 V0 (ix3 b r k)
      = gated (V0 (Proc.devRef .tc main_arg2) (ix3 b r k)) (V0 (Proc.devRef .tc main_arg3) (ix3 b r k)) := by
  unfold res_main_v13
  clean_types
  pointwise
  unfold gated gelu
  ac_rfl

/-- The mixed residual of a token. -/
theorem mixed_at (b : Fin 4) (r : Fin 8192) (l : Fin 1024) :
    res_main_v32 V0 (ix3 b r l)
      = mixedAt (V0 (Proc.devRef .tc main_arg0)) (V0 (Proc.devRef .tc main_arg1)) (V0 (Proc.devRef .tc main_arg2))
          (V0 (Proc.devRef .tc main_arg3)) (V0 (Proc.devRef .tc main_arg4)) (V0 (Proc.devRef .tc main_arg5)) b r l := by
  unfold res_main_v32
  clean_types
  pointwise [gated_at]
  exact (add_assoc _ _ _).symm

/-- The two projections of the feed-forward layer. -/
theorem proj_at (b : Fin 4) (r : Fin 8192) (j : Fin 5632) :
    res_main_v48 V0 (ix3 b r j) = ∑ k : Fin 1024, norm (Ideal.ofBits .f32 0x44800000#32)
      (fun k => res_main_v32 V0 (ix3 b r k)) (fun k => V0 (Proc.devRef .tc main_arg6) (ix2 0 k)) k
        * V0 (Proc.devRef .tc main_arg7) (ix3 0 k j) := by
  unfold res_main_v48
  clean_types
  pointwise
  rfl

/-- The residual after the feed-forward layer. -/
theorem ffn_at (b : Fin 4) (r : Fin 8192) (l : Fin 1024) :
    res_main_v55 V0 (ix3 b r l) = (show EReal from res_main_v32 V0 (ix3 b r l)) + ∑ j : Fin 2816,
      hidden (fun k => res_main_v32 V0 (ix3 b r k)) (fun k => V0 (Proc.devRef .tc main_arg6) (ix2 0 k))
        (fun k j => V0 (Proc.devRef .tc main_arg7) (ix3 0 k ⟨j, by omega⟩))
        (fun k j => V0 (Proc.devRef .tc main_arg7) (ix3 0 k ⟨2816 + j, by omega⟩)) j
        * V0 (Proc.devRef .tc main_arg8) (ix3 0 j l) := by
  unfold res_main_v55 res_main_v49
  clean_types
  pointwise [proj_at]
  rfl

/-- The reference's run: the result array is `Cert.PostWhole.result` of the argument arrays, which stay as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v68)
        = result (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) := by
  refine (θ_run defs _ _).mono (fun r h c => ⟨(h c).1.trans ?_, (h c).2⟩) (Value.run m ρ)
  funext i
  idx_vars i
  clean_types
  pointwise [ffn_at, result]
  simp only [mixed_at]
  rfl

end Cert.SampleReference

end
-- ==== Proof.SampleClaims.lean ====
/- The claims about the `post` call of the sample batch: the three frames, and that the kernel and the reference end at the same array. -/
module

public import proofs.«01_k».proof.Defs
public import proofs.«01_k».proof.Proof.SampleArray
public import proofs.«01_k».proof.Proof.SampleReference
public import proofs.«01_k».proof.Proof.Gen.Sample.Frame
public import Idealize.ShloMosaic.Lib.Quiescent

@[expose] public section

set_option maxRecDepth 16384

noncomputable section

open Idealize.ShloMosaic Idealize.ShloMosaic.TcCoe Idealize.SL.Sem

namespace Cert.SampleClaims

/-- The kernel runs to its end, keeps its arguments and leaves every counter at zero. -/
theorem quiet : Cert.quiescent_Sample := fun m ρ _ => Cert.Sample.Gen.frame m ρ

/-- So does its reading over the extended reals. -/
theorem quiet_ideal : Cert.quiescent_SampleIdeal := fun m ρ _ => Cert.SampleIdeal.Gen.frame m ρ

/-- So does the reference. -/
theorem quiet_reference : Cert.quiescent_SampleRefIdeal := fun m ρ _ =>
  (θ_run Cert.SampleRefIdeal.defs _ _).mono
    (fun r h => ⟨fun c => (h c).2, sem_eq_zero_of_no_sems (by decide) r.2⟩) (Cert.SampleReference.run m ρ)

/-- Over the extended reals the kernel and the reference end at equal arrays, from equal arguments. -/
theorem algebraic : Cert.algebraic_SampleIdeal_SampleRefIdeal := by
  intro m ρ m' ρ' _ hagree
  refine ⟨fun c => Cert.SampleArray.goal m c, ?_, ?_⟩
  · exact (θ_run Cert.SampleIdeal.defs _ _).mono (fun _ h c => ⟨(h c).1.trans (Cert.SampleArray.final m c), (h c).2⟩)
      (Cert.SampleIdeal.Value.run_blocks m ρ)
  · refine (θ_run Cert.SampleRefIdeal.defs _ _).mono (fun _ h c => ⟨(h c).1.trans ?_, (h c).2⟩)
      (Cert.SampleReference.run m' ρ')
    obtain ⟨h0, h1, h2, h3, h4, h5, h6, h7, h8, h9⟩ := hagree c
    rw [h0, h1, h2, h3, h4, h5, h6, h7, h8, h9]

end Cert.SampleClaims

end
-- ==== Proof.AttnIdealBody.lean ====
module

public import proofs.«01_k».proof.Proof.Gen.AttnIdeal.Loops
public import proofs.«01_k».proof.Proof.Gen.AttnIdeal.Frame

@[expose] public section

set_option maxRecDepth 65536

noncomputable section

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of the result's block. -/
abbrev r0_out : Rect S1x512x512 := Rect.unit (s := S1x512x512) ![0, 0, 0] S1x512x512.size inb_S1x512x512_S1x512x512_0_0_0

set_option maxHeartbeats 4000000 in
@[irreducible] def bodyRun (c : Dev nD) (i : grid0.Coords) (arg2 : Memref sig .tc .vmem S1x512x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S16x128 .bf16) (harg5 : arg5.IsWhole) (arg6 : Memref sig .tc .vmem S128x16 .bf16) (harg6 : arg6.IsWhole) (arg7 : Memref sig .tc .vmem S512x1 .f32) (harg7 : arg7.IsWhole) (arg8 : Memref sig .tc .vmem S1x512x512 .bf16) (harg8 : arg8.IsWhole) (arg9 : Memref sig .tc .vmem S8x128x512 .bf16) (harg9 : arg9.IsWhole) (arg10 : Memref sig .tc .vmem S8x1x512 .f32) (harg10 : arg10.IsWhole) (arg11 : Memref sig .tc .vmem S8x72x512 .f32) (harg11 : arg11.IsWhole) (arg12 : Memref sig .tc .vmem S2x256x512 .f32) (harg12 : arg12.IsWhole) (arg13 : Memref sig .tc .vmem S2x1x512 .f32) (harg13 : arg13.IsWhole)
    (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) :
    Σ' (C : Prop) (VA : Vec F S1x512x512 .bf16), { VB : Vec F S1x512x512 .bf16 // ∀ (E : Set ℕ) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)) : sProp 𝕄)
      ⊢ wp frame (wpE (defs₀ (F := F)) Variants.none (c : Thread nD τ) none) E (cc0_attention i arg2 harg2 arg3 harg3 arg4 harg4 arg5 harg5 arg6 harg6 arg7 harg7 arg8 harg8 arg9 harg9 arg10 harg10 arg11 harg11 arg12 harg12 arg13 harg13)
        (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg9.view.loc (c : Thread nD τ) ↦[arg9.view.set]{fullShare} f)) ∗ (∃ f, (arg10.view.loc (c : Thread nD τ) ↦[arg10.view.set]{fullShare} f)) ∗ (∃ f, (arg11.view.loc (c : Thread nD τ) ↦[arg11.view.set]{fullShare} f)) ∗ (∃ f, (arg12.view.loc (c : Thread nD τ) ↦[arg12.view.set]{fullShare} f)) ∗ (∃ f, (arg13.view.loc (c : Thread nD τ) ↦[arg13.view.set]{fullShare} f)) ∗ (∃ v, ⌜(C ∧ v = VA) ∨ (¬ C ∧ v = VB)⌝ ∗ (arg8.view.loc (c : Thread nD τ) ↦[arg8.view.set]{fullShare} arg8.view.writes (Elt F) f8 [⟨r0_out, v⟩])))) } := by
  apply PSigma.mk
  apply PSigma.mk
  apply Subtype.mk
  intro E f8 f9 f10 f11 f12 f13
  · skip
    simp only [cc0_attention_eq_skeleton]; unfold cc0_attention_skel
    iintro ⟨H2, H3, H4, H5, H6, H7, H8, H9, H10, H11, H12, H13⟩
    sl_exec
    split
    rename_i hc
    sl_exec
    sl_step
    isplitl [H2]; · iexact H2
    isplitl [H3]; · iexact H3
    isplitl [H4]; · iexact H4
    isplitl [H5]; · iexact H5
    isplitl [H6]; · iexact H6
    isplitl [H7]; · iexact H7
    isplitl [H9]; · iexists _; iexact H9
    isplitl [H10]; · iexists _; iexact H10
    isplitl [H11]; · iexists _; iexact H11
    isplitl [H12]; · iexists _; iexact H12
    isplitl [H13]; · iexists _; iexact H13
    iexists _
    isplitr
    swap
    iexact H8
    ipureintro
    exact Or.inl ⟨hc, rfl⟩
    case isFalse hc =>
      sl_exec
      sl_step
      isplitl [H2]; · iexact H2
      isplitl [H3]; · iexact H3
      isplitl [H4]; · iexact H4
      isplitl [H5]; · iexact H5
      isplitl [H6]; · iexact H6
      isplitl [H7]; · iexact H7
      isplitl [H9]; · iexists _; iexact H9
      isplitl [H10]; · iexists _; iexact H10
      isplitl [H11]; · iexists _; iexact H11
      isplitl [H12]; · iexists _; iexact H12
      isplitl [H13]; · iexists _; iexact H13
      iexists _
      isplitr
      swap
      iexact H8
      ipureintro
      exact Or.inr ⟨hc, rfl⟩

end Cert.AttnIdeal.Body

end
-- ==== Proof.AttnIdealFrame.lean ====
module

public import proofs.«01_k».proof.Proof.AttnIdealBody

@[expose] public section

set_option maxRecDepth 65536

noncomputable section

/-! The attention call's launch: what the body leaves in the result's block at each grid point, read off the body's run,
    the pipeline's proof data, and the frame. -/

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's run at point `t` on blocks `x0 … x5`. -/
abbrev runAt (c : Dev nD) (t : Fin cfg0.N) (x0 : Vec F S1x512x512 .bf16) (x1 : Vec F S1x8192x128 .bf16) (x2 : Vec F S1x32x128x256 .bf16) (x3 : Vec F S16x128 .bf16) (x4 : Vec F S128x16 .bf16) (x5 : Vec F S512x1 .f32) :=
  bodyRun (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) ((hstage0_0 ((cfg0.slots t 0).cast nbuf0_0)).unread x0) ((hstage0_1 ((cfg0.slots t 1).cast nbuf0_1)).unread x1) ((hstage0_2 ((cfg0.slots t 2).cast nbuf0_2)).unread x2) ((hstage0_3 ((cfg0.slots t 3).cast nbuf0_3)).unread x3) ((hstage0_4 ((cfg0.slots t 4).cast nbuf0_4)).unread x4) ((hstage0_5 ((cfg0.slots t 5).cast nbuf0_5)).unread x5)

open Classical in
/-- The value the body stores at point `t`: of the two branches' values the one whose condition holds. -/
def stored (c : Dev nD) (t : Fin cfg0.N) (x0 : Vec F S1x512x512 .bf16) (x1 : Vec F S1x8192x128 .bf16) (x2 : Vec F S1x32x128x256 .bf16) (x3 : Vec F S16x128 .bf16) (x4 : Vec F S128x16 .bf16) (x5 : Vec F S512x1 .f32) : Vec F S1x512x512 .bf16 :=
  if (runAt c t x0 x1 x2 x3 x4 x5).1 then (runAt c t x0 x1 x2 x3 x4 x5).2.1 else (runAt c t x0 x1 x2 x3 x4 x5).2.2.1

/-- The result's block after the body. -/
def outBlk (c : Dev nD) (t : Fin cfg0.N) (x0 : Vec F S1x512x512 .bf16) (x1 : Vec F S1x8192x128 .bf16) (x2 : Vec F S1x32x128x256 .bf16) (x3 : Vec F S16x128 .bf16) (x4 : Vec F S128x16 .bf16) (x5 : Vec F S512x1 .f32) : Vec F S1x512x512 .bf16 :=
  View.canon [⟨r0_out, stored c t x0 x1 x2 x3 x4 x5⟩]

theorem cover_out (p : Vec F S1x512x512 .bf16) (y : S1x512x512.Idx) :
    ∃ pc ∈ ([⟨r0_out, p⟩] : List (View.Piece (Elt F) S1x512x512 .bf16)), y ∈ pc.1.set :=
  View.cover_of_tiled [⟨r0_out, p⟩] S1x512x512.size (by rfl) y

abbrev scM0 : Memref sig .tc .vmem S8x128x512 .bf16 := Memref.whole cc0_scratch0
abbrev scM1 : Memref sig .tc .vmem S8x1x512 .f32 := Memref.whole cc0_scratch1
abbrev scM2 : Memref sig .tc .vmem S8x72x512 .f32 := Memref.whole cc0_scratch2
abbrev scM3 : Memref sig .tc .vmem S2x256x512 .f32 := Memref.whole cc0_scratch3
abbrev scM4 : Memref sig .tc .vmem S2x1x512 .f32 := Memref.whole cc0_scratch4

/-- The invariant between points, the scratch buffers as memrefs at some contents. -/
theorem inv_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) ∗ (∃ r, prngReg c r)) := by
  unfold Pipeline.ΦA; rw [scopedRest0_eq]; simp only [scM0, scM1, scM2, scM3, scM4, owns_whole]; try rfl

set_option maxHeartbeats 1000000 in
/-- The body's triple at point `t`: on the input blocks, the result's buffer and the scratch at anything, it hands back
    the inputs as they were and the result's block at `outBlk`. -/
theorem sound_kernel (c : Dev nD) (t : Fin cfg0.N) (x0 : Vec F S1x512x512 .bf16) (x1 : Vec F S1x8192x128 .bf16) (x2 : Vec F S1x32x128x256 .bf16) (x3 : Vec F S16x128 .bf16) (x4 : Vec F S128x16 .bf16) (x5 : Vec F S512x1 .f32) (K : PUnit → sProp 𝕄) :
    iprop(owns (c : Thread nD τ) (st0_0 t) fullShare x0 ∗ owns (c : Thread nD τ) (st0_1 t) fullShare x1 ∗ owns (c : Thread nD τ) (st0_2 t) fullShare x2 ∗ owns (c : Thread nD τ) (st0_3 t) fullShare x3 ∗ owns (c : Thread nD τ) (st0_4 t) fullShare x4 ∗ owns (c : Thread nD τ) (st0_5 t) fullShare x5 ∗ (∃ d, owns (c : Thread nD τ) (st0_6 t) fullShare d)
        ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)
        ∗ (iprop(owns (c : Thread nD τ) (st0_0 t) fullShare x0 ∗ owns (c : Thread nD τ) (st0_1 t) fullShare x1 ∗ owns (c : Thread nD τ) (st0_2 t) fullShare x2 ∗ owns (c : Thread nD τ) (st0_3 t) fullShare x3 ∗ owns (c : Thread nD τ) (st0_4 t) fullShare x4 ∗ owns (c : Thread nD τ) (st0_5 t) fullShare x5 ∗ owns (c : Thread nD τ) (st0_6 t) fullShare (outBlk c t x0 x1 x2 x3 x4 x5)
          ∗ (∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d)) -∗ K ⟨⟩))
      ⊢ wp frame (wpE (defs₀ (F := F)) Variants.none c none) Set.univ (bodyAt0 t) K := by
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%g0, %e0', -, S0⟩, ⟨%g1, %e1', -, S1⟩, ⟨%g2, %e2', -, S2⟩, ⟨%g3, %e3', -, S3⟩, ⟨%g4, %e4', -, S4⟩, Hk⟩
  obtain rfl := (hstage0_0 ((cfg0.slots t 0).cast nbuf0_0)).eq_unread hf0
  obtain rfl := (hstage0_1 ((cfg0.slots t 1).cast nbuf0_1)).eq_unread hf1
  obtain rfl := (hstage0_2 ((cfg0.slots t 2).cast nbuf0_2)).eq_unread hf2
  obtain rfl := (hstage0_3 ((cfg0.slots t 3).cast nbuf0_3)).eq_unread hf3
  obtain rfl := (hstage0_4 ((cfg0.slots t 4).cast nbuf0_4)).eq_unread hf4
  obtain rfl := (hstage0_5 ((cfg0.slots t 5).cast nbuf0_5)).eq_unread hf5
  iapply (wp_wand_r Idealize.ShloMosaic.frame (wpE (defs₀ (F := F)) Variants.none (c : Thread nD τ) none) Set.univ)
  isplitl [H0 H1 H2 H3 H4 H5 H6 S0 S1 S2 S3 S4]
  · iapply ((runAt c t x0 x1 x2 x3 x4 x5).2.2.2 Set.univ f6 e0' e1' e2' e3' e4')
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    iexact S4
  iintro %_u ⟨H0, H1, H2, H3, H4, H5, ⟨%s0, S0⟩, ⟨%s1, S1⟩, ⟨%s2, S2⟩, ⟨%s3, S3⟩, ⟨%s4, S4⟩, ⟨%v, %hv, H6⟩⟩
  have hv' : v = stored c t x0 x1 x2 x3 x4 x5 := by
    unfold stored
    rcases hv with ⟨hc, h⟩ | ⟨hc, h⟩
    · rw [if_pos hc]; exact h
    · rw [if_neg hc]; exact h
  subst hv'
  iapply Hk
  isplitl [H0]
  · iexists _; isplitr; swap; · iexact H0
    ipureintro; exact Memref.IsWhole.read_unread _ _
  isplitl [H1]
  · iexists _; isplitr; swap; · iexact H1
    ipureintro; exact Memref.IsWhole.read_unread _ _
  isplitl [H2]
  · iexists _; isplitr; swap; · iexact H2
    ipureintro; exact Memref.IsWhole.read_unread _ _
  isplitl [H3]
  · iexists _; isplitr; swap; · iexact H3
    ipureintro; exact Memref.IsWhole.read_unread _ _
  isplitl [H4]
  · iexists _; isplitr; swap; · iexact H4
    ipureintro; exact Memref.IsWhole.read_unread _ _
  isplitl [H5]
  · iexists _; isplitr; swap; · iexact H5
    ipureintro; exact Memref.IsWhole.read_unread _ _
  isplitl [H6]
  · iexists _; isplitr; swap; · iexact H6
    ipureintro
    exact View.read_writes_eq_canon _ _ _ (cover_out _)
  isplitl [S0]
  · iexists _; iexists s0; isplitr; swap; · iexact S0
    ipureintro; rfl
  isplitl [S1]
  · iexists _; iexists s1; isplitr; swap; · iexact S1
    ipureintro; rfl
  isplitl [S2]
  · iexists _; iexists s2; isplitr; swap; · iexact S2
    ipureintro; rfl
  isplitl [S3]
  · iexists _; iexists s3; isplitr; swap; · iexact S3
    ipureintro; rfl
  iexists _; iexists s4; isplitr; swap; · iexact S4
  ipureintro; rfl

variable (m : (ℓ : Loc nD τ sig) → Buf (Elt F) ℓ) (ρ : Dev nD → PrngReg)

/-- The proof data: the arrays as the region finds them; after the body each input's block and the result's at `outBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk c t (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outBlk c t (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is handed at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))

/-- and what it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))

set_option maxHeartbeats 1000000 in
/-- The body at a point, from the invariant and the windows' buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = Pipeline.ΦA spec0 c from rfl, inv_eq]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩⟩
  iapply (sound_kernel c t (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [S0]; · iexact S0
  isplitl [S1]; · iexact S1
  isplitl [S2]; · iexact S2
  isplitl [S3]; · iexact S3
  isplitl [S4]; · iexact S4
  iintro ⟨H0, H1, H2, H3, H4, H5, H6, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a point is the body as the pipeline calls it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: every execution ends, the arrays at what the proof data states, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the argument arrays end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_with_sems (frame_of m ρ (dats m) (A_eq m)) (run_main_quiescent m ρ)

end Cert.AttnIdeal.Body

end
-- ==== Proof.AttnTrip.lean ====
module

public import proofs.«01_k».proof.Proof.Gen.AttnIdeal.Loops
public import Idealize.ShloMosaic.Lib.Pipeline.ReadBack

@[expose] public section

set_option maxRecDepth 65536

noncomputable section

namespace Cert.AttnIdeal.Trip

open Cert.AttnIdeal Cert.AttnIdeal.Gen
open Idealize.ShloMosaic Idealize.ShloMosaic.TcCoe Idealize.ShloMosaic.Tactic

section
variable {sig : RefSig} {κ : Kind} {sp : Space} {s : Shape} {e : EltTy} {Val : EltTy → Type}

/-- A load of the rectangle written last gives what was written. -/
theorem rd_hit (v : View sig κ sp s e) (f : BufTy.Contents Val v.ty) (r : Rect s) (w : r.shape.Idx → Val e) (L : List (View.Piece Val s e)) :
    v.readAt Val r.toLoadRect (v.writes Val f (⟨r, w⟩ :: L)) = w := by
  funext j
  rw [View.readAt_apply]
  exact View.read_writes_cons_emb v f r w L j

/-- A load that misses the rectangle written last gives what it gave before that write. -/
theorem rd_skip (v : View sig κ sp s e) (f : BufTy.Contents Val v.ty) (r : Rect s) (w : r.shape.Idx → Val e) (L : List (View.Piece Val s e)) (B : LoadRect s)
    (h : LoadRect.disj r B = true) : v.readAt Val B (v.writes Val f (⟨r, w⟩ :: L)) = v.readAt Val B (v.writes Val f L) := by
  funext j
  have hy : B.idx j ∉ Finset.univ.map r.emb := by rw [Rect.map_emb_univ]; exact LoadRect.idx_not_mem_of_disj h j
  rw [View.readAt_apply, View.readAt_apply, View.writes_cons, View.read_slice_write_of_not_mem r _ _ _ hy]
end

variable {F : FTy → Type} [FloatOps F]

/-- A head's rectangle in the running maxima. -/
abbrev rM (h : Fin 8) : Rect S8x1x512 := Rect.unit (s := S8x1x512) ![h.val, 0, 0] S1x1x512.size (by fin_cases h <;> decide)
/-- A head's rectangle in the accumulators. -/
abbrev rA (h : Fin 8) : Rect S8x72x512 := Rect.unit (s := S8x72x512) ![h.val, 0, 0] S1x72x512.size (by fin_cases h <;> decide)
/-- A head's rectangle in the widened queries. -/
abbrev rQ (h : Fin 8) : Rect S8x128x512 := Rect.unit (s := S8x128x512) ![h.val, 0, 0] S1x128x512.size (by fin_cases h <;> decide)
/-- The two heads' rectangles in the carried scores, -/
abbrev rS (n : Fin 2) : Rect S2x256x512 := Rect.unit (s := S2x256x512) ![n.val, 0, 0] S1x256x512.size (by fin_cases n <;> decide)
/-- and in their carried maxima. -/
abbrev rX (n : Fin 2) : Rect S2x1x512 := Rect.unit (s := S2x1x512) ![n.val, 0, 0] S1x1x512.size (by fin_cases n <;> decide)

/-- A head's values with the row of ones under them, from the values' chunk. -/
def vals (h : Fin 8) (v : Vec F S1x1x128x256 .bf16) : FVec F S80x256 .bf16 := if h.val < 4 then k0_pay2 v else k0_pay5 v

variable (𝒱 : Variants) (c : Dev nD) (bd : Option 𝒱.V) (i : grid0.Coords) (arg2 : Memref sig .tc .vmem S1x512x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S16x128 .bf16) (harg5 : arg5.IsWhole) (arg6 : Memref sig .tc .vmem S128x16 .bf16) (harg6 : arg6.IsWhole) (arg7 : Memref sig .tc .vmem S512x1 .f32) (harg7 : arg7.IsWhole) (arg8 : Memref sig .tc .vmem S1x512x512 .bf16) (harg8 : arg8.IsWhole) (arg9 : Memref sig .tc .vmem S8x128x512 .bf16) (harg9 : arg9.IsWhole) (arg10 : Memref sig .tc .vmem S8x1x512 .f32) (harg10 : arg10.IsWhole) (arg11 : Memref sig .tc .vmem S8x72x512 .f32) (harg11 : arg11.IsWhole) (arg12 : Memref sig .tc .vmem S2x256x512 .f32) (harg12 : arg12.IsWhole) (arg13 : Memref sig .tc .vmem S2x1x512 .f32) (harg13 : arg13.IsWhole) (v87 : FVec F S80x16 .bf16) (v183 : FVec F S16x512 .bf16)
    (v215 : FVec F S72x512 .f32) (X_arg3 : BufTy.Contents (Elt F) arg3.view.ty) (X_arg4 : BufTy.Contents (Elt F) arg4.view.ty) (X_arg9 : BufTy.Contents (Elt F) arg9.view.ty) (k : Fin k0_t1_loop.trips)

/-- The scores of a head against the chunk `j` of trip `k`: those of chunk 0's first two heads were carried in. -/
def sc (f12 : BufTy.Contents (Elt F) arg12.view.ty) (h : Fin 8) (j : Fin 4) : FVec F S256x512 .f32 :=
  if j = 0 then
    match h with
    | 0 => shapeCast S256x512 (View.readAt (Elt F) arg12.view (rS 0).toLoadRect f12) shapeCasts_S1x256x512_S256x512
    | 1 => shapeCast S256x512 (View.readAt (Elt F) arg12.view (rS 1).toLoadRect f12) shapeCasts_S1x256x512_S256x512
    | h => k0_pay74 (k0_pay73 (View.readAt (Elt F) arg3.view (Rect.unit (s := S1x8192x128) (k0_off2 k (BitVec.ofNat 32 j.val)) S1x256x128.size (k0_off2_inb k j)).toLoadRect X_arg3)) (View.readAt (Elt F) arg9.view (rQ h).toLoadRect X_arg9)
  else k0_pay74 (k0_pay73 (View.readAt (Elt F) arg3.view (Rect.unit (s := S1x8192x128) (k0_off2 k (BitVec.ofNat 32 j.val)) S1x256x128.size (k0_off2_inb k j)).toLoadRect X_arg3)) (View.readAt (Elt F) arg9.view (rQ h).toLoadRect X_arg9)

/-- Their largest over the chunk's keys. -/
def sm (f13 : BufTy.Contents (Elt F) arg13.view.ty) (h : Fin 8) (j : Fin 4) : FVec F S1x512 .f32 :=
  if j = 0 then
    match h with
    | 0 => shapeCast S1x512 (View.readAt (Elt F) arg13.view (rX 0).toLoadRect f13) shapeCasts_S1x1x512_S1x512
    | 1 => shapeCast S1x512 (View.readAt (Elt F) arg13.view (rX 1).toLoadRect f13) shapeCasts_S1x1x512_S1x512
    | h => k0_pay75 (k0_pay73 (View.readAt (Elt F) arg3.view (Rect.unit (s := S1x8192x128) (k0_off2 k (BitVec.ofNat 32 j.val)) S1x256x128.size (k0_off2_inb k j)).toLoadRect X_arg3)) (View.readAt (Elt F) arg9.view (rQ h).toLoadRect X_arg9)
  else k0_pay75 (k0_pay73 (View.readAt (Elt F) arg3.view (Rect.unit (s := S1x8192x128) (k0_off2 k (BitVec.ofNat 32 j.val)) S1x256x128.size (k0_off2_inb k j)).toLoadRect X_arg3)) (View.readAt (Elt F) arg9.view (rQ h).toLoadRect X_arg9)

/-- The values' chunk `j` of trip `k`. -/
def vc (j : Fin 4) : Vec F S1x1x128x256 .bf16 :=
  View.readAt (Elt F) arg4.view (Rect.unit (s := S1x32x128x256) (k0_off1 k (BitVec.ofNat 32 j.val)) S1x1x128x256.size (k0_off1_inb k j)).toLoadRect X_arg4

/-- The running maximum after a chunk, the accumulator after a chunk: equal parts give equal results. -/
theorem acc_congr {V V' : FVec F S80x256 .bf16} {s s' : FVec F S256x512 .f32} {x x' : FVec F S1x512 .f32} {m m' : Vec F S1x1x512 .f32} {a a' : Vec F S1x72x512 .f32}
    (hV : V = V') (hs : s = s') (hx : x = x') (hm : m = m') (ha : a = a') : k0_pay94 V s x m a = k0_pay94 V' s' x' m' a' := by
  rw [hV, hs, hx, hm, ha]

/-- A head's running maximum after the chunks before `n` of a trip, from the maximum before the trip. -/
def mAt (f13 : BufTy.Contents (Elt F) arg13.view.ty) (h : Fin 8) (m : Vec F S1x1x512 .f32) : ℕ → Vec F S1x1x512 .f32
  | 0 => m
  | n + 1 => k0_pay95 (sm arg3 arg9 arg13 X_arg3 X_arg9 k f13 h (Fin.ofNat 4 n)) (mAt f13 h m n)

/-- Its accumulator likewise. -/
def aAt (f12 : BufTy.Contents (Elt F) arg12.view.ty) (f13 : BufTy.Contents (Elt F) arg13.view.ty) (h : Fin 8) (m : Vec F S1x1x512 .f32) (a : Vec F S1x72x512 .f32) : ℕ → Vec F S1x72x512 .f32
  | 0 => a
  | n + 1 => k0_pay94 (vals h (vc arg4 X_arg4 k (Fin.ofNat 4 n))) (sc arg3 arg9 arg12 X_arg3 X_arg9 k f12 h (Fin.ofNat 4 n)) (sm arg3 arg9 arg13 X_arg3 X_arg9 k f13 h (Fin.ofNat 4 n))
      (mAt arg3 arg9 arg13 X_arg3 X_arg9 k f13 h m n) (aAt f12 f13 h m a n)

end Cert.AttnIdeal.Trip
-- ==== Proof.AttnTripM.lean ====
module

public import proofs.«01_k».proof.Proof.AttnTrip

@[expose] public section

set_option maxRecDepth 65536

noncomputable section

namespace Cert.AttnIdeal.Trip

open Cert.AttnIdeal Cert.AttnIdeal.Gen
open Idealize.ShloMosaic Idealize.ShloMosaic.TcCoe Idealize.ShloMosaic.Tactic

variable {F : FTy → Type} [FloatOps F]

variable (𝒱 : Variants) (c : Dev nD) (bd : Option 𝒱.V) (i : grid0.Coords) (arg2 : Memref sig .tc .vmem S1x512x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S16x128 .bf16) (harg5 : arg5.IsWhole) (arg6 : Memref sig .tc .vmem S128x16 .bf16) (harg6 : arg6.IsWhole) (arg7 : Memref sig .tc .vmem S512x1 .f32) (harg7 : arg7.IsWhole) (arg8 : Memref sig .tc .vmem S1x512x512 .bf16) (harg8 : arg8.IsWhole) (arg9 : Memref sig .tc .vmem S8x128x512 .bf16) (harg9 : arg9.IsWhole) (arg10 : Memref sig .tc .vmem S8x1x512 .f32) (harg10 : arg10.IsWhole) (arg11 : Memref sig .tc .vmem S8x72x512 .f32) (harg11 : arg11.IsWhole) (arg12 : Memref sig .tc .vmem S2x256x512 .f32) (harg12 : arg12.IsWhole) (arg13 : Memref sig .tc .vmem S2x1x512 .f32) (harg13 : arg13.IsWhole) (v87 : FVec F S80x16 .bf16) (v183 : FVec F S16x512 .bf16)
    (v215 : FVec F S72x512 .f32) (X_arg3 : BufTy.Contents (Elt F) arg3.view.ty) (X_arg4 : BufTy.Contents (Elt F) arg4.view.ty) (X_arg9 : BufTy.Contents (Elt F) arg9.view.ty) (k : Fin k0_t1_loop.trips)

set_option maxHeartbeats 4000000 in
theorem trip_m (acc : FVec F S1x512 .f32) (f10 : BufTy.Contents (Elt F) arg10.view.ty) (f11 : BufTy.Contents (Elt F) arg11.view.ty) (f12 : BufTy.Contents (Elt F) arg12.view.ty) (f13 : BufTy.Contents (Elt F) arg13.view.ty) (h : Fin 8) :
    View.readAt (Elt F) arg10.view (rM h).toLoadRect (arg10.view.writes (Elt F) f10 ((trip_k0_t1 (F := F) 𝒱 c bd i arg2 harg2 arg3 harg3 arg4 harg4 arg5 harg5 arg6 harg6 arg7 harg7 arg8 harg8 arg9 harg9 arg10 harg10 arg11 harg11 arg12 harg12 arg13 harg13 v87 v183 v215 X_arg3 X_arg4 X_arg9 k).2.1 acc f10 f11 f12 f13))
      = mAt arg3 arg9 arg13 X_arg3 X_arg9 k f13 h (View.readAt (Elt F) arg10.view (rM h).toLoadRect f10) 4 := by
  unfold trip_k0_t1
  fin_cases h <;>
  · iterate 4
      repeat (refine Eq.trans (rd_skip _ _ _ _ _ _ ?_) ?_; · decide)
      refine Eq.trans (rd_hit _ _ _ _ _) ?_
      refine congrArg₂ k0_pay95 rfl ?_
    rfl

end Cert.AttnIdeal.Trip
-- ==== Proof.AttnTripA.lean ====
module

public import proofs.«01_k».proof.Proof.AttnTrip

@[expose] public section

set_option maxRecDepth 65536

noncomputable section

namespace Cert.AttnIdeal.Trip

open Cert.AttnIdeal Cert.AttnIdeal.Gen
open Idealize.ShloMosaic Idealize.ShloMosaic.TcCoe Idealize.ShloMosaic.Tactic

variable {F : FTy → Type} [FloatOps F]

variable (𝒱 : Variants) (c : Dev nD) (bd : Option 𝒱.V) (i : grid0.Coords) (arg2 : Memref sig .tc .vmem S1x512x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S16x128 .bf16) (harg5 : arg5.IsWhole) (arg6 : Memref sig .tc .vmem S128x16 .bf16) (harg6 : arg6.IsWhole) (arg7 : Memref sig .tc .vmem S512x1 .f32) (harg7 : arg7.IsWhole) (arg8 : Memref sig .tc .vmem S1x512x512 .bf16) (harg8 : arg8.IsWhole) (arg9 : Memref sig .tc .vmem S8x128x512 .bf16) (harg9 : arg9.IsWhole) (arg10 : Memref sig .tc .vmem S8x1x512 .f32) (harg10 : arg10.IsWhole) (arg11 : Memref sig .tc .vmem S8x72x512 .f32) (harg11 : arg11.IsWhole) (arg12 : Memref sig .tc .vmem S2x256x512 .f32) (harg12 : arg12.IsWhole) (arg13 : Memref sig .tc .vmem S2x1x512 .f32) (harg13 : arg13.IsWhole) (v87 : FVec F S80x16 .bf16) (v183 : FVec F S16x512 .bf16)
    (v215 : FVec F S72x512 .f32) (X_arg3 : BufTy.Contents (Elt F) arg3.view.ty) (X_arg4 : BufTy.Contents (Elt F) arg4.view.ty) (X_arg9 : BufTy.Contents (Elt F) arg9.view.ty) (k : Fin k0_t1_loop.trips)

/-- The last unit's accumulator, which the body puts together from parts. -/
theorem pay407_eq (V : FVec F S80x256 .bf16) (s : FVec F S256x512 .f32) (x : FVec F S1x512 .f32) (m : Vec F S1x1x512 .f32) (a : Vec F S1x72x512 .f32) :
    k0_pay407 (k0_pay258 m) (k0_pay259 V s m) (k0_pay260 x m) (k0_pay261 a) = k0_pay94 V s x m a := rfl

set_option maxHeartbeats 1000000 in
/-- A head's accumulator after a trip of the fast loop. -/
theorem trip_a (acc : FVec F S1x512 .f32) (f10 : BufTy.Contents (Elt F) arg10.view.ty) (f11 : BufTy.Contents (Elt F) arg11.view.ty) (f12 : BufTy.Contents (Elt F) arg12.view.ty) (f13 : BufTy.Contents (Elt F) arg13.view.ty) (h : Fin 8) :
    View.readAt (Elt F) arg11.view (rA h).toLoadRect (arg11.view.writes (Elt F) f11 ((trip_k0_t1 (F := F) 𝒱 c bd i arg2 harg2 arg3 harg3 arg4 harg4 arg5 harg5 arg6 harg6 arg7 harg7 arg8 harg8 arg9 harg9 arg10 harg10 arg11 harg11 arg12 harg12 arg13 harg13 v87 v183 v215 X_arg3 X_arg4 X_arg9 k).2.2.1 acc f10 f11 f12 f13))
      = aAt arg3 arg4 arg9 arg12 arg13 X_arg3 X_arg4 X_arg9 k f12 f13 h (View.readAt (Elt F) arg10.view (rM h).toLoadRect f10) (View.readAt (Elt F) arg11.view (rA h).toLoadRect f11) 4 := by
  unfold trip_k0_t1
  fin_cases h
  all_goals repeat (refine Eq.trans (rd_skip _ _ _ _ _ _ ?_) ?_; · decide)
  all_goals refine Eq.trans (rd_hit _ _ _ _ _) ?_
  on_goal 8 => refine Eq.trans (pay407_eq _ _ _ _ _) ?_
  all_goals
    refine acc_congr rfl rfl rfl ?_ ?_
    · iterate 3
        repeat (refine Eq.trans (rd_skip _ _ _ _ _ _ ?_) ?_; · decide)
        refine Eq.trans (rd_hit _ _ _ _ _) ?_
        refine congrArg₂ k0_pay95 rfl ?_
      rfl
    repeat (refine Eq.trans (rd_skip _ _ _ _ _ _ ?_) ?_; · decide)
    refine Eq.trans (rd_hit _ _ _ _ _) ?_
    refine acc_congr rfl rfl rfl ?_ ?_
    · iterate 2
        repeat (refine Eq.trans (rd_skip _ _ _ _ _ _ ?_) ?_; · decide)
        refine Eq.trans (rd_hit _ _ _ _ _) ?_
        refine congrArg₂ k0_pay95 rfl ?_
      rfl
    repeat (refine Eq.trans (rd_skip _ _ _ _ _ _ ?_) ?_; · decide)
    refine Eq.trans (rd_hit _ _ _ _ _) ?_
    refine acc_congr rfl rfl rfl ?_ ?_
    · repeat (refine Eq.trans (rd_skip _ _ _ _ _ _ ?_) ?_; · decide)
      refine Eq.trans (rd_hit _ _ _ _ _) ?_
      refine congrArg₂ k0_pay95 rfl ?_
      rfl
    repeat (refine Eq.trans (rd_skip _ _ _ _ _ _ ?_) ?_; · decide)
    refine Eq.trans (rd_hit _ _ _ _ _) ?_
    exact acc_congr rfl rfl rfl rfl rfl

end Cert.AttnIdeal.Trip
-- ==== Proof.AttnTripX.lean ====
/- A trip of the attention kernel's exact loop, read back head by head. -/
module

public import proofs.«01_k».proof.Proof.AttnTrip

@[expose] public section

set_option maxRecDepth 65536

noncomputable section

namespace Cert.AttnIdeal.Trip

open Cert.AttnIdeal Cert.AttnIdeal.Gen
open Idealize.ShloMosaic Idealize.ShloMosaic.TcCoe Idealize.ShloMosaic.Tactic

variable {F : FTy → Type} [FloatOps F]

variable (𝒱 : Variants) (c : Dev nD) (bd : Option 𝒱.V) (i : grid0.Coords) (arg2 : Memref sig .tc .vmem S1x512x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S16x128 .bf16) (harg5 : arg5.IsWhole) (arg6 : Memref sig .tc .vmem S128x16 .bf16) (harg6 : arg6.IsWhole) (arg7 : Memref sig .tc .vmem S512x1 .f32) (harg7 : arg7.IsWhole) (arg8 : Memref sig .tc .vmem S1x512x512 .bf16) (harg8 : arg8.IsWhole) (arg9 : Memref sig .tc .vmem S8x128x512 .bf16) (harg9 : arg9.IsWhole) (arg10 : Memref sig .tc .vmem S8x1x512 .f32) (harg10 : arg10.IsWhole) (arg11 : Memref sig .tc .vmem S8x72x512 .f32) (harg11 : arg11.IsWhole) (arg12 : Memref sig .tc .vmem S2x256x512 .f32) (harg12 : arg12.IsWhole) (arg13 : Memref sig .tc .vmem S2x1x512 .f32) (harg13 : arg13.IsWhole) (v87 : FVec F S80x16 .bf16) (v183 : FVec F S16x512 .bf16) (v215 : FVec F S72x512 .f32) (X_arg3 : BufTy.Contents (Elt F) arg3.view.ty) (X_arg4 : BufTy.Contents (Elt F) arg4.view.ty) (X_arg9 : BufTy.Contents (Elt F) arg9.view.ty) (k : Fin k0_t2_loop.trips)

/-- The trip's chunk of keys, -/
abbrev kx : Vec F S1x256x128 .bf16 :=
  View.readAt (Elt F) arg3.view (Rect.unit (s := S1x8192x128) (k0_off5 k) S1x256x128.size (k0_off5_inb k)).toLoadRect X_arg3
/-- and of values. -/
abbrev vx : Vec F S1x1x128x256 .bf16 :=
  View.readAt (Elt F) arg4.view (Rect.unit (s := S1x32x128x256) (k0_off4 k) S1x1x128x256.size (k0_off4_inb k)).toLoadRect X_arg4

/-- Equal parts give equal accumulators. -/
theorem acc2_congr {V V' : FVec F S80x256 .bf16} {s s' : Vec F S1x256x128 .bf16} {x x' : Vec F S1x128x512 .bf16} {m m' : Vec F S1x1x512 .f32} {a a' : Vec F S1x72x512 .f32}
    (hV : V = V') (hs : s = s') (hx : x = x') (hm : m = m') (ha : a = a') : k0_pay290 V s x m a = k0_pay290 V' s' x' m' a' := by
  rw [hV, hs, hx, hm, ha]

set_option maxHeartbeats 1000000 in
/-- A head's running maximum after a trip of the exact loop. -/
theorem trip2_m (f10 : BufTy.Contents (Elt F) arg10.view.ty) (f11 : BufTy.Contents (Elt F) arg11.view.ty) (h : Fin 8) :
    View.readAt (Elt F) arg10.view (rM h).toLoadRect (arg10.view.writes (Elt F) f10 ((trip_k0_t2 (F := F) 𝒱 c bd i arg2 harg2 arg3 harg3 arg4 harg4 arg5 harg5 arg6 harg6 arg7 harg7 arg8 harg8 arg9 harg9 arg10 harg10 arg11 harg11 arg12 harg12 arg13 harg13 v87 v183 v215 X_arg3 X_arg4 X_arg9 k).1 f10 f11))
      = k0_pay291 (kx arg3 X_arg3 k) (View.readAt (Elt F) arg9.view (rQ h).toLoadRect X_arg9) (View.readAt (Elt F) arg10.view (rM h).toLoadRect f10) := by
  unfold trip_k0_t2
  fin_cases h <;>
  · repeat (refine Eq.trans (rd_skip _ _ _ _ _ _ ?_) ?_; · decide)
    refine Eq.trans (rd_hit _ _ _ _ _) ?_
    rfl

set_option maxHeartbeats 1000000 in
/-- A head's accumulator after a trip of the exact loop. -/
theorem trip2_a (f10 : BufTy.Contents (Elt F) arg10.view.ty) (f11 : BufTy.Contents (Elt F) arg11.view.ty) (h : Fin 8) :
    View.readAt (Elt F) arg11.view (rA h).toLoadRect (arg11.view.writes (Elt F) f11 ((trip_k0_t2 (F := F) 𝒱 c bd i arg2 harg2 arg3 harg3 arg4 harg4 arg5 harg5 arg6 harg6 arg7 harg7 arg8 harg8 arg9 harg9 arg10 harg10 arg11 harg11 arg12 harg12 arg13 harg13 v87 v183 v215 X_arg3 X_arg4 X_arg9 k).2.1 f10 f11))
      = k0_pay290 (vals h (vx arg4 X_arg4 k)) (kx arg3 X_arg3 k) (View.readAt (Elt F) arg9.view (rQ h).toLoadRect X_arg9)
          (View.readAt (Elt F) arg10.view (rM h).toLoadRect f10) (View.readAt (Elt F) arg11.view (rA h).toLoadRect f11) := by
  unfold trip_k0_t2
  fin_cases h <;>
  · repeat (refine Eq.trans (rd_skip _ _ _ _ _ _ ?_) ?_; · decide)
    refine Eq.trans (rd_hit _ _ _ _ _) ?_
    rfl

end Cert.AttnIdeal.Trip
-- ==== Proof.AttnStep.lean ====
/- One step of the attention kernel's softmax over the extended reals: the payloads of the body read at an index, and what a
   chunk of keys adds to a head's running sums. A head's state stands for real sums scaled by a power of two. -/
module

public import proofs.«01_k».proof.Proof.Gen.AttnIdeal.Skeleton
public import Idealize.ShloMosaic.Lib.Pipeline.ValueKit

@[expose] public section

set_option maxRecDepth 16384

noncomputable section

open Idealize.ShloMosaic Idealize.ShloMosaic.TcCoe
open Cert.AttnIdeal Cert.AttnIdeal.Gen

namespace Cert.AttnIdeal.Step

/-- A sum of reals, among the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many reals, at least one, is a real. -/
theorem fold_max_real {n : ℕ} (hn : 0 < n) (f : Fin n → EReal) (g : Fin n → ℝ) (h : ∀ i, f i = (g i : EReal)) :
    ∃ M : ℝ, Finset.fold max (⊥ : EReal) f Finset.univ = (M : EReal) := by
  classical
  have key : ∀ s : Finset (Fin n), s.Nonempty → ∃ M : ℝ, Finset.fold max (⊥ : EReal) f s = (M : EReal) := by
    intro s hs
    induction hs using Finset.Nonempty.cons_induction with
    | singleton a => exact ⟨g a, by rw [Finset.fold_singleton, h a]; exact max_eq_left bot_le⟩
    | cons a s ha hs ih =>
      obtain ⟨M, hM⟩ := ih
      refine ⟨max (g a) M, ?_⟩
      rw [Finset.fold_cons, hM, h a]
      exact (EReal.coe_strictMono.monotone.map_max).symm
  exact key _ ⟨⟨0, hn⟩, Finset.mem_univ _⟩

/-- The kernel's starting value of a maximum. -/
theorem bot_word : Ideal.ofBits .f32 4286578688#32 = (⊥ : EReal) := by
  rfl

/-- The values of the first four heads with rows of ones under them, -/
theorem pay2_at (v : Vec Ideal S1x1x128x256 .bf16) (r : Fin 80) (t : Fin 256) :
    k0_pay2 v (ix2 r t) = if h : r.val < 64 then v (ix4 0 0 ⟨r, by omega⟩ t) else Ideal.ofBits .bf16 0x3F80#16 := by
  pointwise [k0_pay2]

/-- and of the last four. -/
theorem pay5_at (v : Vec Ideal S1x1x128x256 .bf16) (r : Fin 80) (t : Fin 256) :
    k0_pay5 v (ix2 r t) = if h : r.val < 64 then v (ix4 0 0 ⟨64 + r, by omega⟩ t) else Ideal.ofBits .bf16 0x3F80#16 := by
  pointwise [k0_pay5]

/-- The scores of a chunk of keys. -/
theorem pay74_at (kc : Vec Ideal S1x256x128 .bf16) (q : Vec Ideal S1x128x512 .bf16) (t : Fin 256) (j : Fin 512) :
    k0_pay74 (k0_pay73 kc) q (ix2 t j) = ∑ e : Fin 128, kc (ix3 0 t e) * q (ix3 0 e j) := by
  pointwise [k0_pay74, k0_pay73]

/-- Scores of real keys and queries are real. -/
theorem scores_real (kc : Vec Ideal S1x256x128 .bf16) (q : Vec Ideal S1x128x512 .bf16) (K : Fin 256 → Fin 128 → ℝ) (Q : Fin 128 → Fin 512 → ℝ)
    (hK : ∀ t e, kc (ix3 0 t e) = (K t e : EReal)) (hQ : ∀ e j, q (ix3 0 e j) = (Q e j : EReal)) (t : Fin 256) (j : Fin 512) :
    k0_pay74 (k0_pay73 kc) q (ix2 t j) = ((∑ e : Fin 128, K t e * Q e j : ℝ) : EReal) := by
  rw [pay74_at, coe_sum]
  refine Finset.sum_congr rfl fun e _ => ?_
  rw [hK, hQ, EReal.coe_mul]

/-- So is their largest. -/
theorem pay75_real (kc : Vec Ideal S1x256x128 .bf16) (q : Vec Ideal S1x128x512 .bf16) (K : Fin 256 → Fin 128 → ℝ) (Q : Fin 128 → Fin 512 → ℝ)
    (hK : ∀ t e, kc (ix3 0 t e) = (K t e : EReal)) (hQ : ∀ e j, q (ix3 0 e j) = (Q e j : EReal)) (j : Fin 512) :
    ∃ M : ℝ, k0_pay75 (k0_pay73 kc) q (ix2 0 j) = (M : EReal) := by
  have h : k0_pay75 (k0_pay73 kc) q (ix2 0 j)
      = Finset.fold max (Ideal.ofBits FTy.f32 4286578688#32) (fun t => k0_pay74 (k0_pay73 kc) q (ix2 t j)) Finset.univ := by
    pointwise [k0_pay75]
  rw [h, bot_word]
  exact fold_max_real (by decide) _ _ fun t => scores_real kc q K Q hK hQ t j

/-- The running maximum after a chunk. -/
theorem pay95_at (x : FVec Ideal S1x512 .f32) (m : Vec Ideal S1x1x512 .f32) (j : Fin 512) :
    k0_pay95 x m (ix3 0 0 j) = max (m (ix3 0 0 j)) (x (ix2 0 j)) := by
  pointwise [k0_pay95, k0_pay93, k0_pay92]

/-- The accumulator after a chunk: the chunk's weights are taken over the old maximum, then all is scaled to the new one. -/
theorem pay94_at (V : FVec Ideal S80x256 .bf16) (s : FVec Ideal S256x512 .f32) (x : FVec Ideal S1x512 .f32) (m : Vec Ideal S1x1x512 .f32)
    (a : Vec Ideal S1x72x512 .f32) (r : Fin 72) (j : Fin 512) :
    k0_pay94 V s x m a (ix3 0 r j) = (a (ix3 0 r j) + ∑ t : Fin 256, V (ix2 ⟨r, by omega⟩ t) * Ideal.exp2 (s (ix2 t j) - m (ix3 0 0 j)))
      * Ideal.exp2 (m (ix3 0 0 j) - max (m (ix3 0 0 j)) (x (ix2 0 j))) := by
  pointwise [k0_pay94, k0_pay93, k0_pay92]
  rfl

/-- A head's state stands for the real sums `A`: the maximum is some real `M`, the accumulator `A` times `2 ^ (-M)`. -/
def Good (m : Vec Ideal S1x1x512 .f32) (a : Vec Ideal S1x72x512 .f32) (A : Fin 72 → Fin 512 → ℝ) : Prop :=
  ∀ j : Fin 512, ∃ M : ℝ, m (ix3 0 0 j) = (M : EReal) ∧ ∀ r : Fin 72, a (ix3 0 r j) = (((2 : ℝ) ^ (-M) * A r j : ℝ) : EReal)

/-- What a chunk of keys adds to row `r` of the sums at query `j`. -/
def adds (W : Fin 80 → Fin 256 → ℝ) (S : Fin 256 → Fin 512 → ℝ) (r : Fin 72) (j : Fin 512) : ℝ :=
  ∑ t : Fin 256, W ⟨r, by omega⟩ t * (2 : ℝ) ^ S t j

/-- A power of two of a difference of reals. -/
theorem exp2_sub (a b : ℝ) : Ideal.exp2 ((a : EReal) - (b : EReal)) = (((2 : ℝ) ^ (a - b) : ℝ) : EReal) := by
  rw [← EReal.coe_sub]
  rfl

/-- The step over the old maximum keeps `Good`. -/
theorem Good.fast {m : Vec Ideal S1x1x512 .f32} {a : Vec Ideal S1x72x512 .f32} {A : Fin 72 → Fin 512 → ℝ} (hg : Good m a A)
    {V : FVec Ideal S80x256 .bf16} {s : FVec Ideal S256x512 .f32} {x : FVec Ideal S1x512 .f32} {W : Fin 80 → Fin 256 → ℝ} {S : Fin 256 → Fin 512 → ℝ}
    (hV : ∀ r t, V (ix2 r t) = (W r t : EReal)) (hs : ∀ t j, s (ix2 t j) = (S t j : EReal)) (hx : ∀ j, ∃ X : ℝ, x (ix2 0 j) = (X : EReal)) :
    Good (k0_pay95 x m) (k0_pay94 V s x m a) (fun r j => A r j + adds W S r j) := by
  intro j
  obtain ⟨M, hM, hA⟩ := hg j
  obtain ⟨X, hX⟩ := hx j
  have hmax : max (M : EReal) (X : EReal) = ((max M X : ℝ) : EReal) := (EReal.coe_strictMono.monotone.map_max).symm
  refine ⟨max M X, ?_, fun r => ?_⟩
  · rw [pay95_at, hM, hX, hmax]
  · rw [pay94_at, hM, hX, hA, hmax, exp2_sub]
    have hsum : (∑ t : Fin 256, V (ix2 ⟨r, by omega⟩ t) * Ideal.exp2 (s (ix2 t j) - (M : EReal)) : EReal)
        = ((∑ t : Fin 256, W ⟨r, by omega⟩ t * (2 : ℝ) ^ (S t j - M) : ℝ) : EReal) := by
      rw [coe_sum]
      refine Finset.sum_congr rfl fun t _ => ?_
      rw [hV, hs, exp2_sub, EReal.coe_mul]
    refine (congrArg (fun z : EReal => ((((2 : ℝ) ^ (-M) * A r j : ℝ) : EReal) + z) * (((2 : ℝ) ^ (M - max M X) : ℝ) : EReal)) hsum).trans ?_
    rw [← EReal.coe_add, ← EReal.coe_mul]
    congr 1
    have h2 : (0 : ℝ) < 2 := two_pos
    unfold adds
    simp only [Real.rpow_sub h2, Real.rpow_neg h2.le, mul_add, add_mul, Finset.mul_sum, Finset.sum_mul]
    congr 1
    · field_simp
    · refine Finset.sum_congr rfl fun t _ => ?_
      field_simp

/-- The running maximum after a chunk of the exact loop. -/
theorem pay291_at (kc : Vec Ideal S1x256x128 .bf16) (q : Vec Ideal S1x128x512 .bf16) (m : Vec Ideal S1x1x512 .f32) (j : Fin 512) :
    k0_pay291 kc q m (ix3 0 0 j) = max (m (ix3 0 0 j)) (k0_pay75 (k0_pay73 kc) q (ix2 0 j)) := by
  pointwise [k0_pay291, k0_pay289, k0_pay288, k0_pay287, k0_pay75, k0_pay74, k0_pay73]

/-- The accumulator after a chunk of the exact loop: the chunk's weights are taken over the new maximum. -/
theorem pay290_at (V : FVec Ideal S80x256 .bf16) (kc : Vec Ideal S1x256x128 .bf16) (q : Vec Ideal S1x128x512 .bf16) (m : Vec Ideal S1x1x512 .f32)
    (a : Vec Ideal S1x72x512 .f32) (r : Fin 72) (j : Fin 512) :
    k0_pay290 V kc q m a (ix3 0 r j)
      = Ideal.exp2 (m (ix3 0 0 j) - k0_pay291 kc q m (ix3 0 0 j)) * a (ix3 0 r j)
        + ∑ t : Fin 256, V (ix2 ⟨r, by omega⟩ t) * Ideal.exp2 (k0_pay74 (k0_pay73 kc) q (ix2 t j) - k0_pay291 kc q m (ix3 0 0 j)) := by
  have h1 : k0_pay289 kc q m (ix2 0 j) = k0_pay291 kc q m (ix3 0 0 j) := by
    pointwise [k0_pay291]
  have h2 : k0_pay288 m (ix2 0 j) = m (ix3 0 0 j) := by
    pointwise [k0_pay288]
  have h3 : ∀ t : Fin 256, k0_pay287 kc q (ix2 t j) = k0_pay74 (k0_pay73 kc) q (ix2 t j) := by
    intro t
    pointwise [k0_pay287, k0_pay74, k0_pay73]
  rw [← h1, ← h2]
  simp only [← h3]
  pointwise [k0_pay290]
  rfl

/-- The step over the new maximum keeps `Good`. -/
theorem Good.exact {m : Vec Ideal S1x1x512 .f32} {a : Vec Ideal S1x72x512 .f32} {A : Fin 72 → Fin 512 → ℝ} (hg : Good m a A)
    {V : FVec Ideal S80x256 .bf16} {kc : Vec Ideal S1x256x128 .bf16} {q : Vec Ideal S1x128x512 .bf16} {W : Fin 80 → Fin 256 → ℝ}
    {K : Fin 256 → Fin 128 → ℝ} {Q : Fin 128 → Fin 512 → ℝ}
    (hV : ∀ r t, V (ix2 r t) = (W r t : EReal))
    (hK : ∀ t e, kc (ix3 0 t e) = (K t e : EReal)) (hQ : ∀ e j, q (ix3 0 e j) = (Q e j : EReal)) :
    Good (k0_pay291 kc q m) (k0_pay290 V kc q m a) (fun r j => A r j + adds W (fun t j => ∑ e : Fin 128, K t e * Q e j) r j) := by
  intro j
  obtain ⟨M, hM, hA⟩ := hg j
  obtain ⟨X, hX⟩ := pay75_real kc q K Q hK hQ j
  have hmax : max (M : EReal) (X : EReal) = ((max M X : ℝ) : EReal) := (EReal.coe_strictMono.monotone.map_max).symm
  have hnew : k0_pay291 kc q m (ix3 0 0 j) = ((max M X : ℝ) : EReal) := by rw [pay291_at, hM, hX, hmax]
  refine ⟨max M X, hnew, fun r => ?_⟩
  rw [pay290_at, hnew, hM, hA, exp2_sub]
  have hsum : (∑ t : Fin 256, V (ix2 ⟨r, by omega⟩ t) * Ideal.exp2 (k0_pay74 (k0_pay73 kc) q (ix2 t j) - ((max M X : ℝ) : EReal)) : EReal)
      = ((∑ t : Fin 256, W ⟨r, by omega⟩ t * (2 : ℝ) ^ ((∑ e : Fin 128, K t e * Q e j) - max M X) : ℝ) : EReal) := by
    rw [coe_sum]
    refine Finset.sum_congr rfl fun t _ => ?_
    rw [hV, scores_real kc q K Q hK hQ, exp2_sub, EReal.coe_mul]
  refine (congrArg (fun z : EReal => (((2 : ℝ) ^ (M - max M X) : ℝ) : EReal) * (((2 : ℝ) ^ (-M) * A r j : ℝ) : EReal) + z) hsum).trans ?_
  rw [← EReal.coe_mul, ← EReal.coe_add]
  refine congrArg (fun z : ℝ => (z : EReal)) ?_
  have h2 : (0 : ℝ) < 2 := two_pos
  unfold adds
  simp only [Real.rpow_sub h2, Real.rpow_neg h2.le, mul_add, Finset.mul_sum]
  refine congrArg₂ (· + ·) ?_ (Finset.sum_congr rfl fun t _ => ?_)
  · field_simp
  · field_simp

/-- The scores of the meta keys. -/
theorem pay364_real (km : Vec Ideal S16x128 .bf16) (q : Vec Ideal S1x128x512 .bf16) (K : Fin 16 → Fin 128 → ℝ) (Q : Fin 128 → Fin 512 → ℝ)
    (hK : ∀ t e, km (ix2 t e) = (K t e : EReal)) (hQ : ∀ e j, q (ix3 0 e j) = (Q e j : EReal)) (t : Fin 16) (j : Fin 512) :
    k0_pay364 km q (ix2 t j) = ((∑ e : Fin 128, K t e * Q e j : ℝ) : EReal) := by
  have h : k0_pay364 km q (ix2 t j) = ∑ e : Fin 128, km (ix2 t e) * q (ix3 0 e j) := by
    pointwise [k0_pay364]
  rw [h, coe_sum]
  refine Finset.sum_congr rfl fun e _ => ?_
  rw [hK, hQ, EReal.coe_mul]

/-- The first state, from the scores of the meta keys. -/
theorem Good.start {V : FVec Ideal S80x16 .bf16} {s : FVec Ideal S16x512 .f32} {W : Fin 80 → Fin 16 → ℝ} {S : Fin 16 → Fin 512 → ℝ}
    (hV : ∀ r t, V (ix2 r t) = (W r t : EReal)) (hs : ∀ t j, s (ix2 t j) = (S t j : EReal)) :
    Good (k0_pay373 s) (k0_pay397 (k0_pay396 V (k0_pay374 s))) (fun r j => ∑ t : Fin 16, W ⟨r, by omega⟩ t * (2 : ℝ) ^ S t j) := by
  intro j
  have h0 : k0_pay373 s (ix3 0 0 j) = Finset.fold max (Ideal.ofBits FTy.f32 4286578688#32) (fun t => s (ix2 t j)) Finset.univ := by
    pointwise [k0_pay373, k0_pay372]
  have h1 : k0_pay372 s (ix2 0 j) = k0_pay373 s (ix3 0 0 j) := by
    pointwise [k0_pay373]
  obtain ⟨M, hM⟩ : ∃ M : ℝ, k0_pay373 s (ix3 0 0 j) = (M : EReal) := by
    rw [h0, bot_word]
    exact fold_max_real (by decide) _ _ fun t => hs t j
  refine ⟨M, hM, fun r => ?_⟩
  have h3 : k0_pay397 (k0_pay396 V (k0_pay374 s)) (ix3 0 r j) = ∑ t : Fin 16, V (ix2 ⟨r, by omega⟩ t) * Ideal.exp2 (s (ix2 t j) - k0_pay372 s (ix2 0 j)) := by
    pointwise [k0_pay397, k0_pay396, k0_pay374]
    rfl
  rw [h3, h1, hM, Finset.mul_sum, coe_sum]
  refine Finset.sum_congr rfl fun t _ => ?_
  rw [hV, hs, exp2_sub, ← EReal.coe_mul]
  congr 1
  have h2 : (0 : ℝ) < 2 := two_pos
  rw [Real.rpow_sub h2, Real.rpow_neg h2.le]
  field_simp

end Cert.AttnIdeal.Step
-- ==== Proof.AttnLoop.lean ====
/- The attention kernel's two loops over the chunks of keys, over the extended reals: after a trip every head's state stands
   for the real sums over the meta keys and all chunks so far. -/
module

public import proofs.«01_k».proof.Proof.AttnTripM
public import proofs.«01_k».proof.Proof.AttnTripA
public import proofs.«01_k».proof.Proof.AttnTripX
public import proofs.«01_k».proof.Proof.AttnStep
public import Idealize.ShloMosaic.Lib.IdealHost

@[expose] public section

set_option maxRecDepth 65536

noncomputable section

namespace Cert.AttnIdeal.Loop

open Cert.AttnIdeal Cert.AttnIdeal.Gen Cert.AttnIdeal.Trip Cert.AttnIdeal.Step
open Idealize.ShloMosaic Idealize.ShloMosaic.TcCoe Idealize.ShloMosaic.Tactic

variable (K : ℕ → Fin 256 → Fin 128 → ℝ) (Vr : ℕ → Fin 128 → Fin 256 → ℝ) (Q : Fin 8 → Fin 128 → Fin 512 → ℝ)

/-- The real scores of head `h` against chunk `n`. -/
def S (h : Fin 8) (n : ℕ) (t : Fin 256) (j : Fin 512) : ℝ := ∑ e : Fin 128, K n t e * Q h e j

/-- The real values of head `h` in chunk `n`, with rows of ones under them. -/
def W (h : Fin 8) (n : ℕ) (r : Fin 80) (t : Fin 256) : ℝ := if hr : r.val < 64 then Vr n ⟨64 * (h.val / 4) + r.val, by omega⟩ t else 1

/-- What chunk `n` adds to head `h`'s sums. -/
def part (h : Fin 8) (n : ℕ) (r : Fin 72) (j : Fin 512) : ℝ := adds (W Vr h n) (S K Q h n) r j

/-- A chunk's values are real, and so are they with the ones under them. -/
theorem vals_real (h : Fin 8) (n : ℕ) (v : Vec Ideal S1x1x128x256 .bf16) (hv : ∀ e t, v (ix4 0 0 e t) = (Vr n e t : EReal)) (r : Fin 80) (t : Fin 256) :
    vals h v (ix2 r t) = (W Vr h n r t : EReal) := by
  unfold vals W
  split
  · rename_i hh
    rw [pay2_at]
    split
    · rename_i hr
      rw [hv]
      refine congrArg (fun e : Fin 128 => (Vr n e t : EReal)) (Fin.ext ?_)
      show r.val = 64 * (h.val / 4) + r.val
      omega
    · rw [Ideal.ofBits_one_bf16]; rfl
  · rename_i hh
    rw [pay5_at]
    split
    · rename_i hr
      rw [hv]
      refine congrArg (fun e : Fin 128 => (Vr n e t : EReal)) (Fin.ext ?_)
      show 64 + r.val = 64 * (h.val / 4) + r.val
      omega
    · rw [Ideal.ofBits_one_bf16]; rfl

variable (𝒱 : Variants) (c : Dev nD) (bd : Option 𝒱.V) (i : grid0.Coords) (arg2 : Memref sig .tc .vmem S1x512x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S16x128 .bf16) (harg5 : arg5.IsWhole) (arg6 : Memref sig .tc .vmem S128x16 .bf16) (harg6 : arg6.IsWhole) (arg7 : Memref sig .tc .vmem S512x1 .f32) (harg7 : arg7.IsWhole) (arg8 : Memref sig .tc .vmem S1x512x512 .bf16) (harg8 : arg8.IsWhole) (arg9 : Memref sig .tc .vmem S8x128x512 .bf16) (harg9 : arg9.IsWhole) (arg10 : Memref sig .tc .vmem S8x1x512 .f32) (harg10 : arg10.IsWhole) (arg11 : Memref sig .tc .vmem S8x72x512 .f32) (harg11 : arg11.IsWhole) (arg12 : Memref sig .tc .vmem S2x256x512 .f32) (harg12 : arg12.IsWhole) (arg13 : Memref sig .tc .vmem S2x1x512 .f32) (harg13 : arg13.IsWhole)
    (v87 : FVec Ideal S80x16 .bf16) (v183 : FVec Ideal S16x512 .bf16) (v215 : FVec Ideal S72x512 .f32) (X3 : BufTy.Contents (Elt Ideal) arg3.view.ty) (X4 : BufTy.Contents (Elt Ideal) arg4.view.ty) (X9 : BufTy.Contents (Elt Ideal) arg9.view.ty)

/-- The keys held are the real numbers `K`, chunk by chunk. -/
def Keys : Prop := ∀ (off : Fin 3 → ℕ) (inb : ∀ a, off a + S1x256x128.size a ≤ S1x8192x128.size a) (n : ℕ), off = ![0, 256 * n, 0] →
  ∀ (t : Fin 256) (e : Fin 128), View.readAt (Elt Ideal) arg3.view (Rect.unit (s := S1x8192x128) off S1x256x128.size inb).toLoadRect X3 (ix3 0 t e) = (K n t e : EReal)

/-- The values held are the real numbers `Vr`, chunk by chunk. -/
def Vals : Prop := ∀ (off : Fin 4 → ℕ) (inb : ∀ a, off a + S1x1x128x256.size a ≤ S1x32x128x256.size a) (n : ℕ), off = ![0, n, 0, 0] →
  ∀ (e : Fin 128) (t : Fin 256), View.readAt (Elt Ideal) arg4.view (Rect.unit (s := S1x32x128x256) off S1x1x128x256.size inb).toLoadRect X4 (ix4 0 0 e t) = (Vr n e t : EReal)

/-- The widened queries held are the real numbers `Q`, head by head. -/
def Queries : Prop := ∀ (h : Fin 8) (e : Fin 128) (j : Fin 512), View.readAt (Elt Ideal) arg9.view (rQ h).toLoadRect X9 (ix3 0 e j) = (Q h e j : EReal)

/-- The scores and maxima carried are those of chunk `n` for the first two heads. -/
def Carried (f12 : BufTy.Contents (Elt Ideal) arg12.view.ty) (f13 : BufTy.Contents (Elt Ideal) arg13.view.ty) (n : ℕ) : Prop :=
  (∀ (h : Fin 2) (t : Fin 256) (j : Fin 512), View.readAt (Elt Ideal) arg12.view (rS h).toLoadRect f12 (ix3 0 t j) = (S K Q ⟨h.val, by omega⟩ n t j : EReal))
  ∧ ∀ (h : Fin 2) (j : Fin 512), ∃ M : ℝ, View.readAt (Elt Ideal) arg13.view (rX h).toLoadRect f13 (ix3 0 0 j) = (M : EReal)

section trip
variable {K Q Vr arg3 arg4 arg9 arg12 arg13 X3 X4 X9} (k : Fin k0_t1_loop.trips)
include Vr

/-- A chunk's scores are real, -/
theorem sc_real (hK : Keys K arg3 X3) (hQ : Queries Q arg9 X9) {f12 : BufTy.Contents (Elt Ideal) arg12.view.ty} {f13 : BufTy.Contents (Elt Ideal) arg13.view.ty}
    (hc : Carried K Q arg12 arg13 f12 f13 (4 * k)) (h : Fin 8) (n : Fin 4) (t : Fin 256) (j : Fin 512) :
    sc arg3 arg9 arg12 X3 X9 k f12 h n (ix2 t j) = (S K Q h (4 * k + n) t j : EReal) := by
  have hany : k0_pay74 (k0_pay73 (View.readAt (Elt Ideal) arg3.view (Rect.unit (s := S1x8192x128) (k0_off2 k (BitVec.ofNat 32 n.val)) S1x256x128.size (k0_off2_inb k n)).toLoadRect X3)) (View.readAt (Elt Ideal) arg9.view (rQ h).toLoadRect X9) (ix2 t j)
      = (S K Q h (4 * k + n) t j : EReal) :=
    scores_real _ _ (K (4 * k + n)) (Q h) (hK _ _ _ (by rw [k0_off2_eq, show 256 * (4 * k.val + n.val) = 1024 * k.val + 256 * n.val by omega])) (hQ h) t j
  unfold sc
  split
  · rename_i hn
    subst hn
    split
    · refine Eq.trans ?_ (hc.1 0 t j)
      pointwise
    · refine Eq.trans ?_ (hc.1 1 t j)
      pointwise
    · exact hany
  · exact hany

/-- and so is the largest of them. -/
theorem sm_real (hK : Keys K arg3 X3) (hQ : Queries Q arg9 X9) {f12 : BufTy.Contents (Elt Ideal) arg12.view.ty} {f13 : BufTy.Contents (Elt Ideal) arg13.view.ty}
    (hc : Carried K Q arg12 arg13 f12 f13 (4 * k)) (h : Fin 8) (n : Fin 4) (j : Fin 512) :
    ∃ M : ℝ, sm arg3 arg9 arg13 X3 X9 k f13 h n (ix2 0 j) = (M : EReal) := by
  have hany : ∃ M : ℝ, k0_pay75 (k0_pay73 (View.readAt (Elt Ideal) arg3.view (Rect.unit (s := S1x8192x128) (k0_off2 k (BitVec.ofNat 32 n.val)) S1x256x128.size (k0_off2_inb k n)).toLoadRect X3)) (View.readAt (Elt Ideal) arg9.view (rQ h).toLoadRect X9) (ix2 0 j)
      = (M : EReal) :=
    pay75_real _ _ (K (4 * k + n)) (Q h) (hK _ _ _ (by rw [k0_off2_eq, show 256 * (4 * k.val + n.val) = 1024 * k.val + 256 * n.val by omega])) (hQ h) j
  unfold sm
  split
  · rename_i hn
    subst hn
    split
    · obtain ⟨M, hM⟩ := hc.2 0 j
      refine ⟨M, Eq.trans ?_ hM⟩
      pointwise
    · obtain ⟨M, hM⟩ := hc.2 1 j
      refine ⟨M, Eq.trans ?_ hM⟩
      pointwise
    · exact hany
  · exact hany

/-- A head's state after the chunks before `n` of a trip. -/
theorem chunks_good (hK : Keys K arg3 X3) (hV : Vals Vr arg4 X4) (hQ : Queries Q arg9 X9) {f12 : BufTy.Contents (Elt Ideal) arg12.view.ty} {f13 : BufTy.Contents (Elt Ideal) arg13.view.ty}
    (hc : Carried K Q arg12 arg13 f12 f13 (4 * k)) (h : Fin 8) {m : Vec Ideal S1x1x512 .f32} {a : Vec Ideal S1x72x512 .f32} {A : Fin 72 → Fin 512 → ℝ} (hg : Good m a A) :
    ∀ n : ℕ, n ≤ 4 → Good (mAt arg3 arg9 arg13 X3 X9 k f13 h m n) (aAt arg3 arg4 arg9 arg12 arg13 X3 X4 X9 k f12 f13 h m a n)
      (fun r j => A r j + ∑ p ∈ Finset.range n, part K Vr Q h (4 * k + p) r j)
  | 0, _ => by simpa [mAt, aAt] using hg
  | n + 1, hn => by
    have ih := chunks_good hK hV hQ hc h hg n (by omega)
    have hn4 : ((Fin.ofNat 4 n : Fin 4) : ℕ) = n := Nat.mod_eq_of_lt (by omega)
    have step := Good.fast ih
      (V := vals h (vc arg4 X4 k (Fin.ofNat 4 n))) (s := sc arg3 arg9 arg12 X3 X9 k f12 h (Fin.ofNat 4 n)) (x := sm arg3 arg9 arg13 X3 X9 k f13 h (Fin.ofNat 4 n))
      (W := W Vr h (4 * k + n)) (S := S K Q h (4 * k + n))
      (vals_real Vr h (4 * k + n) _ (hV _ _ _ (by rw [k0_off1_eq, hn4])))
      (fun t j => by rw [sc_real (Vr := Vr) k hK hQ hc, hn4])
      (fun j => sm_real (Vr := Vr) k hK hQ hc h _ j)
    rw [mAt, aAt]
    refine (congrArg (Good _ _) (funext fun r => funext fun j => ?_)).mp step
    rw [Finset.sum_range_succ, ← add_assoc]
    rfl
end trip

/-- A carried chunk of scores is read off the pieces a trip of the fast loop writes. -/
theorem trip_s (k : Fin k0_t1_loop.trips) (acc : FVec Ideal S1x512 .f32) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (h : Fin 2) (t : Fin 256) (j : Fin 512) :
    View.readAt (Elt Ideal) arg12.view (rS h).toLoadRect (arg12.view.writes (Elt Ideal) f12 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 v87 v183 v215 X3 X4 X9 k).2.2.2.1 acc f10 f11 f12 f13)) (ix3 0 t j)
      = k0_pay74 (k0_pay73 (View.readAt (Elt Ideal) arg3.view (Rect.unit (s := S1x8192x128) (k0_off3 k) S1x256x128.size (k0_off3_inb k)).toLoadRect X3)) (View.readAt (Elt Ideal) arg9.view (rQ ⟨h.val, by omega⟩).toLoadRect X9) (ix2 t j) := by
  unfold trip_k0_t1
  fin_cases h
  all_goals repeat (refine Eq.trans (congrFun (rd_skip _ _ _ _ _ _ ?_) _) ?_; · decide)
  all_goals refine Eq.trans (congrFun (rd_hit _ _ _ _ _) _) ?_
  · show k0_pay247 _ _ _ = _
    pointwise [k0_pay247, k0_pay246, k0_pay74, k0_pay73]
    rfl
  · show k0_pay255 _ _ _ = _
    pointwise [k0_pay255, k0_pay254, k0_pay74, k0_pay73]
    rfl

/-- So are the carried maxima. -/
theorem trip_x (k : Fin k0_t1_loop.trips) (acc : FVec Ideal S1x512 .f32) (f10 : BufTy.Contents (Elt Ideal) arg10.view.ty) (f11 : BufTy.Contents (Elt Ideal) arg11.view.ty) (f12 : BufTy.Contents (Elt Ideal) arg12.view.ty) (f13 : BufTy.Contents (Elt Ideal) arg13.view.ty) (h : Fin 2) (j : Fin 512) :
    View.readAt (Elt Ideal) arg13.view (rX h).toLoadRect (arg13.view.writes (Elt Ideal) f13 ((trip_k0_t1 (F := Ideal) 𝒱 c bd i arg2 harg2 arg3 harg3 arg4 harg4 arg5 harg5 arg6 harg6 arg7 harg7 arg8 harg8 arg9 harg9 arg10 harg10 arg11 harg11 arg12 harg12 arg13 harg13 v87 v183 v215 X3 X4 X9 k).2.2.2.2.1 acc f10 f11 f12 f13)) (ix3 0 0 j)
      = k0_pay75 (k0_pay73 (View.readAt (Elt Ideal) arg3.view (Rect.unit (s := S1x8192x128) (k0_off3 k) S1x256x128.size (k0_off3_inb k)).toLoadRect X3)) (View.readAt (Elt Ideal) arg9.view (rQ ⟨h.val, by omega⟩).toLoadRect X9) (ix2 0 j) := by
  unfold trip_k0_t1
  fin_cases h
  all_goals repeat (refine Eq.trans (congrFun (rd_skip _ _ _ _ _ _ ?_) _) ?_; · decide)
  all_goals refine Eq.trans (congrFun (rd_hit _ _ _ _ _) _) ?_
  · show k0_pay248 _ _ _ = _
    pointwise [k0_pay248, k0_pay246, k0_pay75, k0_pay74, k0_pay73]
    rfl
  · show k0_pay257 (k0_pay256 _ _) _ = _
    pointwise [k0_pay257, k0_pay256, k0_pay254, k0_pay75, k0_pay74, k0_pay73]
    rfl

section loop
variable {K Q Vr X3 X4 X9}
variable (hK : Keys K arg3 X3) (hV : Vals Vr arg4 X4) (hQ : Queries Q arg9 X9) {A : Fin 8 → Fin 72 → Fin 512 → ℝ}
  (G10 : BufTy.Contents (Elt Ideal) arg10.view.ty) (G11 : BufTy.Contents (Elt Ideal) arg11.view.ty) (G12 : BufTy.Contents (Elt Ideal) arg12.view.ty) (G13 : BufTy.Contents (Elt Ideal) arg13.view.ty)
include hK hV hQ

/-- Every head's state stands for the sums `A` and what the chunks before `n` add. -/
def Upto (K : ℕ → Fin 256 → Fin 128 → ℝ) (Vr : ℕ → Fin 128 → Fin 256 → ℝ) (Q : Fin 8 → Fin 128 → Fin 512 → ℝ) (A : Fin 8 → Fin 72 → Fin 512 → ℝ)
    (f10 : BufTy.Contents (Elt Ideal) arg10.view.ty) (f11 : BufTy.Contents (Elt Ideal) arg11.view.ty) (n : ℕ) : Prop :=
  ∀ h : Fin 8, Good (View.readAt (Elt Ideal) arg10.view (rM h).toLoadRect f10) (View.readAt (Elt Ideal) arg11.view (rA h).toLoadRect f11)
    (fun r j => A h r j + ∑ p ∈ Finset.range n, part K Vr Q h p r j)

/-- The fast loop's state before trip `k`. -/
theorem fast_loop (init : FVec Ideal S1x512 .f32) (h0 : Upto arg10 arg11 K Vr Q A G10 G11 0) (hc0 : Carried K Q arg12 arg13 G12 G13 0) :
    ∀ k : ℕ, k ≤ k0_t1_loop.trips →
      Upto arg10 arg11 K Vr Q A (arg10.view.writes (Elt Ideal) G10 (st_k0_t1 (F := Ideal) 𝒱 c bd i arg2 harg2 arg3 harg3 arg4 harg4 arg5 harg5 arg6 harg6 arg7 harg7 arg8 harg8 arg9 harg9 arg10 harg10 arg11 harg11 arg12 harg12 arg13 harg13 v87 v183 v215 X3 X4 X9 G10 G11 G12 G13 init k).2.1) (arg11.view.writes (Elt Ideal) G11 (st_k0_t1 (F := Ideal) 𝒱 c bd i arg2 harg2 arg3 harg3 arg4 harg4 arg5 harg5 arg6 harg6 arg7 harg7 arg8 harg8 arg9 harg9 arg10 harg10 arg11 harg11 arg12 harg12 arg13 harg13 v87 v183 v215 X3 X4 X9 G10 G11 G12 G13 init k).2.2.1) (4 * k)
      ∧ Carried K Q arg12 arg13 (arg12.view.writes (Elt Ideal) G12 (st_k0_t1 (F := Ideal) 𝒱 c bd i arg2 harg2 arg3 harg3 arg4 harg4 arg5 harg5 arg6 harg6 arg7 harg7 arg8 harg8 arg9 harg9 arg10 harg10 arg11 harg11 arg12 harg12 arg13 harg13 v87 v183 v215 X3 X4 X9 G10 G11 G12 G13 init k).2.2.2.1) (arg13.view.writes (Elt Ideal) G13 (st_k0_t1 (F := Ideal) 𝒱 c bd i arg2 harg2 arg3 harg3 arg4 harg4 arg5 harg5 arg6 harg6 arg7 harg7 arg8 harg8 arg9 harg9 arg10 harg10 arg11 harg11 arg12 harg12 arg13 harg13 v87 v183 v215 X3 X4 X9 G10 G11 G12 G13 init k).2.2.2.2) (min (4 * k) 31)
  | 0, _ => ⟨h0, hc0⟩
  | k + 1, hk => by
    have hk8 : k < 8 := by
      have : k0_t1_loop.trips = 8 := by decide +kernel
      omega
    obtain ⟨ih, ihc⟩ := fast_loop init h0 hc0 k (by omega)
    rw [show min (4 * k) 31 = 4 * k by omega] at ihc
    have e := st_k0_t1_succ (F := Ideal) 𝒱 c bd i arg2 harg2 arg3 harg3 arg4 harg4 arg5 harg5 arg6 harg6 arg7 harg7 arg8 harg8 arg9 harg9 arg10 harg10 arg11 harg11 arg12 harg12 arg13 harg13 v87 v183 v215 X3 X4 X9 G10 G11 G12 G13 init ⟨k, hk⟩
    simp only at e
    rw [e]
    refine ⟨fun h => ?_, fun h t j => ?_, fun h j => ?_⟩
    · dsimp only
      rw [View.writes_append, View.writes_append, trip_m, trip_a]
      refine (congrArg (Good _ _) (funext fun r => funext fun j => ?_)).mp (chunks_good ⟨k, hk⟩ hK hV hQ ihc h (ih h) 4 le_rfl)
      rw [add_assoc, show 4 * (k + 1) = 4 * k + 4 by omega, Finset.sum_range_add]
    · dsimp only
      rw [View.writes_append, trip_s]
      refine scores_real _ _ (K (min (4 * (k + 1)) 31)) (Q _) (hK _ _ _ ?_) (hQ _) t j
      rw [k0_off3_eq, mul_add]
    · dsimp only
      obtain ⟨M, hM⟩ := pay75_real _ _ (K (min (4 * (k + 1)) 31)) (Q ⟨h.val, by omega⟩) (hK (k0_off3 ⟨k, hk⟩) (k0_off3_inb ⟨k, hk⟩) _ (by rw [k0_off3_eq, mul_add])) (hQ _) j
      exact ⟨M, by rw [View.writes_append, trip_x]; exact hM⟩

/-- The exact loop's state before trip `k`. -/
theorem exact_loop (h0 : Upto arg10 arg11 K Vr Q A G10 G11 0) :
    ∀ k : ℕ, k ≤ k0_t2_loop.trips →
      Upto arg10 arg11 K Vr Q A (arg10.view.writes (Elt Ideal) G10 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 v87 v183 v215 X3 X4 X9 G10 G11 k).1) (arg11.view.writes (Elt Ideal) G11 (pb_k0_t2 (F := Ideal) 𝒱 c bd i arg2 harg2 arg3 harg3 arg4 harg4 arg5 harg5 arg6 harg6 arg7 harg7 arg8 harg8 arg9 harg9 arg10 harg10 arg11 harg11 arg12 harg12 arg13 harg13 v87 v183 v215 X3 X4 X9 G10 G11 k).2) k
  | 0, _ => h0
  | k + 1, hk => by
    have ih := exact_loop h0 k (by omega)
    have e := pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 v87 v183 v215 X3 X4 X9 G10 G11 ⟨k, hk⟩
    simp only at e
    rw [e]
    intro h
    dsimp only
    rw [View.writes_append, View.writes_append, trip2_m, trip2_a]
    refine (congrArg (Good _ _) (funext fun r => funext fun j => ?_)).mp
      (Good.exact (ih h) (W := W Vr h k) (K := K k) (Q := Q h) (vals_real Vr h k _ (hV _ _ _ (k0_off4_eq _))) (hK _ _ _ (k0_off5_eq _)) (hQ h))
    rw [Finset.sum_range_succ, ← add_assoc]
    rfl
end loop

end Cert.AttnIdeal.Loop
-- ==== Proof.AttnFinal.lean ====
/- What the attention body makes of the heads' last states: each head's rows over its row of weights, then the norm of a
   query's 512 entries. And what it loads at the start: the widened queries and the meta values. -/
module

public import proofs.«01_k».proof.Proof.AttnLoop

@[expose] public section

set_option maxRecDepth 65536

noncomputable section

namespace Cert.AttnIdeal.Final

open Cert.AttnIdeal Cert.AttnIdeal.Gen Cert.AttnIdeal.Trip Cert.AttnIdeal.Step Cert.AttnIdeal.Loop
open Idealize.ShloMosaic Idealize.ShloMosaic.TcCoe Idealize.ShloMosaic.Tactic

/-- The block the body stores, from the accumulators' contents and the gain. -/
def outv {F : FTy → Type} [FloatOps F] (arg11 : Memref sig .tc .vmem S8x72x512 .f32) (f11 : BufTy.Contents (Elt F) arg11.view.ty) (og : Vec F S512x1 .f32) : FVec F S1x512x512 .bf16 :=
  k0_pay1 (k0_pay418 (View.readAt (Elt F) arg11.view (Rect.unit (s := S8x72x512) ![0, 0, 0] S1x64x512.size inb_S8x72x512_S1x64x512_0_0_0).toLoadRect f11) (View.readAt (Elt F) arg11.view (Rect.unit (s := S8x72x512) ![0, 64, 0] S1x1x512.size inb_S8x72x512_S1x1x512_0_64_0).toLoadRect f11)) (k0_pay419 (View.readAt (Elt F) arg11.view (Rect.unit (s := S8x72x512) ![1, 0, 0] S1x64x512.size inb_S8x72x512_S1x64x512_1_0_0).toLoadRect f11) (View.readAt (Elt F) arg11.view (Rect.unit (s := S8x72x512) ![1, 64, 0] S1x1x512.size inb_S8x72x512_S1x1x512_1_64_0).toLoadRect f11)) (k0_pay420 (View.readAt (Elt F) arg11.view (Rect.unit (s := S8x72x512) ![2, 0, 0] S1x64x512.size inb_S8x72x512_S1x64x512_2_0_0).toLoadRect f11) (View.readAt (Elt F) arg11.view (Rect.unit (s := S8x72x512) ![2, 64, 0] S1x1x512.size inb_S8x72x512_S1x1x512_2_64_0).toLoadRect f11)) (k0_pay421 (View.readAt (Elt F) arg11.view (Rect.unit (s := S8x72x512) ![3, 0, 0] S1x64x512.size inb_S8x72x512_S1x64x512_3_0_0).toLoadRect f11) (View.readAt (Elt F) arg11.view (Rect.unit (s := S8x72x512) ![3, 64, 0] S1x1x512.size inb_S8x72x512_S1x1x512_3_64_0).toLoadRect f11)) (k0_pay422 (View.readAt (Elt F) arg11.view (Rect.unit (s := S8x72x512) ![4, 0, 0] S1x64x512.size inb_S8x72x512_S1x64x512_4_0_0).toLoadRect f11) (View.readAt (Elt F) arg11.view (Rect.unit (s := S8x72x512) ![4, 64, 0] S1x1x512.size inb_S8x72x512_S1x1x512_4_64_0).toLoadRect f11)) (k0_pay423 (View.readAt (Elt F) arg11.view (Rect.unit (s := S8x72x512) ![5, 0, 0] S1x64x512.size inb_S8x72x512_S1x64x512_5_0_0).toLoadRect f11) (View.readAt (Elt F) arg11.view (Rect.unit (s := S8x72x512) ![5, 64, 0] S1x1x512.size inb_S8x72x512_S1x1x512_5_64_0).toLoadRect f11)) (k0_pay424 (View.readAt (Elt F) arg11.view (Rect.unit (s := S8x72x512) ![6, 0, 0] S1x64x512.size inb_S8x72x512_S1x64x512_6_0_0).toLoadRect f11) (View.readAt (Elt F) arg11.view (Rect.unit (s := S8x72x512) ![6, 64, 0] S1x1x512.size inb_S8x72x512_S1x1x512_6_64_0).toLoadRect f11)) (View.readAt (Elt F) arg11.view (Rect.unit (s := S8x72x512) ![7, 0, 0] S1x64x512.size inb_S8x72x512_S1x64x512_7_0_0).toLoadRect f11) (View.readAt (Elt F) arg11.view (Rect.unit (s := S8x72x512) ![7, 64, 0] S1x1x512.size inb_S8x72x512_S1x1x512_7_64_0).toLoadRect f11) og

/-- Entry `d` of query `j`, as the accumulators give it. -/
def entry (arg11 : Memref sig .tc .vmem S8x72x512 .f32) (f11 : BufTy.Contents (Elt Ideal) arg11.view.ty) (d j : Fin 512) : EReal :=
  Ideal.div (View.readAt (Elt Ideal) arg11.view (rA ⟨d.val / 64, by omega⟩).toLoadRect f11 (ix3 0 ⟨d.val % 64, by omega⟩ j))
    (View.readAt (Elt Ideal) arg11.view (rA ⟨d.val / 64, by omega⟩).toLoadRect f11 (ix3 0 64 j))

/-- A query's row divided by its root mean square, times the gain. -/
def normed (o : Fin 512 → EReal) (g : Fin 512 → EReal) (d : Fin 512) : EReal :=
  o d * Ideal.rsqrt (Ideal.div (∑ e, o e * o e) (Ideal.ofBits .f32 0x44000000#32) + Ideal.ofBits .f32 0x358637BD#32) * g d

section
variable (arg11 : Memref sig .tc .vmem S8x72x512 .f32) (f11 : BufTy.Contents (Elt Ideal) arg11.view.ty)

/-- A head's rows within its accumulator, -/
theorem num_at (h : Fin 8) (inb : ∀ a, (![h.val, 0, 0] : Fin 3 → ℕ) a + S1x64x512.size a ≤ S8x72x512.size a) (r : Fin 64) (j : Fin 512) :
    View.readAt (Elt Ideal) arg11.view (Rect.unit (s := S8x72x512) ![h.val, 0, 0] S1x64x512.size inb).toLoadRect f11 (ix3 0 r j)
      = View.readAt (Elt Ideal) arg11.view (rA h).toLoadRect f11 (ix3 0 ⟨r.val, by omega⟩ j) := by
  rw [View.readAt_apply, View.readAt_apply]
  refine congrArg _ ?_
  funext a
  fin_cases a <;> rfl

/-- and its row of weights. -/
theorem den_at (h : Fin 8) (inb : ∀ a, (![h.val, 64, 0] : Fin 3 → ℕ) a + S1x1x512.size a ≤ S8x72x512.size a) (j : Fin 512) :
    View.readAt (Elt Ideal) arg11.view (Rect.unit (s := S8x72x512) ![h.val, 64, 0] S1x1x512.size inb).toLoadRect f11 (ix3 0 0 j)
      = View.readAt (Elt Ideal) arg11.view (rA h).toLoadRect f11 (ix3 0 64 j) := by
  rw [View.readAt_apply, View.readAt_apply]
  refine congrArg _ ?_
  funext a
  fin_cases a <;> rfl
end

set_option maxHeartbeats 4000000 in
/-- Eight blocks of 64 rows under each other, read at an entry. -/
theorem concat8_at (x0 x1 x2 x3 x4 x5 x6 x7 : FVec Ideal S64x512 .f32) (d j : Fin 512) :
    concatenate S512x512 0 [⟨S64x512, x0⟩, ⟨S64x512, x1⟩, ⟨S64x512, x2⟩, ⟨S64x512, x3⟩, ⟨S64x512, x4⟩, ⟨S64x512, x5⟩, ⟨S64x512, x6⟩, ⟨S64x512, x7⟩] concatenates_S64x512_S64x512_S64x512_S64x512_S64x512_S64x512_S64x512_S64x512_S512x512_d0 (ix2 d j)
      = (![x0, x1, x2, x3, x4, x5, x6, x7] : Fin 8 → FVec Ideal S64x512 .f32) ⟨d.val / 64, by omega⟩ (ix2 ⟨d.val % 64, by omega⟩ j) := by
  obtain ⟨h, r, rfl⟩ : ∃ (h : Fin 8) (r : Fin 64), d = ⟨64 * h.val + r.val, by omega⟩ := ⟨⟨d.val / 64, by omega⟩, ⟨d.val % 64, by omega⟩, Fin.ext (by show d.val = 64 * (d.val / 64) + d.val % 64; omega)⟩
  have e1 : (⟨(64 * h.val + r.val) / 64, by omega⟩ : Fin 8) = h := Fin.ext (by show (64 * h.val + r.val) / 64 = h.val; omega)
  have e2 : (⟨(64 * h.val + r.val) % 64, by omega⟩ : Fin 64) = r := Fin.ext (by show (64 * h.val + r.val) % 64 = r.val; omega)
  refine Eq.trans ?_ (congrArg₂ (fun (a : Fin 8) (b : Fin 64) => (![x0, x1, x2, x3, x4, x5, x6, x7] : Fin 8 → FVec Ideal S64x512 .f32) a (ix2 b j)) e1.symm e2.symm)
  fin_cases h <;> pointwise
  all_goals try (split_ifs <;> first
      | (exfalso; omega)
      | (congr 2; apply Fin.ext; dsimp only; omega))

/-- The last payload of the body, over the eight heads' blocks. -/
theorem pay1_at (x0 x1 x2 x3 x4 x5 x6 : FVec Ideal S64x512 .f32) (n : Vec Ideal S1x64x512 .f32) (w : Vec Ideal S1x1x512 .f32) (og : Vec Ideal S512x1 .f32) (j d : Fin 512) :
    k0_pay1 x0 x1 x2 x3 x4 x5 x6 n w og (ix3 0 j d)
      = normed (fun e => (![x0, x1, x2, x3, x4, x5, x6, k0_pay418 n w] : Fin 8 → FVec Ideal S64x512 .f32) ⟨e.val / 64, by omega⟩ (ix2 ⟨e.val % 64, by omega⟩ j)) (fun e => og (ix2 e 0)) d := by
  have e : (fun e : Fin 512 => (![x0, x1, x2, x3, x4, x5, x6, k0_pay418 n w] : Fin 8 → FVec Ideal S64x512 .f32) ⟨e.val / 64, by omega⟩ (ix2 ⟨e.val % 64, by omega⟩ j))
      = fun e => concatenate S512x512 0 [⟨S64x512, x0⟩, ⟨S64x512, x1⟩, ⟨S64x512, x2⟩, ⟨S64x512, x3⟩, ⟨S64x512, x4⟩, ⟨S64x512, x5⟩, ⟨S64x512, x6⟩, ⟨S64x512, k0_pay418 n w⟩] concatenates_S64x512_S64x512_S64x512_S64x512_S64x512_S64x512_S64x512_S64x512_S512x512_d0 (ix2 e j) :=
    funext fun e => (concat8_at x0 x1 x2 x3 x4 x5 x6 (k0_pay418 n w) e j).symm
  rw [e]
  unfold k0_pay1 k0_pay418 normed
  dsimp only
  generalize concatenate S512x512 0 [⟨S64x512, x0⟩, ⟨S64x512, x1⟩, ⟨S64x512, x2⟩, ⟨S64x512, x3⟩, ⟨S64x512, x4⟩, ⟨S64x512, x5⟩, ⟨S64x512, x6⟩,
    ⟨S64x512, divf (shapeCast S64x512 n shapeCasts_S1x64x512_S64x512) (broadcastTo S64x512 (shapeCast S1x512 w shapeCasts_S1x1x512_S1x512) broadcasts_S1x512_S64x512)⟩]
    concatenates_S64x512_S64x512_S64x512_S64x512_S64x512_S64x512_S64x512_S64x512_S512x512_d0 = C
  pointwise

/-- A head's rows over its row of weights. -/
theorem pay418_at (n : Vec Ideal S1x64x512 .f32) (w : Vec Ideal S1x1x512 .f32) (r : Fin 64) (j : Fin 512) :
    k0_pay418 n w (ix2 r j) = Ideal.div (n (ix3 0 r j)) (w (ix3 0 0 j)) := by
  pointwise [k0_pay418]

theorem inb_num (h : Fin 8) : ∀ a, (![h.val, 0, 0] : Fin 3 → ℕ) a + S1x64x512.size a ≤ S8x72x512.size a := by fin_cases h <;> decide
theorem inb_den (h : Fin 8) : ∀ a, (![h.val, 64, 0] : Fin 3 → ℕ) a + S1x1x512.size a ≤ S8x72x512.size a := by fin_cases h <;> decide

/-- The block stored is the normed rows, queries down. -/
theorem outv_at (arg11 : Memref sig .tc .vmem S8x72x512 .f32) (f11 : BufTy.Contents (Elt Ideal) arg11.view.ty) (og : Vec Ideal S512x1 .f32) (j d : Fin 512) :
    outv arg11 f11 og (ix3 0 j d) = normed (fun e => entry arg11 f11 e j) (fun e => og (ix2 e 0)) d := by
  unfold outv
  rw [pay1_at]
  refine congrArg (fun o => normed o _ d) (funext fun e => ?_)
  unfold entry
  generalize hh : (⟨e.val / 64, by omega⟩ : Fin 8) = h
  rw [← den_at arg11 f11 h (inb_den h), ← num_at arg11 f11 h (inb_num h) ⟨e.val % 64, by omega⟩, ← pay418_at]
  simp only [hh]
  clear hh
  fin_cases h <;> rfl

/-- The real widened queries of head `h`: 64 rows of the block, zeros above or below. -/
def Qw (q : Fin 512 → Fin 512 → ℝ) (h : Fin 8) (e : Fin 128) (j : Fin 512) : ℝ :=
  if h.val < 4 then (if he : e.val < 64 then q ⟨64 * h.val + e.val, by omega⟩ j else 0)
  else (if he : e.val < 64 then 0 else q ⟨64 * h.val + (e.val - 64), by omega⟩ j)

/-- The real meta values of head `h` with rows of ones under them. -/
def Wm (vm : Fin 128 → Fin 16 → ℝ) (h : Fin 8) (r : Fin 80) (t : Fin 16) : ℝ :=
  if hr : r.val < 64 then vm ⟨64 * (h.val / 4) + r.val, by omega⟩ t else 1

/-- The rows of the queries' block that head `h` takes. -/
def wide {F : FTy → Type} [FloatOps F] (h : Fin 8) (v : Vec F S1x64x512 .bf16) : FVec F S1x128x512 .bf16 :=
  if h.val < 4 then k0_pay346 v else k0_pay350 k0_pay345 v

/-- The meta values of head `h`. -/
def metas {F : FTy → Type} [FloatOps F] (h : Fin 8) (v : Vec F S128x16 .bf16) : FVec F S80x16 .bf16 :=
  if h.val < 4 then k0_pay362 v else k0_pay363 v

/-- The zero the queries are widened with. -/
theorem zero_word : Ideal.ofBits .bf16 0x0000#16 = (0 : EReal) := by
  simp

theorem pay346_at (v : Vec Ideal S1x64x512 .bf16) (e : Fin 128) (j : Fin 512) :
    k0_pay346 v (ix3 0 e j) = if h : e.val < 64 then v (ix3 0 ⟨e, by omega⟩ j) else Ideal.ofBits .bf16 0x0000#16 := by
  pointwise [k0_pay346, k0_pay345]

theorem pay350_at (v : Vec Ideal S1x64x512 .bf16) (e : Fin 128) (j : Fin 512) :
    k0_pay350 k0_pay345 v (ix3 0 e j) = if h : e.val < 64 then Ideal.ofBits .bf16 0x0000#16 else v (ix3 0 ⟨e - 64, by omega⟩ j) := by
  pointwise [k0_pay350, k0_pay345]

theorem pay362_at (v : Vec Ideal S128x16 .bf16) (r : Fin 80) (t : Fin 16) :
    k0_pay362 v (ix2 r t) = if h : r.val < 64 then v (ix2 ⟨r, by omega⟩ t) else Ideal.ofBits .bf16 0x3F80#16 := by
  pointwise [k0_pay362]

theorem pay363_at (v : Vec Ideal S128x16 .bf16) (r : Fin 80) (t : Fin 16) :
    k0_pay363 v (ix2 r t) = if h : r.val < 64 then v (ix2 ⟨64 + r, by omega⟩ t) else Ideal.ofBits .bf16 0x3F80#16 := by
  pointwise [k0_pay363]

/-- Widened real queries are real. -/
theorem wide_real (q : Fin 512 → Fin 512 → ℝ) (h : Fin 8) (v : Vec Ideal S1x64x512 .bf16) (hv : ∀ (e : Fin 64) (j : Fin 512), v (ix3 0 e j) = (q ⟨64 * h.val + e.val, by omega⟩ j : EReal))
    (e : Fin 128) (j : Fin 512) : wide h v (ix3 0 e j) = (Qw q h e j : EReal) := by
  unfold wide Qw
  split
  · rw [pay346_at]
    split
    · rw [hv]
    · rw [zero_word]; rfl
  · rw [pay350_at]
    split
    · rw [zero_word]; rfl
    · rw [hv]

/-- So are real meta values. -/
theorem metas_real (vm : Fin 128 → Fin 16 → ℝ) (h : Fin 8) (v : Vec Ideal S128x16 .bf16) (hv : ∀ e t, v (ix2 e t) = (vm e t : EReal)) (r : Fin 80) (t : Fin 16) :
    metas h v (ix2 r t) = (Wm vm h r t : EReal) := by
  unfold metas Wm
  split
  · rename_i hh
    rw [pay362_at]
    split
    · rename_i hr
      rw [hv]
      refine congrArg (fun e : Fin 128 => (vm e t : EReal)) (Fin.ext ?_)
      show r.val = 64 * (h.val / 4) + r.val
      omega
    · rw [Ideal.ofBits_one_bf16]; rfl
  · rename_i hh
    rw [pay363_at]
    split
    · rename_i hr
      rw [hv]
      refine congrArg (fun e : Fin 128 => (vm e t : EReal)) (Fin.ext ?_)
      show 64 + r.val = 64 * (h.val / 4) + r.val
      omega
    · rw [Ideal.ofBits_one_bf16]; rfl

end Cert.AttnIdeal.Final
-- ==== Proof.AttnParts.lean ====
/- What the attention body leaves in the result's block, read off its run: the heads' states after the meta keys, the two
   loops from there, and at the end the real quotients, whichever of the two branches stored them. -/
module

public import proofs.«01_k».proof.Proof.AttnIdealFrame
public import proofs.«01_k».proof.Proof.AttnFinal

@[expose] public section

set_option maxRecDepth 65536

noncomputable section

namespace Cert.AttnIdeal.Parts

open Cert.AttnIdeal Cert.AttnIdeal.Gen Cert.AttnIdeal.Body Cert.AttnIdeal.Trip Cert.AttnIdeal.Step Cert.AttnIdeal.Loop Cert.AttnIdeal.Final
open Idealize.ShloMosaic Idealize.ShloMosaic.TcCoe Idealize.ShloMosaic.Tactic

/-- A head's rows of the queries' block. -/
abbrev rq (h : Fin 8) : Rect S1x512x512 := Rect.unit (s := S1x512x512) ![0, 64 * h.val, 0] S1x64x512.size (by fin_cases h <;> decide)
/-- The whole of the meta keys, -/
abbrev rK : Rect S16x128 := Rect.unit (s := S16x128) ![0, 0] S16x128.size inb_S16x128_S16x128_0_0
/-- of the meta values, -/
abbrev rV : Rect S128x16 := Rect.unit (s := S128x16) ![0, 0] S128x16.size inb_S128x16_S128x16_0_0
/-- of the gain. -/
abbrev rG : Rect S512x1 := Rect.unit (s := S512x1) ![0, 0] S512x1.size inb_S512x1_S512x1_0_0
/-- The first chunk of keys. -/
abbrev rK0 : Rect S1x8192x128 := Rect.unit (s := S1x8192x128) ![0, 0, 0] S1x256x128.size inb_S1x8192x128_S1x256x128_0_0_0

variable (c : Dev nD) (i : grid0.Coords) (arg2 : Memref sig .tc .vmem S1x512x512 .bf16) (harg2 : arg2.IsWhole) (arg3 : Memref sig .tc .vmem S1x8192x128 .bf16) (harg3 : arg3.IsWhole) (arg4 : Memref sig .tc .vmem S1x32x128x256 .bf16) (harg4 : arg4.IsWhole) (arg5 : Memref sig .tc .vmem S16x128 .bf16) (harg5 : arg5.IsWhole) (arg6 : Memref sig .tc .vmem S128x16 .bf16) (harg6 : arg6.IsWhole) (arg7 : Memref sig .tc .vmem S512x1 .f32) (harg7 : arg7.IsWhole) (arg8 : Memref sig .tc .vmem S1x512x512 .bf16) (harg8 : arg8.IsWhole) (arg9 : Memref sig .tc .vmem S8x128x512 .bf16) (harg9 : arg9.IsWhole) (arg10 : Memref sig .tc .vmem S8x1x512 .f32) (harg10 : arg10.IsWhole) (arg11 : Memref sig .tc .vmem S8x72x512 .f32) (harg11 : arg11.IsWhole) (arg12 : Memref sig .tc .vmem S2x256x512 .f32) (harg12 : arg12.IsWhole) (arg13 : Memref sig .tc .vmem S2x1x512 .f32) (harg13 : arg13.IsWhole) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty)

/-- The widened queries as held. -/
abbrev heldQ : BufTy.Contents (Elt Ideal) arg9.view.ty := arg9.view.writes (Elt Ideal) arg9.view.junk (bodyRun.sl.H9_8 (F := Ideal) arg2 X2)

/-- Each head's queries are held widened. -/
theorem q_read (h : Fin 8) : (View.readAt (Elt Ideal) arg9.view (rQ h).toLoadRect (heldQ arg2 arg9 X2)) = wide h (View.readAt (Elt Ideal) arg2.view (rq h).toLoadRect X2) := by
  unfold heldQ bodyRun.sl.H9_8
  fin_cases h
  all_goals repeat (refine Eq.trans (rd_skip _ _ _ _ _ _ ?_) ?_; · decide)
  all_goals refine Eq.trans (rd_hit _ _ _ _ _) ?_
  all_goals rfl

/-- The maxima and the accumulators after the meta keys. -/
theorem m_read (h : Fin 8) : View.readAt (Elt Ideal) arg10.view (rM h).toLoadRect (arg10.view.writes (Elt Ideal) arg10.view.junk (bodyRun.sl.H10_8 (F := Ideal) arg2 arg5 arg9 X2 X5)) = k0_pay373 (k0_pay364 (View.readAt (Elt Ideal) arg5.view rK.toLoadRect X5) (View.readAt (Elt Ideal) arg9.view (rQ h).toLoadRect (heldQ arg2 arg9 X2))) := by
  unfold bodyRun.sl.H10_8
  fin_cases h
  all_goals repeat (refine Eq.trans (rd_skip _ _ _ _ _ _ ?_) ?_; · decide)
  all_goals refine Eq.trans (rd_hit _ _ _ _ _) ?_
  all_goals rfl

theorem a_read (h : Fin 8) : View.readAt (Elt Ideal) arg11.view (rA h).toLoadRect (arg11.view.writes (Elt Ideal) arg11.view.junk (bodyRun.sl.H11_8 (F := Ideal) arg2 arg5 arg6 arg9 X2 X5 X6)) = k0_pay397 (k0_pay396 (metas h (View.readAt (Elt Ideal) arg6.view rV.toLoadRect X6)) (k0_pay374 (k0_pay364 (View.readAt (Elt Ideal) arg5.view rK.toLoadRect X5) (View.readAt (Elt Ideal) arg9.view (rQ h).toLoadRect (heldQ arg2 arg9 X2))))) := by
  unfold bodyRun.sl.H11_8
  fin_cases h
  all_goals repeat (refine Eq.trans (rd_skip _ _ _ _ _ _ ?_) ?_; · decide)
  all_goals refine Eq.trans (rd_hit _ _ _ _ _) ?_
  all_goals rfl

/-- The scores and maxima carried into the first trip. -/
theorem s_read (h : Fin 2) (t : Fin 256) (j : Fin 512) : View.readAt (Elt Ideal) arg12.view (rS h).toLoadRect (arg12.view.writes (Elt Ideal) arg12.view.junk (bodyRun.sl.H12_2 (F := Ideal) arg2 arg3 arg9 X2 X3)) (ix3 0 t j)
    = k0_pay74 (k0_pay73 (View.readAt (Elt Ideal) arg3.view rK0.toLoadRect X3)) (View.readAt (Elt Ideal) arg9.view (rQ ⟨h.val, by omega⟩).toLoadRect (heldQ arg2 arg9 X2)) (ix2 t j) := by
  unfold bodyRun.sl.H12_2
  fin_cases h
  all_goals repeat (refine Eq.trans (congrFun (rd_skip _ _ _ _ _ _ ?_) _) ?_; · decide)
  all_goals refine Eq.trans (congrFun (rd_hit _ _ _ _ _) _) ?_
  · unfold bodyRun.sl.v52 bodyRun.sl.v54 bodyRun.sl.v53
    pointwise [k0_pay357, k0_pay356, k0_pay74, k0_pay73]
    rfl
  · unfold bodyRun.sl.v68
    pointwise [k0_pay360, k0_pay359, k0_pay74, k0_pay73]
    rfl

theorem x_read (h : Fin 2) (j : Fin 512) : View.readAt (Elt Ideal) arg13.view (rX h).toLoadRect (arg13.view.writes (Elt Ideal) arg13.view.junk (bodyRun.sl.H13_2 (F := Ideal) arg2 arg3 arg9 X2 X3)) (ix3 0 0 j)
    = k0_pay75 (k0_pay73 (View.readAt (Elt Ideal) arg3.view rK0.toLoadRect X3)) (View.readAt (Elt Ideal) arg9.view (rQ ⟨h.val, by omega⟩).toLoadRect (heldQ arg2 arg9 X2)) (ix2 0 j) := by
  unfold bodyRun.sl.H13_2
  fin_cases h
  all_goals repeat (refine Eq.trans (congrFun (rd_skip _ _ _ _ _ _ ?_) _) ?_; · decide)
  all_goals refine Eq.trans (congrFun (rd_hit _ _ _ _ _) _) ?_
  · unfold bodyRun.sl.v52 bodyRun.sl.v54 bodyRun.sl.v53
    pointwise [k0_pay358, k0_pay356, k0_pay75, k0_pay74, k0_pay73]
    rfl
  · unfold bodyRun.sl.v68
    pointwise [k0_pay361, k0_pay359, k0_pay75, k0_pay74, k0_pay73]
    rfl

/-- What the fast branch stores. -/
theorem fast_value : (bodyRun (F := Ideal) c i arg2 harg2 arg3 harg3 arg4 harg4 arg5 harg5 arg6 harg6 arg7 harg7 arg8 harg8 arg9 harg9 arg10 harg10 arg11 harg11 arg12 harg12 arg13 harg13 X2 X3 X4 X5 X6 X7).2.2.1 = outv arg11 (arg11.view.writes (Elt Ideal) (arg11.view.writes (Elt Ideal) arg11.view.junk (bodyRun.sl.H11_8 (F := Ideal) arg2 arg5 arg6 arg9 X2 X5 X6)) (st_k0_t1 (F := Ideal) Variants.none c none i arg2 harg2 arg3 harg3 arg4 harg4 arg5 harg5 arg6 harg6 arg7 harg7 arg8 harg8 arg9 harg9 arg10 harg10 arg11 harg11 arg12 harg12 arg13 harg13 (bodyRun.sl.r_3 (F := Ideal) arg6 X6) (bodyRun.sl.r_19 (F := Ideal) arg2 arg5 arg9 X2 X5) (bodyRun.sl.r_21 (F := Ideal) arg2 arg5 arg6 arg9 X2 X5 X6) X3 X4 (heldQ arg2 arg9 X2) (arg10.view.writes (Elt Ideal) arg10.view.junk (bodyRun.sl.H10_8 (F := Ideal) arg2 arg5 arg9 X2 X5)) (arg11.view.writes (Elt Ideal) arg11.view.junk (bodyRun.sl.H11_8 (F := Ideal) arg2 arg5 arg6 arg9 X2 X5 X6)) (arg12.view.writes (Elt Ideal) arg12.view.junk (bodyRun.sl.H12_2 (F := Ideal) arg2 arg3 arg9 X2 X3)) (arg13.view.writes (Elt Ideal) arg13.view.junk (bodyRun.sl.H13_2 (F := Ideal) arg2 arg3 arg9 X2 X3)) k0_pay406 k0_t1_loop.trips).2.2.1) (View.readAt (Elt Ideal) arg7.view rG.toLoadRect X7) := by
  rw [← View.writes_append]
  unfold bodyRun
  rfl

/-- What the exact branch stores: its loop starts from the meta keys again. -/
theorem exact_value : ∃ (G10 : BufTy.Contents (Elt Ideal) arg10.view.ty) (L : List (View.Piece (Elt Ideal) S8x72x512 .f32)),
    (bodyRun (F := Ideal) c i arg2 harg2 arg3 harg3 arg4 harg4 arg5 harg5 arg6 harg6 arg7 harg7 arg8 harg8 arg9 harg9 arg10 harg10 arg11 harg11 arg12 harg12 arg13 harg13 X2 X3 X4 X5 X6 X7).2.1 = outv arg11 (arg11.view.writes (Elt Ideal) arg11.view.junk ((pb_k0_t2 (F := Ideal) Variants.none c none i arg2 harg2 arg3 harg3 arg4 harg4 arg5 harg5 arg6 harg6 arg7 harg7 arg8 harg8 arg9 harg9 arg10 harg10 arg11 harg11 arg12 harg12 arg13 harg13 (bodyRun.sl.r_3 (F := Ideal) arg6 X6) (bodyRun.sl.r_19 (F := Ideal) arg2 arg5 arg9 X2 X5) (bodyRun.sl.r_21 (F := Ideal) arg2 arg5 arg6 arg9 X2 X5 X6) X3 X4 (heldQ arg2 arg9 X2) G10 (arg11.view.writes (Elt Ideal) arg11.view.junk L) k0_t2_loop.trips).2 ++ L)) (View.readAt (Elt Ideal) arg7.view rG.toLoadRect X7)
    ∧ ∀ h : Fin 8, View.readAt (Elt Ideal) arg10.view (rM h).toLoadRect G10 = k0_pay373 (k0_pay364 (View.readAt (Elt Ideal) arg5.view rK.toLoadRect X5) (View.readAt (Elt Ideal) arg9.view (rQ h).toLoadRect (heldQ arg2 arg9 X2)))
      ∧ View.readAt (Elt Ideal) arg11.view (rA h).toLoadRect (arg11.view.writes (Elt Ideal) arg11.view.junk L) = k0_pay397 (k0_pay396 (metas h (View.readAt (Elt Ideal) arg6.view rV.toLoadRect X6)) (k0_pay374 (k0_pay364 (View.readAt (Elt Ideal) arg5.view rK.toLoadRect X5) (View.readAt (Elt Ideal) arg9.view (rQ h).toLoadRect (heldQ arg2 arg9 X2))))) := by
  unfold bodyRun
  refine ⟨_, _, rfl, fun h => ⟨?_, ?_⟩⟩
  · fin_cases h
    all_goals repeat (refine Eq.trans (rd_skip _ _ _ _ _ _ ?_) ?_; · decide)
    all_goals refine Eq.trans (rd_hit _ _ _ _ _) ?_
    all_goals rfl
  · fin_cases h
    all_goals repeat (refine Eq.trans (rd_skip _ _ _ _ _ _ ?_) ?_; · decide)
    all_goals refine Eq.trans (rd_hit _ _ _ _ _) ?_
    all_goals rfl

/-- A row of a head's queries is one of the 512. -/
theorem row_lt (h : Fin 8) (e : Fin 64) : 64 * h.val + e.val < 512 := by omega

section real
variable {X2 X3 X4 X5 X6} {q : Fin 512 → Fin 512 → ℝ} {K : ℕ → Fin 256 → Fin 128 → ℝ} {Vr : ℕ → Fin 128 → Fin 256 → ℝ} {km : Fin 16 → Fin 128 → ℝ} {vm : Fin 128 → Fin 16 → ℝ}
variable (hq : ∀ (h : Fin 8) (e : Fin 64) (j : Fin 512), View.readAt (Elt Ideal) arg2.view (rq h).toLoadRect X2 (ix3 0 e j) = (q ⟨64 * h.val + e.val, row_lt h e⟩ j : EReal))
  (hK : Keys K arg3 X3) (hV : Vals Vr arg4 X4)
  (hkm : ∀ t e, (View.readAt (Elt Ideal) arg5.view rK.toLoadRect X5) (ix2 t e) = (km t e : EReal)) (hvm : ∀ e t, (View.readAt (Elt Ideal) arg6.view rV.toLoadRect X6) (ix2 e t) = (vm e t : EReal))

/-- What the meta keys give head `h`. -/
def first (q : Fin 512 → Fin 512 → ℝ) (km : Fin 16 → Fin 128 → ℝ) (vm : Fin 128 → Fin 16 → ℝ) (h : Fin 8) (r : Fin 72) (j : Fin 512) : ℝ :=
  ∑ t : Fin 16, Wm vm h ⟨r, by omega⟩ t * (2 : ℝ) ^ (∑ e : Fin 128, km t e * Qw q h e j)

/-- What all keys give head `h`. -/
def total (q : Fin 512 → Fin 512 → ℝ) (K : ℕ → Fin 256 → Fin 128 → ℝ) (Vr : ℕ → Fin 128 → Fin 256 → ℝ) (km : Fin 16 → Fin 128 → ℝ) (vm : Fin 128 → Fin 16 → ℝ) (h : Fin 8) (r : Fin 72) (j : Fin 512) : ℝ :=
  first q km vm h r j + ∑ p ∈ Finset.range 32, part K Vr (Qw q) h p r j

/-- Entry `d` of query `j`. -/
def ratio (q : Fin 512 → Fin 512 → ℝ) (K : ℕ → Fin 256 → Fin 128 → ℝ) (Vr : ℕ → Fin 128 → Fin 256 → ℝ) (km : Fin 16 → Fin 128 → ℝ) (vm : Fin 128 → Fin 16 → ℝ) (d j : Fin 512) : ℝ :=
  total q K Vr km vm ⟨d.val / 64, by omega⟩ ⟨d.val % 64, by omega⟩ j / total q K Vr km vm ⟨d.val / 64, by omega⟩ 64 j

include hq in
theorem queries : Queries (Qw q) arg9 (heldQ arg2 arg9 X2) := fun h e j => by
  rw [q_read]
  exact wide_real q h _ (hq h) e j

include hq hkm hvm in
/-- The states after the meta keys. -/
theorem start (h : Fin 8) : Good (k0_pay373 (k0_pay364 (View.readAt (Elt Ideal) arg5.view rK.toLoadRect X5) (View.readAt (Elt Ideal) arg9.view (rQ h).toLoadRect (heldQ arg2 arg9 X2)))) (k0_pay397 (k0_pay396 (metas h (View.readAt (Elt Ideal) arg6.view rV.toLoadRect X6)) (k0_pay374 (k0_pay364 (View.readAt (Elt Ideal) arg5.view rK.toLoadRect X5) (View.readAt (Elt Ideal) arg9.view (rQ h).toLoadRect (heldQ arg2 arg9 X2)))))) (first q km vm h) :=
  Good.start (metas_real vm h _ hvm) (pay364_real _ _ km (Qw q h) hkm (queries arg2 arg9 hq h))

/-- Sums of positive weights are positive. -/
theorem total_pos (h : Fin 8) (j : Fin 512) : 0 < total q K Vr km vm h 64 j := by
  unfold total first part adds
  refine add_pos_of_pos_of_nonneg (Finset.sum_pos (fun t _ => ?_) ⟨0, Finset.mem_univ _⟩) (Finset.sum_nonneg fun p _ => Finset.sum_nonneg fun t _ => ?_)
  · have e : Wm vm h ⟨((64 : Fin 72) : ℕ), by decide⟩ t = 1 := dif_neg (by show ¬ (64 : ℕ) < 64; omega)
    rw [e, one_mul]
    exact Real.rpow_pos_of_pos (by norm_num) _
  · have e : W Vr h p ⟨((64 : Fin 72) : ℕ), by decide⟩ t = 1 := dif_neg (by show ¬ (64 : ℕ) < 64; omega)
    rw [e, one_mul]
    exact (Real.rpow_pos_of_pos (by norm_num) _).le

/-- The quotient does not see the common power of two. -/
theorem entry_ratio {f10 : BufTy.Contents (Elt Ideal) arg10.view.ty} {f11 : BufTy.Contents (Elt Ideal) arg11.view.ty} {n : ℕ} (hn : n = 32) (h : Upto arg10 arg11 K Vr (Qw q) (first q km vm) f10 f11 n) (d j : Fin 512) :
    entry arg11 f11 d j = (ratio q K Vr km vm d j : EReal) := by
  subst hn
  obtain ⟨M, -, hA⟩ := h ⟨d.val / 64, by omega⟩ j
  have hp : (0 : ℝ) < (2 : ℝ) ^ (-M) := Real.rpow_pos_of_pos (by norm_num) _
  have hn : (2 : ℝ) ^ (-M) * total q K Vr km vm ⟨d.val / 64, by omega⟩ 64 j ≠ 0 := (mul_pos hp (total_pos _ _)).ne'
  unfold entry
  rw [hA, hA]
  refine Eq.trans (Ideal.div_coe hn _) ?_
  rw [← EReal.coe_mul, mul_one_div]
  refine congrArg (fun z : ℝ => (z : EReal)) ?_
  exact mul_div_mul_left _ _ hp.ne'

include hq hK hV hkm hvm
/-- The fast branch stores the normed quotients. -/
theorem fast_at (j d : Fin 512) : (bodyRun (F := Ideal) c i arg2 harg2 arg3 harg3 arg4 harg4 arg5 harg5 arg6 harg6 arg7 harg7 arg8 harg8 arg9 harg9 arg10 harg10 arg11 harg11 arg12 harg12 arg13 harg13 X2 X3 X4 X5 X6 X7).2.2.1 (ix3 0 j d) = normed (fun e => (ratio q K Vr km vm e j : EReal)) (fun e => (View.readAt (Elt Ideal) arg7.view rG.toLoadRect X7) (ix2 e 0)) d := by
  rw [fast_value, outv_at]
  refine congrArg (fun o => normed o _ d) (funext fun e => ?_)
  refine entry_ratio arg10 arg11 (by decide : 4 * k0_t1_loop.trips = 32) (fast_loop Variants.none c none i arg2 harg2 arg3 harg3 arg4 harg4 arg5 harg5 arg6 harg6 arg7 harg7 arg8 harg8 arg9 harg9 arg10 harg10 arg11 harg11 arg12 harg12 arg13 harg13 _ _ _ hK hV (queries arg2 arg9 hq) (arg10.view.writes (Elt Ideal) arg10.view.junk (bodyRun.sl.H10_8 (F := Ideal) arg2 arg5 arg9 X2 X5)) (arg11.view.writes (Elt Ideal) arg11.view.junk (bodyRun.sl.H11_8 (F := Ideal) arg2 arg5 arg6 arg9 X2 X5 X6)) (arg12.view.writes (Elt Ideal) arg12.view.junk (bodyRun.sl.H12_2 (F := Ideal) arg2 arg3 arg9 X2 X3)) (arg13.view.writes (Elt Ideal) arg13.view.junk (bodyRun.sl.H13_2 (F := Ideal) arg2 arg3 arg9 X2 X3)) k0_pay406 (fun h => ?_) ⟨fun h t j => ?_, fun h j => ?_⟩ k0_t1_loop.trips le_rfl).1 e j
  · rw [m_read, a_read]
    simpa using start arg2 arg5 arg6 arg9 hq hkm hvm h
  · rw [s_read]
    exact scores_real _ _ (K 0) (Qw q ⟨h.val, by omega⟩) (hK _ _ 0 rfl) (queries arg2 arg9 hq _) t j
  · rw [x_read]
    exact pay75_real _ _ (K 0) (Qw q ⟨h.val, by omega⟩) (hK _ _ 0 rfl) (queries arg2 arg9 hq _) j

/-- The exact branch stores them too. -/
theorem exact_at (j d : Fin 512) : (bodyRun (F := Ideal) c i arg2 harg2 arg3 harg3 arg4 harg4 arg5 harg5 arg6 harg6 arg7 harg7 arg8 harg8 arg9 harg9 arg10 harg10 arg11 harg11 arg12 harg12 arg13 harg13 X2 X3 X4 X5 X6 X7).2.1 (ix3 0 j d) = normed (fun e => (ratio q K Vr km vm e j : EReal)) (fun e => (View.readAt (Elt Ideal) arg7.view rG.toLoadRect X7) (ix2 e 0)) d := by
  obtain ⟨G10, L, e, hs⟩ := exact_value c i arg2 harg2 arg3 harg3 arg4 harg4 arg5 harg5 arg6 harg6 arg7 harg7 arg8 harg8 arg9 harg9 arg10 harg10 arg11 harg11 arg12 harg12 arg13 harg13 X2 X3 X4 X5 X6 X7
  rw [e, outv_at]
  refine congrArg (fun o => normed o _ d) (funext fun e => ?_)
  rw [View.writes_append]
  refine entry_ratio arg10 arg11 (by decide : k0_t2_loop.trips = 32) (exact_loop Variants.none c none i arg2 harg2 arg3 harg3 arg4 harg4 arg5 harg5 arg6 harg6 arg7 harg7 arg8 harg8 arg9 harg9 arg10 harg10 arg11 harg11 arg12 harg12 arg13 harg13 _ _ _ hK hV (queries arg2 arg9 hq) G10 _ (fun h => ?_) k0_t2_loop.trips le_rfl) e j
  rw [(hs h).1, (hs h).2]
  simpa using start arg2 arg5 arg6 arg9 hq hkm hvm h
end real

end Cert.AttnIdeal.Parts
-- ==== Proof.AttnWhole.lean ====
/- The `attention` call's mathematics over real arrays: for a query and a head, two to the score of every key (the sixteen
   meta keys first), the weighted mean of the values, and the norm of the query's 512 entries. -/
module

public import proofs.«01_k».proof.Proof.AttnParts

@[expose] public section

noncomputable section

namespace Cert.AttnWhole

open Idealize.ShloMosaic Idealize.ShloMosaic.TcCoe
open Cert.AttnIdeal.Step Cert.AttnIdeal.Loop Cert.AttnIdeal.Final Cert.AttnIdeal.Parts

/-- The real numbers in the call's arrays. -/
structure Reals where
  q : Fin 8 → Fin 512 → Fin 8192 → ℝ
  k : Fin 8 → Fin 8192 → Fin 128 → ℝ
  v : Fin 8 → Fin 32 → Fin 128 → Fin 256 → ℝ
  km : Fin 16 → Fin 128 → ℝ
  vm : Fin 128 → Fin 16 → ℝ

variable (R : Reals)

/-- Key `p`, the meta keys first. -/
def key (b : Fin 8) (p : ℕ) (e : Fin 128) : ℝ := if h : p < 16 then R.km ⟨p, h⟩ e else if h : p - 16 < 8192 then R.k b ⟨p - 16, h⟩ e else 0

/-- Value `p`, the meta values first. -/
def val (b : Fin 8) (p : ℕ) (e : Fin 128) : ℝ := if h : p < 16 then R.vm e ⟨p, h⟩ else if h : (p - 16) / 256 < 32 then R.v b ⟨(p - 16) / 256, h⟩ e ⟨(p - 16) % 256, by omega⟩ else 0

/-- The weight of key `p` for the query at `s` in head `h`. -/
def weight (b : Fin 8) (s : Fin 8192) (h : Fin 8) (p : ℕ) : ℝ := (2 : ℝ) ^ (∑ e : Fin 64, R.q b ⟨64 * h.val + e.val, by omega⟩ s * key R b p ⟨64 * (h.val / 4) + e.val, by omega⟩)

/-- Entry `r` of the weighted mean. -/
def mean (b : Fin 8) (s : Fin 8192) (h : Fin 8) (r : Fin 64) : ℝ :=
  (∑ p : Fin 8208, weight R b s h p * val R b p ⟨64 * (h.val / 4) + r.val, by omega⟩) / ∑ p : Fin 8208, weight R b s h p

/-- The result at query `s`, entry `d`. -/
def result (g : Fin 512 → EReal) (b : Fin 8) (s : Fin 8192) (d : Fin 512) : EReal :=
  normed (fun e => (mean R b s ⟨e.val / 64, by omega⟩ ⟨e.val % 64, by omega⟩ : EReal)) g d

/-- A sum over chunks of 256. -/
theorem sum_chunks (g : ℕ → ℝ) : ∀ N : ℕ, ∑ p ∈ Finset.range (256 * N), g p = ∑ n ∈ Finset.range N, ∑ t : Fin 256, g (256 * n + t.val)
  | 0 => by simp
  | N + 1 => by
    rw [show 256 * (N + 1) = 256 * N + 256 by ring, Finset.sum_range_add, sum_chunks g N, Finset.sum_range_succ (fun n => ∑ t : Fin 256, g (256 * n + t.val)) N, Finset.sum_range (fun x => g (256 * N + x))]

/-- A sum over all keys: the meta keys, then 32 chunks of 256. -/
theorem sum_keys (g : ℕ → ℝ) : ∑ p : Fin 8208, g p.val = ∑ t : Fin 16, g t.val + ∑ n ∈ Finset.range 32, ∑ t : Fin 256, g (16 + (256 * n + t.val)) := by
  rw [← Finset.sum_range g, show 8208 = 16 + 256 * 32 by norm_num, Finset.sum_range_add, Finset.sum_range g, sum_chunks (fun x => g (16 + x)) 32]

/-- A product with a widened query is a product over its 64 rows. -/
theorem wide_sum (f : Fin 128 → ℝ) (q : Fin 512 → Fin 512 → ℝ) (h : Fin 8) (j : Fin 512) :
    ∑ e : Fin 128, f e * Qw q h e j = ∑ e : Fin 64, q ⟨64 * h.val + e.val, by omega⟩ j * f ⟨64 * (h.val / 4) + e.val, by omega⟩ := by
  have hs : ∑ e : Fin 128, f e * Qw q h e j = ∑ e : Fin 64, f ⟨e.val, by omega⟩ * Qw q h ⟨e.val, by omega⟩ j + ∑ e : Fin 64, f ⟨64 + e.val, by omega⟩ * Qw q h ⟨64 + e.val, by omega⟩ j :=
    Fin.sum_univ_add (a := 64) (b := 64) fun e => f e * Qw q h e j
  rw [hs]
  by_cases hh : h.val < 4
  · have e1 : ∀ e : Fin 64, Qw q h ⟨e.val, by omega⟩ j = q ⟨64 * h.val + e.val, by omega⟩ j := fun e => by
      unfold Qw; rw [if_pos hh, dif_pos e.isLt]
    have e2 : ∀ e : Fin 64, Qw q h ⟨64 + e.val, by omega⟩ j = 0 := fun e => by
      unfold Qw; rw [if_pos hh, dif_neg (by show ¬ 64 + e.val < 64; omega)]
    simp only [e1, e2, mul_zero, Finset.sum_const_zero, add_zero]
    refine Finset.sum_congr rfl fun e _ => ?_
    rw [mul_comm]
    refine congrArg (fun z : Fin 128 => q ⟨64 * h.val + e.val, by omega⟩ j * f z) (Fin.ext ?_)
    show e.val = 64 * (h.val / 4) + e.val
    omega
  · have e1 : ∀ e : Fin 64, Qw q h ⟨e.val, by omega⟩ j = 0 := fun e => by
      unfold Qw; rw [if_neg hh, dif_pos e.isLt]
    have e2 : ∀ e : Fin 64, Qw q h ⟨64 + e.val, by omega⟩ j = q ⟨64 * h.val + e.val, by omega⟩ j := fun e => by
      unfold Qw
      rw [if_neg hh, dif_neg (by show ¬ 64 + e.val < 64; omega)]
      refine congrArg (fun z : Fin 512 => q z j) (Fin.ext ?_)
      show 64 * h.val + (64 + e.val - 64) = 64 * h.val + e.val
      omega
    simp only [e1, e2, mul_zero, Finset.sum_const_zero, zero_add]
    refine Finset.sum_congr rfl fun e _ => ?_
    rw [mul_comm]
    refine congrArg (fun z : Fin 128 => q ⟨64 * h.val + e.val, by omega⟩ j * f z) (Fin.ext ?_)
    show 64 + e.val = 64 * (h.val / 4) + e.val
    omega

/-- The block's queries, keys and values at a grid point. -/
def bq (b : Fin 8) (i : Fin 16) (r j : Fin 512) : ℝ := R.q b r ⟨512 * i.val + j.val, by omega⟩
def bk (b : Fin 8) (n : ℕ) (t : Fin 256) (e : Fin 128) : ℝ := key R b (16 + (256 * n + t.val)) e
def bv (b : Fin 8) (n : ℕ) (e : Fin 128) (t : Fin 256) : ℝ := val R b (16 + (256 * n + t.val)) e

/-- The block's sums are sums over all keys. -/
theorem total_eq (b : Fin 8) (i : Fin 16) (h : Fin 8) (r : Fin 72) (j : Fin 512) :
    total (bq R b i) (bk R b) (bv R b) R.km R.vm h r j
      = ∑ p : Fin 8208, (if hr : r.val < 64 then val R b p.val ⟨64 * (h.val / 4) + r.val, by omega⟩ else 1) * weight R b ⟨512 * i.val + j.val, by omega⟩ h p.val := by
  rw [sum_keys (fun p => (if hr : r.val < 64 then val R b p ⟨64 * (h.val / 4) + r.val, by omega⟩ else 1) * weight R b ⟨512 * i.val + j.val, by omega⟩ h p)]
  unfold total first part adds
  refine congrArg₂ (· + ·) (Finset.sum_congr rfl fun t _ => congrArg₂ (· * ·) ?_ ?_) (Finset.sum_congr rfl fun n _ => Finset.sum_congr rfl fun t _ => congrArg₂ (· * ·) ?_ ?_)
  · unfold Wm
    refine dite_congr rfl (fun hr => ?_) fun _ => rfl
    exact (show val R b t.val _ = _ from dif_pos t.isLt).symm
  · unfold weight
    rw [wide_sum]
    refine congrArg (fun z : ℝ => (2 : ℝ) ^ z) (Finset.sum_congr rfl fun e _ => congrArg₂ (· * ·) rfl ?_)
    exact (show key R b t.val _ = _ from dif_pos t.isLt).symm
  · rfl
  · unfold weight S
    rw [wide_sum]
    rfl

/-- The block's quotient is the weighted mean. -/
theorem ratio_eq (b : Fin 8) (i : Fin 16) (d j : Fin 512) :
    ratio (bq R b i) (bk R b) (bv R b) R.km R.vm d j = mean R b ⟨512 * i.val + j.val, by omega⟩ ⟨d.val / 64, by omega⟩ ⟨d.val % 64, by omega⟩ := by
  unfold ratio mean
  rw [total_eq, total_eq]
  refine congrArg₂ (· / ·) (Finset.sum_congr rfl fun p _ => ?_) (Finset.sum_congr rfl fun p _ => ?_)
  · rw [dif_pos (by show d.val % 64 < 64; omega), mul_comm]
  · rw [dif_neg (by show ¬ (64 : ℕ) < 64; omega), one_mul]

end Cert.AttnWhole
-- ==== Proof.AttnReal.lean ====
/- The `attention` call's argument arrays holding real numbers. -/
module

public import proofs.«01_k».proof.Proof.AttnWhole

@[expose] public section

noncomputable section

namespace Cert.AttnWhole

open Idealize.ShloMosaic Idealize.ShloMosaic.TcCoe
open Cert.AttnIdeal

/-- The queries, keys, values, meta keys and meta values are the real numbers `R`. -/
structure Holds (R : Reals) (a0 : FVec Ideal S8x512x8192 .bf16) (a1 : FVec Ideal S8x8192x128 .bf16)
    (a2 : FVec Ideal S8x32x128x256 .bf16) (a3 : FVec Ideal S16x128 .bf16) (a4 : FVec Ideal S128x16 .bf16) : Prop where
  q : ∀ b r s, a0 (ix3 b r s) = ((R.q b r s : ℝ) : EReal)
  k : ∀ b s e, a1 (ix3 b s e) = ((R.k b s e : ℝ) : EReal)
  v : ∀ b n e t, a2 (ix4 b n e t) = ((R.v b n e t : ℝ) : EReal)
  km : ∀ t e, a3 (ix2 t e) = ((R.km t e : ℝ) : EReal)
  vm : ∀ e t, a4 (ix2 e t) = ((R.vm e t : ℝ) : EReal)

/-- The result array. -/
def goal (R : Reals) (a5 : FVec Ideal S512x1 .f32) : FVec Ideal S8x8192x512 .bf16 :=
  fun y => result R (fun e => a5 (ix2 e 0)) (y 0) (y 1) (y 2)

end Cert.AttnWhole

end
-- ==== Proof.AttnArray.lean ====
/- The `attention` kernel's result array after the run, the arguments holding real numbers: every grid point's block is its
   part of `Cert.AttnWhole.goal`, and the blocks tile the array. -/
module

public import proofs.«01_k».proof.Proof.AttnReal
public import proofs.«01_k».proof.Proof.AttnIdealFrame
public import Idealize.ShloMosaic.Lib.Claim
public import Idealize.ShloMosaic.Lib.WholeRead

@[expose] public section

set_option maxRecDepth 16384

noncomputable section

open Idealize.ShloMosaic Idealize.ShloMosaic.TcCoe Idealize.SL.Sem
open Idealize.ShloMosaic.Pipeline (Dat)
open Cert.AttnIdeal Cert.AttnIdeal.Gen Cert.AttnIdeal.Body Cert.AttnIdeal.Step Cert.AttnIdeal.Loop Cert.AttnIdeal.Final Cert.AttnIdeal.Parts
open Cert.AttnWhole

namespace Cert.AttnArray

section reads
variable {R : Reals} {b : Fin 8} {i : Fin 16}

/-- A head's queries, read from the staged block. -/
theorem read_q (M : Memref sig .tc .vmem S1x512x512 .bf16) (hM : M.IsWhole) (x : Vec Ideal S1x512x512 .bf16)
    (hx : ∀ r j, x (ix3 0 r j) = ((bq R b i r j : ℝ) : EReal)) (h : Fin 8) (e : Fin 64) (j : Fin 512) :
    View.readAt (Elt Ideal) M.view (rq h).toLoadRect (hM.unread x) (ix3 0 e j) = ((bq R b i ⟨64 * h.val + e.val, by omega⟩ j : ℝ) : EReal) := by
  rw [hM.readAt_unread, ← hx]
  congr 1
  funext a
  refine Fin.ext ?_
  match a with
  | ⟨0, _⟩ => exact ValueKit.rect_emb_unit_val _ _ _ _ _
  | ⟨1, _⟩ => exact ValueKit.rect_emb_unit_val _ _ _ _ _
  | ⟨2, _⟩ => exact (ValueKit.rect_emb_unit_val _ _ _ _ _).trans (Nat.zero_add _)

/-- The chunks of keys, read from the staged block. -/
theorem read_k (M : Memref sig .tc .vmem S1x8192x128 .bf16) (hM : M.IsWhole) (x : Vec Ideal S1x8192x128 .bf16)
    (hx : ∀ s e, x (ix3 0 s e) = ((R.k b s e : ℝ) : EReal)) : Keys (bk R b) M (hM.unread x) := by
  intro off inb n ho t e
  subst ho
  have hn : 256 * n + 256 ≤ 8192 := inb 1
  have hk : bk R b n t e = R.k b ⟨256 * n + t.val, by omega⟩ e := by
    unfold bk key
    rw [dif_neg (by omega), dif_pos (by omega)]
    refine congrArg (fun z => R.k b z e) (Fin.ext ?_)
    show 16 + (256 * n + t.val) - 16 = 256 * n + t.val
    omega
  rw [hM.readAt_unread, hk, ← hx]
  congr 1
  funext a
  refine Fin.ext ?_
  match a with
  | ⟨0, _⟩ => exact ValueKit.rect_emb_unit_val _ _ _ _ _
  | ⟨1, _⟩ => exact ValueKit.rect_emb_unit_val _ _ _ _ _
  | ⟨2, _⟩ => exact (ValueKit.rect_emb_unit_val _ _ _ _ _).trans (Nat.zero_add _)

/-- The chunks of values, read from the staged block. -/
theorem read_v (M : Memref sig .tc .vmem S1x32x128x256 .bf16) (hM : M.IsWhole) (x : Vec Ideal S1x32x128x256 .bf16)
    (hx : ∀ n e t, x (ix4 0 n e t) = ((R.v b n e t : ℝ) : EReal)) : Vals (bv R b) M (hM.unread x) := by
  intro off inb n ho e t
  subst ho
  have hn : n + 1 ≤ 32 := inb 1
  have hv : bv R b n e t = R.v b ⟨n, by omega⟩ e t := by
    unfold bv val
    rw [dif_neg (by omega), dif_pos (by omega)]
    refine congrArg₂ (fun y z => R.v b y e z) (Fin.ext ?_) (Fin.ext ?_)
    · show (16 + (256 * n + t.val) - 16) / 256 = n
      omega
    · show (16 + (256 * n + t.val) - 16) % 256 = t.val
      omega
  rw [hM.readAt_unread, hv, ← hx]
  congr 1
  funext a
  refine Fin.ext ?_
  match a with
  | ⟨0, _⟩ => exact ValueKit.rect_emb_unit_val _ _ _ _ _
  | ⟨1, _⟩ => exact ValueKit.rect_emb_unit_val _ _ _ _ _
  | ⟨2, _⟩ => exact (ValueKit.rect_emb_unit_val _ _ _ _ _).trans (Nat.zero_add _)
  | ⟨3, _⟩ => exact (ValueKit.rect_emb_unit_val _ _ _ _ _).trans (Nat.zero_add _)

end reads

/-- A load of a whole array of two axes reads it. -/
theorem read_whole {s0 s1 : ℕ} {e : EltTy} (M : Memref sig .tc .vmem ⟨2, ![s0, s1]⟩ e) (hM : M.IsWhole) (x : Vec Ideal ⟨2, ![s0, s1]⟩ e)
    (inb : ∀ a, (![0, 0] : Fin 2 → ℕ) a + (⟨2, ![s0, s1]⟩ : Shape).size a ≤ (⟨2, ![s0, s1]⟩ : Shape).size a) (y : Fin s0) (z : Fin s1) :
    View.readAt (Elt Ideal) M.view (Rect.unit (s := ⟨2, ![s0, s1]⟩) ![0, 0] (⟨2, ![s0, s1]⟩ : Shape).size inb).toLoadRect (hM.unread x) (ix2 y z) = x (ix2 y z) := by
  rw [hM.readAt_unread]
  congr 1
  funext a
  refine Fin.ext ?_
  match a with
  | ⟨0, _⟩ => exact (ValueKit.rect_emb_unit_val _ _ _ _ _).trans (Nat.zero_add _)
  | ⟨1, _⟩ => exact (ValueKit.rect_emb_unit_val _ _ _ _ _).trans (Nat.zero_add _)

/-- What the body stores on blocks that hold real numbers, whichever branch it takes. -/
theorem stored_at {R : Reals} {b : Fin 8} {i : Fin 16} (c : Dev nD) (t : Fin cfg0.N) (x0 : Vec Ideal S1x512x512 .bf16) (x1 : Vec Ideal S1x8192x128 .bf16)
    (x2 : Vec Ideal S1x32x128x256 .bf16) (x3 : Vec Ideal S16x128 .bf16) (x4 : Vec Ideal S128x16 .bf16) (x5 : Vec Ideal S512x1 .f32)
    (h0 : ∀ r j, x0 (ix3 0 r j) = ((bq R b i r j : ℝ) : EReal)) (h1 : ∀ s e, x1 (ix3 0 s e) = ((R.k b s e : ℝ) : EReal))
    (h2 : ∀ n e t, x2 (ix4 0 n e t) = ((R.v b n e t : ℝ) : EReal)) (h3 : ∀ t e, x3 (ix2 t e) = ((R.km t e : ℝ) : EReal))
    (h4 : ∀ e t, x4 (ix2 e t) = ((R.vm e t : ℝ) : EReal)) (j d : Fin 512) :
    stored c t x0 x1 x2 x3 x4 x5 (ix3 0 j d) = result R (fun e => x5 (ix2 e 0)) b ⟨512 * i.val + j.val, by omega⟩ d := by
  have hq := read_q (win0_0.stage (cfg0.slots t 0)) (hstage0_0 ((cfg0.slots t 0).cast nbuf0_0)) x0 h0
  have hK := read_k (win0_1.stage (cfg0.slots t 1)) (hstage0_1 ((cfg0.slots t 1).cast nbuf0_1)) x1 h1
  have hV := read_v (win0_2.stage (cfg0.slots t 2)) (hstage0_2 ((cfg0.slots t 2).cast nbuf0_2)) x2 h2
  have hkm := fun y z => (read_whole (win0_3.stage (cfg0.slots t 3)) (hstage0_3 ((cfg0.slots t 3).cast nbuf0_3)) x3 inb_S16x128_S16x128_0_0 y z).trans (h3 y z)
  have hvm := fun y z => (read_whole (win0_4.stage (cfg0.slots t 4)) (hstage0_4 ((cfg0.slots t 4).cast nbuf0_4)) x4 inb_S128x16_S128x16_0_0 y z).trans (h4 y z)
  have hg := fun y z => read_whole (win0_5.stage (cfg0.slots t 5)) (hstage0_5 ((cfg0.slots t 5).cast nbuf0_5)) x5 inb_S512x1_S512x1_0_0 y z
  have he : normed (fun e => (ratio (bq R b i) (bk R b) (bv R b) R.km R.vm e j : EReal)) (fun e => (View.readAt (Elt Ideal) (win0_5.stage (cfg0.slots t 5)).view rG.toLoadRect ((hstage0_5 ((cfg0.slots t 5).cast nbuf0_5)).unread x5)) (ix2 e 0)) d
      = result R (fun e => x5 (ix2 e 0)) b ⟨512 * i.val + j.val, by omega⟩ d := by
    unfold result
    refine congrArg₂ (fun o g => normed o g d) (funext fun e => ?_) (funext fun e => hg e 0)
    exact congrArg (fun z : ℝ => (z : EReal)) (ratio_eq R b i e j)
  rw [← he]
  unfold stored
  split
  · exact exact_at _ _ _ _ _ _ _ _ _ _ _ _ _ _ _ _ _ _ _ _ _ _ _ _ _ _ _ hq hK hV hkm hvm j d
  · exact fast_at _ _ _ _ _ _ _ _ _ _ _ _ _ _ _ _ _ _ _ _ _ _ _ _ _ _ _ hq hK hV hkm hvm j d

variable (m : (ℓ : Loc nD τ sig) → Buf (Elt Ideal) ℓ)

/-- The block indices of all windows. -/
theorem idx : ∀ t : Fin cfg0.N,
    win0_0.index t = ![t.val / 16, 0, t.val % 16] ∧ win0_1.index t = ![t.val / 16, 0, 0]
    ∧ win0_2.index t = ![t.val / 16, 0, 0, 0] ∧ win0_3.index t = ![0, 0] ∧ win0_4.index t = ![0, 0]
    ∧ win0_5.index t = ![0, 0] ∧ win0_6.index t = ![t.val / 16, t.val % 16, 0] :=
  (by decide +kernel : ∀ t : Fin grid0.N, _)

/-- The body's block of the result is what it stores. -/
theorem out_at (c : Dev nD) (t : Fin cfg0.N) (x0 : Vec Ideal S1x512x512 .bf16) (x1 : Vec Ideal S1x8192x128 .bf16)
    (x2 : Vec Ideal S1x32x128x256 .bf16) (x3 : Vec Ideal S16x128 .bf16) (x4 : Vec Ideal S128x16 .bf16) (x5 : Vec Ideal S512x1 .f32) (j d : Fin 512) :
    outBlk c t x0 x1 x2 x3 x4 x5 (ix3 0 j d) = stored c t x0 x1 x2 x3 x4 x5 (ix3 0 j d) := by
  unfold outBlk
  generalize stored c t x0 x1 x2 x3 x4 x5 = v
  canon_tiles p hp
  idx_vars p
  have h1 : j = p1 := Fin.ext hp1
  have h2 : d = p2 := Fin.ext hp2
  obtain rfl : p0 = 0 := Subsingleton.elim _ _
  rw [h1, h2]

/-- What grid point `t` stores at place `(j, d)` of its block is the result at the array index where the block lies. -/
theorem point {R : Reals} (c : Dev nD) (hR : Holds R (m ((c : Thread nD τ).loc main_arg0)) (m ((c : Thread nD τ).loc main_arg1))
    (m ((c : Thread nD τ).loc main_arg2)) (m ((c : Thread nD τ).loc main_arg3)) (m ((c : Thread nD τ).loc main_arg4)))
    (t : Fin cfg0.N) (j d : Fin 512) :
    outBlk c t (iblk m c 0 t) (iblk m c 1 t) (iblk m c 2 t) (iblk m c 3 t) (iblk m c 4 t) (iblk m c 5 t) (ix3 0 j d)
      = goal R (m ((c : Thread nD τ).loc main_arg5)) (((cfg0.win 6).blk t).view.emb (ix3 0 j d)) := by
  have ht : t.val < 128 := t.isLt
  have h0 : ∀ r j : Fin 512, iblk m c 0 t (ix3 0 r j) = ((bq R ⟨t.val / 16, by omega⟩ ⟨t.val % 16, by omega⟩ r j : ℝ) : EReal) := fun r j =>
    (show iblk m c 0 t (ix3 0 r j) = m ((c : Thread nD τ).loc main_arg0) (ix3 ⟨t.val / 16, by omega⟩ r ⟨512 * (t.val % 16) + j.val, by omega⟩) by
      blk_point [iblk, V, idx t]).trans (hR.q _ _ _)
  have h1 : ∀ (s : Fin 8192) (e : Fin 128), iblk m c 1 t (ix3 0 s e) = ((R.k ⟨t.val / 16, by omega⟩ s e : ℝ) : EReal) := fun s e =>
    (show iblk m c 1 t (ix3 0 s e) = m ((c : Thread nD τ).loc main_arg1) (ix3 ⟨t.val / 16, by omega⟩ s e) by
      blk_point [iblk, V, idx t]).trans (hR.k _ _ _)
  have h2 : ∀ (n : Fin 32) (e : Fin 128) (u : Fin 256), iblk m c 2 t (ix4 0 n e u) = ((R.v ⟨t.val / 16, by omega⟩ n e u : ℝ) : EReal) := fun n e u =>
    (show iblk m c 2 t (ix4 0 n e u) = m ((c : Thread nD τ).loc main_arg2) (ix4 ⟨t.val / 16, by omega⟩ n e u) by
      blk_point [iblk, V, idx t]).trans (hR.v _ _ _ _)
  have h3 : ∀ (u : Fin 16) (e : Fin 128), iblk m c 3 t (ix2 u e) = ((R.km u e : ℝ) : EReal) := fun u e =>
    (show iblk m c 3 t (ix2 u e) = m ((c : Thread nD τ).loc main_arg3) (ix2 u e) by
      blk_point [iblk, V, idx t]).trans (hR.km _ _)
  have h4 : ∀ (e : Fin 128) (u : Fin 16), iblk m c 4 t (ix2 e u) = ((R.vm e u : ℝ) : EReal) := fun e u =>
    (show iblk m c 4 t (ix2 e u) = m ((c : Thread nD τ).loc main_arg4) (ix2 e u) by
      blk_point [iblk, V, idx t]).trans (hR.vm _ _)
  have h5 : ∀ e : Fin 512, iblk m c 5 t (ix2 e 0) = m ((c : Thread nD τ).loc main_arg5) (ix2 e 0) := by
    intro e; blk_point [iblk, V, idx t]
  have e0 : (⟨t.val / 16, by omega⟩ : Fin 8) = (((cfg0.win 6).blk t).view.emb (ix3 0 j d)) 0 := by
    refine Fin.ext ?_
    change t.val / 16 = _
    blk_simp [idx t] <;> omega
  have e1 : (⟨512 * (t.val % 16) + j.val, by omega⟩ : Fin 8192) = (((cfg0.win 6).blk t).view.emb (ix3 0 j d)) 1 := by
    refine Fin.ext ?_
    change 512 * (t.val % 16) + j.val = _
    blk_simp [idx t] <;> omega
  have e2 : d = (((cfg0.win 6).blk t).view.emb (ix3 0 j d)) 2 := by
    refine Fin.ext ?_
    blk_simp [idx t] <;> omega
  refine (out_at c t _ _ _ _ _ _ j d).trans ?_
  refine (stored_at c t _ _ _ _ _ _ h0 h1 h2 h3 h4 j d).trans ?_
  unfold goal
  rw [funext h5]
  exact congr (congr (congrArg (result R fun e => m ((c : Thread nD τ).loc main_arg5) (ix2 e 0)) e0) e1) e2

/-- The result array after the run. -/
theorem final {R : Reals} (c : Dev nD) (hR : Holds R (m ((c : Thread nD τ).loc main_arg0)) (m ((c : Thread nD τ).loc main_arg1))
    (m ((c : Thread nD τ).loc main_arg2)) (m ((c : Thread nD τ).loc main_arg3)) (m ((c : Thread nD τ).loc main_arg4))) :
    (dats m 0 c).arrAt 6 (cfgs 0).N = goal R (m ((c : Thread nD τ).loc main_arg5)) := by
  refine (dats m 0 c).arrAt_eq_of_covers 6 _ (by decide +kernel) fun t _ y => ?_
  blk_simp
  rw [after0_6]
  change S1x512x512.Idx at y
  idx_vars y
  obtain rfl : y0 = 0 := Subsingleton.elim _ _
  exact point m c hR t y1 y2

variable (ρ : Dev nD → PrngReg)

/-- The run, with the result array named and the arguments kept. -/
theorem run : θ_run defs (onTc (τ := τ) (main (F := Ideal))) ⟨m, fun _ => 0, ρ⟩ fun r => ∀ c : Dev nD,
      r.2.mem ((c : Thread nD τ).loc main_v0) = (dats m 0 c).arrAt 6 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.AttnArray

end
-- ==== Proof.AttnFinite.lean ====
/- What the precondition `finite` says: every entry of the first five arguments is a real number. -/
module

public import proofs.«01_k».proof.Pre_finite
public import proofs.«01_k».proof.Proof.AttnReal
public import Idealize.ShloMosaic.Lib.ReduceAll

@[expose] public section

noncomputable section

namespace Cert.AttnFinite

open Idealize.ShloMosaic Idealize.ShloMosaic.TcCoe
open Cert.Pre_finite Cert.AttnWhole

/-- The side conditions of the predicate's operations. -/
instance facts : Cert.Pre_finite.Facts where
  bitsLt_bf16_f32 := by decide
  bcast_S_S8x512x8192 := by decide
  reducesTo_S8x512x8192_S_d0_1_2 := by decide
  h_S_ := by decide
  bcast_S_S8x8192x128 := by decide
  reducesTo_S8x8192x128_S_d0_1_2 := by decide
  bcast_S_S8x32x128x256 := by decide
  reducesTo_S8x32x128x256_S_d0_1_2_3 := by decide
  bcast_S_S16x128 := by decide
  reducesTo_S16x128_S_d0_1 := by decide
  bcast_S_S128x16 := by decide
  reducesTo_S128x16_S_d0_1 := by decide

instance : Subsingleton S_.Idx := ⟨fun a b => funext fun k => Fin.elim0 k⟩

/-- A number whose absolute value is below the largest word is real. -/
theorem real_of_lt (x : EReal) (h : Ideal.cmp .olt (max x (-x)) (Ideal.ofBits .f32 0x7F800000#32) = 1#1) : x = ((x.toReal : ℝ) : EReal) := by
  have hw : Ideal.ofBits .f32 0x7F800000#32 = (⊤ : EReal) := rfl
  rw [hw] at h
  have hlt : max x (-x) < ⊤ := by
    by_contra hn
    simp [Ideal.cmp, hn] at h
  refine (EReal.coe_toReal ?_ ?_).symm
  · rintro rfl
    simp at hlt
  · rintro rfl
    simp at hlt

/-- If all entries of an array are finite by the predicate's test, each is real. -/
theorem real_of_all {s : Shape} {axes : List (Fin s.rank)} (x : FVec Ideal s .bf16) (hl : FTy.bits .bf16 < FTy.bits .f32)
    (hb : S_.BroadcastsInDim s (![] : Fin 0 → Fin s.rank)) (hr : s.ReducesTo axes S_) (hn : 0 < S_.numel) (j : S_.Idx)
    (e : Host.reduce IntOp.andi (cmpf .olt (Host.absf (extf .f32 x hl)) (broadcastInDim s ![] hb (constant (F := Ideal) S_ .f32 0x7F800000#32))) (constantI S_ 1 1#1) hr hn j = 1#1)
    (i : s.Idx) : x i = (((x i).toReal : ℝ) : EReal) :=
  real_of_lt (x i) (Host.reduce_andi_all _ _ hr hn j e i)

/-- Under the precondition the arguments hold real numbers. -/
theorem holds (a0 : FVec Ideal S8x512x8192 .bf16) (a1 : FVec Ideal S8x8192x128 .bf16) (a2 : FVec Ideal S8x32x128x256 .bf16)
    (a3 : FVec Ideal S16x128 .bf16) (a4 : FVec Ideal S128x16 .bf16) (a5 : FVec Ideal S512x1 .f32)
    (h : Cert.Pre_finite.fn (F := Ideal) a0 a1 a2 a3 a4 a5 = fun _ => 1#1) : ∃ R : Reals, Holds R a0 a1 a2 a3 a4 := by
  have h := congrFun h (Shape.Idx.first (s := S_) (by decide))
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨⟨fun b r s => (a0 (ix3 b r s)).toReal, fun b s e => (a1 (ix3 b s e)).toReal, fun b n e t => (a2 (ix4 b n e t)).toReal,
      fun t e => (a3 (ix2 t e)).toReal, fun e t => (a4 (ix2 e t)).toReal⟩,
    ⟨fun b r s => real_of_all a0 _ _ _ _ _ h0 _, fun b s e => real_of_all a1 _ _ _ _ _ h1 _,
      fun b n e t => real_of_all a2 _ _ _ _ _ h2 _, fun t e => real_of_all a3 _ _ _ _ _ h3 _,
      fun e t => real_of_all a4 _ _ _ _ _ h4 _⟩⟩

end Cert.AttnFinite

end
-- ==== Proof.AttnRefNorm.lean ====
/- The norm at the end of the `attention` reference, read at an entry. -/
module

public import proofs.«01_k».proof.Proof.Gen.AttnRefIdeal.Run
public import Idealize.ShloMosaic.Lib.Tactic.CleanTypes
public import Idealize.ShloMosaic.Lib.IdealHost
public import Idealize.ShloMosaic.Lib.Pointwise

@[expose] public section

set_option maxRecDepth 16384

noncomputable section

open Idealize.ShloMosaic Idealize.ShloMosaic.TcCoe Idealize.SL.Sem
open Cert.AttnRefIdeal Cert.AttnRefIdeal.Gen Cert.AttnRefIdeal.Value Cert.AttnRefIdeal.Facts

namespace Cert.AttnReference

variable {a0 : FVec Ideal S8x512x8192 .bf16} {a1 : FVec Ideal S8x8192x128 .bf16} {a2 : FVec Ideal S8x32x128x256 .bf16} {a3 : FVec Ideal S16x128 .bf16} {a4 : FVec Ideal S128x16 .bf16} {a5 : FVec Ideal S512x1 .f32}

/-- The gain, read at an entry. -/
theorem gain_at (b : Fin 8) (s : Fin 8192) (d : Fin 512) :
    broadcastInDim S8x8192x512 ![0, 1, 2] bcast_S1x1x512_S8x8192x512_0_1_2 (broadcastInDim S1x1x512 ![2] bcast_S512_S1x1x512_2 (shapeCast S512 a5 shapeCasts_S512x1_S512)) (ix3 b s d) = a5 (ix2 d 0) := by
  pointwise

/-- The sum of squares of a query's entries. -/
theorem squares_at (o : FVec Ideal S8x8192x512 .f32) (b : Fin 8) (s : Fin 8192) :
    Host.reduceAdd (mulf o o) (constant S_ .f32 0x00000000#32) reducesTo_S8x8192x512_S8x8192_d2 h_S_ (ix2 b s) = ∑ e : Fin 512, o (ix3 b s e) * o (ix3 b s e) := by
  pointwise

/-- The scale of a query's entries, from their sum of squares. -/
theorem scale_at (q : FVec Ideal S8x8192 .f32) (b : Fin 8) (s : Fin 8192) (d : Fin 512) :
    broadcastInDim S8x8192x512 ![0, 1, 2] bcast_S8x8192x1_S8x8192x512_0_1_2 (Host.rsqrt (addf (Host.divf (broadcastInDim S8x8192x1 ![0, 1] bcast_S8x8192_S8x8192x1_0_1 q) (broadcastInDim S8x8192x1 ![] bcast_S_S8x8192x1 (constant S_ .f32 0x44000000#32))) (broadcastInDim S8x8192x1 ![] bcast_S_S8x8192x1 (constant S_ .f32 0x358637BD#32)))) (ix3 b s d)
      = Ideal.rsqrt (Ideal.div (q (ix2 b s)) (Ideal.ofBits .f32 0x44000000#32) + Ideal.ofBits .f32 0x358637BD#32) := by
  pointwise

/-- A product of three arrays, read at an entry. -/
theorem product_at (o p g : FVec Ideal S8x8192x512 .f32) (y : S8x8192x512.Idx) :
    truncf .bf16 (mulf (mulf o p) g) bitsLt_bf16_f32 y = o y * p y * g y := rfl

/-- The norm, read at an entry. -/
theorem norm_at (o : FVec Ideal S8x8192x512 .f32) (a5 : FVec Ideal S512x1 .f32) (b : Fin 8) (s : Fin 8192) (d : Fin 512) :
    (truncf .bf16 (mulf (mulf o (broadcastInDim S8x8192x512 ![0, 1, 2] bcast_S8x8192x1_S8x8192x512_0_1_2 (Host.rsqrt (addf (Host.divf (broadcastInDim S8x8192x1 ![0, 1] bcast_S8x8192_S8x8192x1_0_1 (Host.reduceAdd (mulf o o) (constant S_ .f32 0x00000000#32) reducesTo_S8x8192x512_S8x8192_d2 h_S_)) (broadcastInDim S8x8192x1 ![] bcast_S_S8x8192x1 (constant S_ .f32 0x44000000#32))) (broadcastInDim S8x8192x1 ![] bcast_S_S8x8192x1 (constant S_ .f32 0x358637BD#32)))))) (broadcastInDim S8x8192x512 ![0, 1, 2] bcast_S1x1x512_S8x8192x512_0_1_2 (broadcastInDim S1x1x512 ![2] bcast_S512_S1x1x512_2 (shapeCast S512 a5 shapeCasts_S512x1_S512)))) bitsLt_bf16_f32) (ix3 b s d)
      = o (ix3 b s d) * Ideal.rsqrt (Ideal.div (∑ e : Fin 512, o (ix3 b s e) * o (ix3 b s e)) (Ideal.ofBits .f32 0x44000000#32) + Ideal.ofBits .f32 0x358637BD#32) * a5 (ix2 d 0) := by
  rw [product_at, scale_at, gain_at, squares_at]

end Cert.AttnReference

end
-- ==== Proof.AttnReference.lean ====
/- The `attention` reference, read at an entry: keys, values, weights, means, and the norm over them. -/
module

public import proofs.«01_k».proof.Proof.Gen.AttnRefIdeal.Run
public import proofs.«01_k».proof.Proof.AttnRefNorm
public import Idealize.ShloMosaic.Lib.Tactic.CleanTypes
public import Idealize.ShloMosaic.Lib.IdealHost
public import Idealize.ShloMosaic.Lib.Pointwise

@[expose] public section

set_option maxRecDepth 16384

noncomputable section

open Idealize.ShloMosaic Idealize.ShloMosaic.TcCoe Idealize.SL.Sem
open Cert.AttnRefIdeal Cert.AttnRefIdeal.Gen Cert.AttnRefIdeal.Value Cert.AttnRefIdeal.Facts

namespace Cert.AttnReference

variable {a0 : FVec Ideal S8x512x8192 .bf16} {a1 : FVec Ideal S8x8192x128 .bf16} {a2 : FVec Ideal S8x32x128x256 .bf16} {a3 : FVec Ideal S16x128 .bf16} {a4 : FVec Ideal S128x16 .bf16} {a5 : FVec Ideal S512x1 .f32}

/-- All keys, the meta keys first. -/
def keys (a3 : FVec Ideal S16x128 .bf16) (a1 : FVec Ideal S8x8192x128 .bf16) : FVec Ideal S8x8208x2x64 .f32 :=
  (shapeCast S8x8208x2x64 (concatenate S8x8208x128 1 [⟨S8x16x128, (broadcastInDim S8x16x128 ![0, 1, 2] bcast_S1x16x128_S8x16x128_0_1_2 (broadcastInDim S1x16x128 ![1, 2] bcast_S16x128_S1x16x128_1_2 (extf .f32 a3 bitsLt_bf16_f32)))⟩, ⟨S8x8192x128, (extf .f32 a1 bitsLt_bf16_f32)⟩] concatenates_S8x16x128_S8x8192x128_S8x8208x128_d1) shapeCasts_S8x8208x128_S8x8208x2x64)

/-- All values, the meta values first. -/
def values (a4 : FVec Ideal S128x16 .bf16) (a2 : FVec Ideal S8x32x128x256 .bf16) : FVec Ideal S8x8208x2x64 .f32 :=
  (shapeCast S8x8208x2x64 (concatenate S8x8208x128 1 [⟨S8x16x128, (broadcastInDim S8x16x128 ![0, 1, 2] bcast_S1x16x128_S8x16x128_0_1_2 (broadcastInDim S1x16x128 ![1, 2] bcast_S16x128_S1x16x128_1_2 (transpose S16x128 [1, 0] (extf .f32 a4 bitsLt_bf16_f32) transposes_S128x16_S16x128_1_0)))⟩, ⟨S8x8192x128, (shapeCast S8x8192x128 (transpose S8x32x256x128 [0, 1, 3, 2] (extf .f32 a2 bitsLt_bf16_f32) transposes_S8x32x128x256_S8x32x256x128_0_1_3_2) shapeCasts_S8x32x256x128_S8x8192x128)⟩] concatenates_S8x16x128_S8x8192x128_S8x8208x128_d1) shapeCasts_S8x8208x128_S8x8208x2x64)

/-- The weights. -/
def weights (a0 : FVec Ideal S8x512x8192 .bf16) (a3 : FVec Ideal S16x128 .bf16) (a1 : FVec Ideal S8x8192x128 .bf16) : FVec Ideal S8x2x4x8192x8208 .f32 :=
  (Host.powf (broadcastInDim S8x2x4x8192x8208 ![] bcast_S_S8x2x4x8192x8208 (constant S_ .f32 0x40000000#32)) (Host.dotGeneral dot_S8x2x4x64x8192_S8x8208x2x64_S8x2x4x8192x8208_3_3_24_1_01_02 none (shapeCast S8x2x4x64x8192 (extf .f32 a0 bitsLt_bf16_f32) shapeCasts_S8x512x8192_S8x2x4x64x8192) (keys a3 a1)))

/-- The weighted means. -/
def means (a0 : FVec Ideal S8x512x8192 .bf16) (a3 : FVec Ideal S16x128 .bf16) (a1 : FVec Ideal S8x8192x128 .bf16) (a4 : FVec Ideal S128x16 .bf16) (a2 : FVec Ideal S8x32x128x256 .bf16) : FVec Ideal S8x8192x512 .f32 :=
  (shapeCast S8x8192x512 (transpose S8x8192x2x4x64 [0, 3, 1, 2, 4] (Host.divf (Host.dotGeneral dot_S8x2x4x8192x8208_S8x8208x2x64_S8x2x4x8192x64_4_1_23_3_01_02 none (weights a0 a3 a1) (values a4 a2)) (broadcastInDim S8x2x4x8192x64 ![0, 1, 2, 3, 4] bcast_S8x2x4x8192x1_S8x2x4x8192x64_0_1_2_3_4 (broadcastInDim S8x2x4x8192x1 ![0, 1, 2, 3] bcast_S8x2x4x8192_S8x2x4x8192x1_0_1_2_3 (Host.reduceAdd (weights a0 a3 a1) (constant S_ .f32 0x00000000#32) reducesTo_S8x2x4x8192x8208_S8x2x4x8192_d4 h_S_)))) transposes_S8x2x4x8192x64_S8x8192x2x4x64_0_3_1_2_4) shapeCasts_S8x8192x2x4x64_S8x8192x512)

/-- The result. -/
def whole (a0 : FVec Ideal S8x512x8192 .bf16) (a1 : FVec Ideal S8x8192x128 .bf16) (a2 : FVec Ideal S8x32x128x256 .bf16) (a3 : FVec Ideal S16x128 .bf16) (a4 : FVec Ideal S128x16 .bf16) (a5 : FVec Ideal S512x1 .f32) : FVec Ideal S8x8192x512 .bf16 :=
  truncf .bf16 (mulf (mulf (means a0 a3 a1 a4 a2) (broadcastInDim S8x8192x512 ![0, 1, 2] bcast_S8x8192x1_S8x8192x512_0_1_2 (Host.rsqrt (addf (Host.divf (broadcastInDim S8x8192x1 ![0, 1] bcast_S8x8192_S8x8192x1_0_1 (Host.reduceAdd (mulf (means a0 a3 a1 a4 a2) (means a0 a3 a1 a4 a2)) (constant S_ .f32 0x00000000#32) reducesTo_S8x8192x512_S8x8192_d2 h_S_)) (broadcastInDim S8x8192x1 ![] bcast_S_S8x8192x1 (constant S_ .f32 0x44000000#32))) (broadcastInDim S8x8192x1 ![] bcast_S_S8x8192x1 (constant S_ .f32 0x358637BD#32)))))) (broadcastInDim S8x8192x512 ![0, 1, 2] bcast_S1x1x512_S8x8192x512_0_1_2 (broadcastInDim S1x1x512 ![2] bcast_S512_S1x1x512_2 (shapeCast S512 a5 shapeCasts_S512x1_S512)))) bitsLt_bf16_f32

/-- The reference's result is `whole` of its arguments. -/
theorem result_eq (m : (ℓ : Loc nD τ sig) → Buf (Elt Ideal) ℓ) (c : Dev nD) :
    res_main_v41 m c = whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := rfl

theorem keys_at (b : Fin 8) (p : Fin 8208) (g : Fin 2) (e : Fin 64) :
    keys a3 a1 (ix4 b p g e) = if h : p.val < 16 then a3 (ix2 ⟨p.val, h⟩ ⟨g.val * 64 + e.val, by omega⟩) else a1 (ix3 b ⟨p.val - 16, by omega⟩ ⟨g.val * 64 + e.val, by omega⟩) := by
  pointwise [keys]

theorem values_at (b : Fin 8) (p : Fin 8208) (g : Fin 2) (e : Fin 64) :
    values a4 a2 (ix4 b p g e) = if h : p.val < 16 then a4 (ix2 ⟨g.val * 64 + e.val, by omega⟩ ⟨p.val, h⟩)
      else a2 (ix4 b ⟨(p.val - 16) / 256, by omega⟩ ⟨g.val * 64 + e.val, by omega⟩ ⟨(p.val - 16) % 256, by omega⟩) := by
  pointwise [values]

theorem weights_at (b : Fin 8) (g : Fin 2) (j : Fin 4) (s : Fin 8192) (p : Fin 8208) :
    weights a0 a3 a1 (ix5 b g j s p) = Ideal.pow (Ideal.ofBits .f32 0x40000000#32) (∑ e : Fin 64, a0 (ix3 b ⟨g.val * 256 + j.val * 64 + e.val, by omega⟩ s) * keys a3 a1 (ix4 b p g e)) := by
  unfold weights
  generalize keys a3 a1 = k
  pointwise

theorem means_at (b : Fin 8) (s : Fin 8192) (d : Fin 512) :
    means a0 a3 a1 a4 a2 (ix3 b s d) = Ideal.div (∑ p : Fin 8208, weights a0 a3 a1 (ix5 b ⟨d.val / 256, by omega⟩ ⟨d.val / 64 % 4, by omega⟩ s p) * values a4 a2 (ix4 b p ⟨d.val / 256, by omega⟩ ⟨d.val % 64, by omega⟩))
      (∑ p : Fin 8208, weights a0 a3 a1 (ix5 b ⟨d.val / 256, by omega⟩ ⟨d.val / 64 % 4, by omega⟩ s p)) := by
  unfold means
  generalize weights a0 a3 a1 = w
  generalize values a4 a2 = v
  pointwise

/-- The reference's result, read at an entry. -/
theorem whole_at (b : Fin 8) (s : Fin 8192) (d : Fin 512) :
    whole a0 a1 a2 a3 a4 a5 (ix3 b s d)
      = means a0 a3 a1 a4 a2 (ix3 b s d) * Ideal.rsqrt (Ideal.div (∑ e : Fin 512, means a0 a3 a1 a4 a2 (ix3 b s e) * means a0 a3 a1 a4 a2 (ix3 b s e)) (Ideal.ofBits .f32 0x44000000#32) + Ideal.ofBits .f32 0x358637BD#32)
        * a5 (ix2 d 0) := by
  unfold whole
  exact norm_at (means a0 a3 a1 a4 a2) a5 b s d

end Cert.AttnReference

end
-- ==== Proof.AttnRefReal.lean ====
/- The `attention` reference on arguments that hold real numbers: its keys, values, weights and means are the real ones, and
   its result is `Cert.AttnWhole.goal`. -/
module

public import proofs.«01_k».proof.Proof.AttnReal
public import proofs.«01_k».proof.Proof.AttnReference

@[expose] public section

set_option maxRecDepth 16384

noncomputable section

open Idealize.ShloMosaic Idealize.ShloMosaic.TcCoe Idealize.SL.Sem
open Cert.AttnRefIdeal Cert.AttnRefIdeal.Gen Cert.AttnRefIdeal.Value Cert.AttnWhole
open Cert.AttnIdeal.Step (coe_sum)
open Cert.AttnIdeal.Final (normed)

namespace Cert.AttnReference

variable {a0 : FVec Ideal S8x512x8192 .bf16} {a1 : FVec Ideal S8x8192x128 .bf16} {a2 : FVec Ideal S8x32x128x256 .bf16} {a3 : FVec Ideal S16x128 .bf16} {a4 : FVec Ideal S128x16 .bf16} {a5 : FVec Ideal S512x1 .f32}

/-- The base of the powers. -/
theorem two_word : Ideal.ofBits .f32 0x40000000#32 = ((2 : ℝ) : EReal) := by
  simp [Ideal.ofBits, Ideal.ieee, -EReal.coe_mul]; norm_num

section
variable {R : Reals} (H : Holds R a0 a1 a2 a3 a4)
include H

theorem keys_real (b : Fin 8) (p : Fin 8208) (g : Fin 2) (e : Fin 64) :
    keys a3 a1 (ix4 b p g e) = ((key R b p.val ⟨64 * g.val + e.val, by omega⟩ : ℝ) : EReal) := by
  have he : (⟨g.val * 64 + e.val, by omega⟩ : Fin 128) = ⟨64 * g.val + e.val, by omega⟩ := Fin.ext (by show g.val * 64 + e.val = 64 * g.val + e.val; omega)
  rw [keys_at, he]
  unfold key
  by_cases h : p.val < 16
  · rw [dif_pos h, dif_pos h]
    exact H.km _ _
  · rw [dif_neg h, dif_neg h, dif_pos (by omega)]
    exact H.k _ _ _

theorem values_real (b : Fin 8) (p : Fin 8208) (g : Fin 2) (e : Fin 64) :
    values a4 a2 (ix4 b p g e) = ((val R b p.val ⟨64 * g.val + e.val, by omega⟩ : ℝ) : EReal) := by
  have he : (⟨g.val * 64 + e.val, by omega⟩ : Fin 128) = ⟨64 * g.val + e.val, by omega⟩ := Fin.ext (by show g.val * 64 + e.val = 64 * g.val + e.val; omega)
  rw [values_at, he]
  unfold val
  by_cases h : p.val < 16
  · rw [dif_pos h, dif_pos h]
    exact H.vm _ _
  · rw [dif_neg h, dif_neg h, dif_pos (by omega)]
    exact H.v _ _ _ _

theorem weights_real (b : Fin 8) (g : Fin 2) (j : Fin 4) (s : Fin 8192) (p : Fin 8208) :
    weights a0 a3 a1 (ix5 b g j s p) = ((weight R b s ⟨4 * g.val + j.val, by omega⟩ p.val : ℝ) : EReal) := by
  have hs : ∑ e : Fin 64, a0 (ix3 b ⟨g.val * 256 + j.val * 64 + e.val, by omega⟩ s) * keys a3 a1 (ix4 b p g e)
      = ((∑ e : Fin 64, R.q b ⟨64 * (4 * g.val + j.val) + e.val, by omega⟩ s * key R b p.val ⟨64 * ((4 * g.val + j.val) / 4) + e.val, by omega⟩ : ℝ) : EReal) := by
    rw [coe_sum]
    refine Finset.sum_congr rfl fun e _ => ?_
    have h1 : (⟨g.val * 256 + j.val * 64 + e.val, by omega⟩ : Fin 512) = ⟨64 * (4 * g.val + j.val) + e.val, by omega⟩ :=
      Fin.ext (by show g.val * 256 + j.val * 64 + e.val = 64 * (4 * g.val + j.val) + e.val; omega)
    have h2 : (⟨64 * g.val + e.val, by omega⟩ : Fin 128) = ⟨64 * ((4 * g.val + j.val) / 4) + e.val, by omega⟩ :=
      Fin.ext (by show 64 * g.val + e.val = 64 * ((4 * g.val + j.val) / 4) + e.val; omega)
    rw [keys_real H, h1, h2, EReal.coe_mul]
    exact congrArg (· * _) (H.q _ _ _)
  rw [weights_at, hs, two_word]
  exact Ideal.pow_coe_coe _ _

theorem means_real (b : Fin 8) (s : Fin 8192) (d : Fin 512) :
    means a0 a3 a1 a4 a2 (ix3 b s d) = ((mean R b s ⟨d.val / 64, by omega⟩ ⟨d.val % 64, by omega⟩ : ℝ) : EReal) := by
  have hh : (⟨4 * (d.val / 256) + d.val / 64 % 4, by omega⟩ : Fin 8) = ⟨d.val / 64, by omega⟩ :=
    Fin.ext (by show 4 * (d.val / 256) + d.val / 64 % 4 = d.val / 64; omega)
  have hg : (⟨64 * (d.val / 256) + d.val % 64, by omega⟩ : Fin 128) = ⟨64 * (d.val / 64 / 4) + d.val % 64, by omega⟩ :=
    Fin.ext (by show 64 * (d.val / 256) + d.val % 64 = 64 * (d.val / 64 / 4) + d.val % 64; omega)
  have hw : ∀ p : Fin 8208, weights a0 a3 a1 (ix5 b ⟨d.val / 256, by omega⟩ ⟨d.val / 64 % 4, by omega⟩ s p) = ((weight R b s ⟨d.val / 64, by omega⟩ p.val : ℝ) : EReal) := fun p =>
    (weights_real H b _ _ s p).trans (congrArg (fun z => ((weight R b s z p.val : ℝ) : EReal)) hh)
  have hv : ∀ p : Fin 8208, values a4 a2 (ix4 b p ⟨d.val / 256, by omega⟩ ⟨d.val % 64, by omega⟩) = ((val R b p.val ⟨64 * (d.val / 64 / 4) + d.val % 64, by omega⟩ : ℝ) : EReal) := fun p =>
    (values_real H b p _ _).trans (congrArg (fun z => ((val R b p.val z : ℝ) : EReal)) hg)
  have hpos : (∑ p : Fin 8208, weight R b s ⟨d.val / 64, by omega⟩ p.val : ℝ) ≠ 0 :=
    (Finset.sum_pos (fun p _ => Real.rpow_pos_of_pos two_pos _) ⟨⟨0, by omega⟩, Finset.mem_univ _⟩).ne'
  rw [means_at]
  simp only [hw, hv, ← EReal.coe_mul]
  rw [← coe_sum, ← coe_sum, Ideal.div_coe hpos, ← EReal.coe_mul, mul_one_div]
  rfl

/-- The reference's result. -/
theorem whole_real : whole a0 a1 a2 a3 a4 a5 = goal R a5 := by
  funext i
  idx_vars i
  refine (whole_at _ _ _).trans ?_
  simp only [means_real H]
  rfl

end

variable (m : (ℓ : Loc nD τ sig) → Buf (Elt Ideal) ℓ) (ρ : Dev nD → PrngReg)

/-- The reference's run, with its result named and the arguments kept. -/
theorem run : θ_run defs (onTc (τ := τ) (main (F := Ideal))) ⟨m, fun _ => 0, ρ⟩ fun r => ∀ c : Dev nD,
      r.2.mem ((c.tc : Thread nD τ).loc main_v41)
        = whole (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (result_eq m c), (h c).2⟩) (Value.run m ρ)

end Cert.AttnReference

end
-- ==== Proof.AttnClaims.lean ====
/- The claims about the `attention` call: the frames, and that the kernel and the reference end at the same array when the
   arguments are finite. -/
module

public import proofs.«01_k».proof.Defs
public import proofs.«01_k».proof.Proof.AttnFrame
public import proofs.«01_k».proof.Proof.AttnArray
public import proofs.«01_k».proof.Proof.AttnFinite
public import proofs.«01_k».proof.Proof.AttnRefReal
public import Idealize.ShloMosaic.Lib.Quiescent

@[expose] public section

set_option maxRecDepth 16384

noncomputable section

open Idealize.ShloMosaic Idealize.ShloMosaic.TcCoe Idealize.SL.Sem

namespace Cert.AttnClaims

/-- The kernel runs to its end, keeps its arguments and leaves every counter at zero. -/
theorem quiet : Cert.quiescent_Attn := fun m ρ _ => Cert.Attn.Body.frame m ρ

/-- So does its reading over the extended reals, -/
theorem quiet_ideal : Cert.quiescent_AttnIdeal := fun m ρ _ => Cert.AttnIdeal.Body.frame m ρ

/-- on finite arguments in particular. -/
theorem quiet_ideal_finite : Cert.quiescent_AttnIdeal_pre_finite := fun m ρ _ => Cert.AttnIdeal.Body.frame m ρ

/-- So does the reference, -/
theorem quiet_reference : Cert.quiescent_AttnRefIdeal := fun m ρ _ =>
  (θ_run Cert.AttnRefIdeal.defs _ _).mono
    (fun r h => ⟨fun c => (h c).2, sem_eq_zero_of_no_sems (by decide) r.2⟩) (Cert.AttnReference.run m ρ)

/-- on finite arguments in particular. -/
theorem quiet_reference_finite : Cert.quiescent_AttnRefIdeal_pre_finite := fun m ρ _ =>
  (θ_run Cert.AttnRefIdeal.defs _ _).mono
    (fun r h => ⟨fun c => (h c).2, sem_eq_zero_of_no_sems (by decide) r.2⟩) (Cert.AttnReference.run m ρ)

/-- Over the extended reals the kernel and the reference end at equal arrays, from equal finite arguments. -/
theorem algebraic : Cert.algebraic_AttnIdeal_AttnRefIdeal_pre_finite := by
  intro m ρ m' ρ' hpre hagree
  have hR : ∀ c : Dev Cert.AttnIdeal.nD, _ := fun c => Cert.AttnFinite.holds _ _ _ _ _ _ (hpre c)
  choose R hR using hR
  refine ⟨fun c => Cert.AttnWhole.goal (R c) (m ((c.tc : Thread Cert.AttnIdeal.nD Cert.AttnIdeal.τ).loc Cert.AttnIdeal.main_arg5)), ?_, ?_⟩
  · exact (θ_run Cert.AttnIdeal.defs _ _).mono (fun _ h c => ⟨(h c).1.trans (Cert.AttnArray.final m c (hR c)), (h c).2⟩)
      (Cert.AttnArray.run m ρ)
  · refine (θ_run Cert.AttnRefIdeal.defs _ _).mono (fun _ h c => ⟨(h c).1.trans ?_, (h c).2⟩)
      (Cert.AttnReference.run m' ρ')
    obtain ⟨h0, h1, h2, h3, h4, h5⟩ := hagree c
    rw [h0, h1, h2, h3, h4, h5]
    exact Cert.AttnReference.whole_real (hR c)

end Cert.AttnClaims

end
-- ==== Proof.lean ====
/- The proof of the claims about the `post`, `inproj` and `attention` calls of the layer: see Proof/PostClaims.lean (prompt
   batch), Proof/SampleClaims.lean (`post` at the sample batch), Proof/InprojClaims.lean and Proof/AttnClaims.lean. -/
module

public import proofs.«01_k».proof.Defs
public import proofs.«01_k».proof.Proof.PostClaims
public import proofs.«01_k».proof.Proof.InprojClaims
public import proofs.«01_k».proof.Proof.SampleClaims
public import proofs.«01_k».proof.Proof.AttnClaims

@[expose] public section

noncomputable section

namespace Cert.Proof

/-- The claims of the statement. -/
theorem claim : Cert.Claim :=
  ⟨Cert.Post.Gen.facts, Cert.PostIdeal.Gen.facts, Cert.PostRefIdeal.Gen.facts,
    Cert.Inproj.Gen.facts, Cert.InprojIdeal.Gen.facts, Cert.InprojRefIdeal.Gen.facts,
    Cert.Sample.Gen.facts, Cert.SampleIdeal.Gen.facts, Cert.SampleRefIdeal.Gen.facts,
    Cert.Attn.Gen.facts, Cert.AttnIdeal.Gen.facts, Cert.AttnRefIdeal.Gen.facts, Cert.AttnFinite.facts,
    Cert.PostClaims.quiet, Cert.PostClaims.quiet_ideal, Cert.PostClaims.quiet_reference,
    Cert.InprojClaims.quiet, Cert.InprojClaims.quiet_ideal, Cert.InprojClaims.quiet_reference,
    Cert.SampleClaims.quiet, Cert.SampleClaims.quiet_ideal, Cert.SampleClaims.quiet_reference,
    Cert.AttnClaims.quiet, Cert.AttnClaims.quiet_ideal, Cert.AttnClaims.quiet_ideal_finite,
    Cert.AttnClaims.quiet_reference, Cert.AttnClaims.quiet_reference_finite,
    trivial, Cert.PostClaims.algebraic, trivial, Cert.InprojClaims.algebraic,
    trivial, Cert.SampleClaims.algebraic,
    trivial, Cert.AttnClaims.algebraic⟩

end Cert.Proof

end
